-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S256x512 : Shape := ⟨2, ![256, 512]⟩
abbrev S2x128 : Shape := ⟨2, ![2, 128]⟩
abbrev S128x3072 : Shape := ⟨2, ![128, 3072]⟩
abbrev S512x512 : Shape := ⟨2, ![512, 512]⟩
abbrev S4x128x512 : Shape := ⟨3, ![4, 128, 512]⟩
abbrev S3x128x512 : Shape := ⟨3, ![3, 128, 512]⟩
abbrev S9 : Shape := ⟨1, ![9]⟩
abbrev S24 : Shape := ⟨1, ![24]⟩
abbrev S1 : Shape := ⟨1, ![1]⟩
abbrev S_ : Shape := ⟨0, ![]⟩
abbrev S1x256x512 : Shape := ⟨3, ![1, 256, 512]⟩
abbrev S256 : Shape := ⟨1, ![256]⟩
abbrev S256x1 : Shape := ⟨2, ![256, 1]⟩
abbrev S1x128 : Shape := ⟨2, ![1, 128]⟩
abbrev S1x3072 : Shape := ⟨2, ![1, 3072]⟩
abbrev S1x512 : Shape := ⟨2, ![1, 512]⟩
abbrev S256x256 : Shape := ⟨2, ![256, 256]⟩
abbrev S256x64 : Shape := ⟨2, ![256, 64]⟩
abbrev S128x512 : Shape := ⟨2, ![128, 512]⟩
abbrev S1x128x512 : Shape := ⟨3, ![1, 128, 512]⟩
abbrev S128 : Shape := ⟨1, ![128]⟩
abbrev S128x1 : Shape := ⟨2, ![128, 1]⟩
abbrev S1x128x256 : Shape := ⟨3, ![1, 128, 256]⟩
abbrev S128x256 : Shape := ⟨2, ![128, 256]⟩
abbrev S1x256 : Shape := ⟨2, ![1, 256]⟩

abbrev nBuf : Space → Nat
  | .hbm => 10
  | .vmem => 16
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S2x128, .f32⟩
  | .hbm, ⟨6, _⟩ => ⟨S128x3072, .f32⟩
  | .hbm, ⟨7, _⟩ => ⟨S512x512, .f32⟩
  | .hbm, ⟨8, _⟩ => ⟨S512x512, .f32⟩
  | .hbm, ⟨9, _⟩ => ⟨S2x256x512, .f32⟩
  | .local _ .vmem, ⟨0, _⟩ => ⟨S2x256x512, .f32⟩
  | .local _ .vmem, ⟨1, _⟩ => ⟨S2x256x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S256x512, .f32⟩
  | .local _ .vmem, ⟨6, _⟩ => ⟨S2x128, .f32⟩
  | .local _ .vmem, ⟨7, _⟩ => ⟨S128x3072, .f32⟩
  | .local _ .vmem, ⟨8, _⟩ => ⟨S512x512, .f32⟩
  | .local _ .vmem, ⟨9, _⟩ => ⟨S512x512, .f32⟩
  | .local _ .vmem, ⟨10, _⟩ => ⟨S4x128x512, .bf16⟩
  | .local _ .vmem, ⟨11, _⟩ => ⟨S3x128x512, .bf16⟩
  | .local _ .vmem, ⟨12, _⟩ => ⟨S4x128x512, .bf16⟩
  | .local _ .vmem, ⟨13, _⟩ => ⟨S4x128x512, .bf16⟩
  | .local _ .vmem, ⟨14, _⟩ => ⟨S3x128x512, .bf16⟩
  | .local _ .vmem, ⟨15, _⟩ => ⟨S4x128x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v22 : BitVec 32 := Scalar.addi v2 c1_i32_2
  let c4_i32_3 : BitVec 32 := 4#32
  let v23 : BitVec 32 := Scalar.remsi v22 c4_i32_3
  let c1_i32_5 : BitVec 32 := 1#32
  let v24 : BitVec 32 := Scalar.muli v23 c1_i32_5
  let v25 : BitVec 32 := Scalar.addi c0_i32_6 v24
  v25.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_7 : BitVec 32 := 2#32
  let v26 : BitVec 32 := Scalar.addi v2 c2_i32_7
  let c4_i32_8 : BitVec 32 := 4#32
  let v27 : BitVec 32 := Scalar.remsi v26 c4_i32_8
  let c1_i32_10 : BitVec 32 := 1#32
  let v28 : BitVec 32 := Scalar.muli v27 c1_i32_10
  let v29 : BitVec 32 := Scalar.addi c0_i32_11 v28
  v29.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_12 : BitVec 32 := 3#32
  let v30 : BitVec 32 := Scalar.addi v2 c3_i32_12
  let c4_i32_13 : BitVec 32 := 4#32
  let v31 : BitVec 32 := Scalar.remsi v30 c4_i32_13
  let c1_i32_15 : BitVec 32 := 1#32
  let v32 : BitVec 32 := Scalar.muli v31 c1_i32_15
  let v33 : BitVec 32 := Scalar.addi c0_i32_16 v32
  v33.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_89 : BitVec 32 := 0#32
  let v212 : BitVec 1 := Scalar.cmpi .ne v2 c0_i32_89
  let v213 : BitVec 32 := Scalar.extui v212
  let c0_i32_91 : BitVec 32 := 0#32
  let v214 : BitVec 1 := Scalar.cmpi .ne v213 c0_i32_91
  v214

def k0_off1 (d0 : Dev nD) : Fin 1 → Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v207 : BitVec 32 := Scalar.subi c0_i32_84 v2
  let c4_i32_85 : BitVec 32 := 4#32
  let v208 : BitVec 32 := Scalar.addi v207 c4_i32_85
  let c4_i32_86 : BitVec 32 := 4#32
  let v209 : BitVec 32 := Scalar.remsi v208 c4_i32_86
  let c1_i32_87 : BitVec 32 := 1#32
  let v210 : BitVec 32 := Scalar.subi v209 c1_i32_87
  let c0_i32_88 : BitVec 32 := 0#32
  let v211 : BitVec 32 := Scalar.maxsi v210 c0_i32_88
  ![v211.toNat]
def k0_off2 (d0 : Dev nD) : Fin 3 → Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v207 : BitVec 32 := Scalar.subi c0_i32_84 v2
  let c4_i32_85 : BitVec 32 := 4#32
  let v208 : BitVec 32 := Scalar.addi v207 c4_i32_85
  let c4_i32_86 : BitVec 32 := 4#32
  let v209 : BitVec 32 := Scalar.remsi v208 c4_i32_86
  let c1_i32_87 : BitVec 32 := 1#32
  let v210 : BitVec 32 := Scalar.subi v209 c1_i32_87
  let c0_i32_88 : BitVec 32 := 0#32
  let v211 : BitVec 32 := Scalar.maxsi v210 c0_i32_88
  let c0_i32_737 : BitVec 32 := 0#32
  let c0_i32_738 : BitVec 32 := 0#32
  ![v211.toNat, 0, 0]
def k0_dev4 : Nat :=
  let c0_i32_736 : BitVec 32 := 0#32
  let c0_i32_734 : BitVec 32 := 0#32
  let c1_i32_735 : BitVec 32 := 1#32
  let v1166 : BitVec 32 := Scalar.muli c0_i32_734 c1_i32_735
  let v1167 : BitVec 32 := Scalar.addi c0_i32_736 v1166
  v1167.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_100 : BitVec 32 := 1#32
  let v225 : BitVec 1 := Scalar.cmpi .ne v2 c1_i32_100
  let v226 : BitVec 32 := Scalar.extui v225
  let c0_i32_102 : BitVec 32 := 0#32
  let v227 : BitVec 1 := Scalar.cmpi .ne v226 c0_i32_102
  v227

def k0_off3 (d0 : Dev nD) : Fin 1 → Nat :=
  let c1_i32_95 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v220 : BitVec 32 := Scalar.subi c1_i32_95 v2
  let c4_i32_96 : BitVec 32 := 4#32
  let v221 : BitVec 32 := Scalar.addi v220 c4_i32_96
  let c4_i32_97 : BitVec 32 := 4#32
  let v222 : BitVec 32 := Scalar.remsi v221 c4_i32_97
  let c1_i32_98 : BitVec 32 := 1#32
  let v223 : BitVec 32 := Scalar.subi v222 c1_i32_98
  let c0_i32_99 : BitVec 32 := 0#32
  let v224 : BitVec 32 := Scalar.maxsi v223 c0_i32_99
  ![v224.toNat]
def k0_off4 (d0 : Dev nD) : Fin 3 → Nat :=
  let c1_i32_95 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v220 : BitVec 32 := Scalar.subi c1_i32_95 v2
  let c4_i32_96 : BitVec 32 := 4#32
  let v221 : BitVec 32 := Scalar.addi v220 c4_i32_96
  let c4_i32_97 : BitVec 32 := 4#32
  let v222 : BitVec 32 := Scalar.remsi v221 c4_i32_97
  let c1_i32_98 : BitVec 32 := 1#32
  let v223 : BitVec 32 := Scalar.subi v222 c1_i32_98
  let c0_i32_99 : BitVec 32 := 0#32
  let v224 : BitVec 32 := Scalar.maxsi v223 c0_i32_99
  let c0_i32_737 : BitVec 32 := 0#32
  let c0_i32_738 : BitVec 32 := 0#32
  ![v224.toNat, 0, 0]
def k0_dev5 : Nat :=
  let c0_i32_736 : BitVec 32 := 0#32
  let c1_i32_734 : BitVec 32 := 1#32
  let c1_i32_735 : BitVec 32 := 1#32
  let v1166 : BitVec 32 := Scalar.muli c1_i32_734 c1_i32_735
  let v1167 : BitVec 32 := Scalar.addi c0_i32_736 v1166
  v1167.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_135 : BitVec 32 := 2#32
  let v322 : BitVec 1 := Scalar.cmpi .ne v2 c2_i32_135
  let v323 : BitVec 32 := Scalar.extui v322
  let c0_i32_137 : BitVec 32 := 0#32
  let v324 : BitVec 1 := Scalar.cmpi .ne v323 c0_i32_137
  v324

def k0_off5 (d0 : Dev nD) : Fin 1 → Nat :=
  let c2_i32_130 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v317 : BitVec 32 := Scalar.subi c2_i32_130 v2
  let c4_i32_131 : BitVec 32 := 4#32
  let v318 : BitVec 32 := Scalar.addi v317 c4_i32_131
  let c4_i32_132 : BitVec 32 := 4#32
  let v319 : BitVec 32 := Scalar.remsi v318 c4_i32_132
  let c1_i32_133 : BitVec 32 := 1#32
  let v320 : BitVec 32 := Scalar.subi v319 c1_i32_133
  let c0_i32_134 : BitVec 32 := 0#32
  let v321 : BitVec 32 := Scalar.maxsi v320 c0_i32_134
  ![v321.toNat]
def k0_off6 (d0 : Dev nD) : Fin 3 → Nat :=
  let c2_i32_130 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v317 : BitVec 32 := Scalar.subi c2_i32_130 v2
  let c4_i32_131 : BitVec 32 := 4#32
  let v318 : BitVec 32 := Scalar.addi v317 c4_i32_131
  let c4_i32_132 : BitVec 32 := 4#32
  let v319 : BitVec 32 := Scalar.remsi v318 c4_i32_132
  let c1_i32_133 : BitVec 32 := 1#32
  let v320 : BitVec 32 := Scalar.subi v319 c1_i32_133
  let c0_i32_134 : BitVec 32 := 0#32
  let v321 : BitVec 32 := Scalar.maxsi v320 c0_i32_134
  let c0_i32_737 : BitVec 32 := 0#32
  let c0_i32_738 : BitVec 32 := 0#32
  ![v321.toNat, 0, 0]
def k0_dev6 : Nat :=
  let c0_i32_736 : BitVec 32 := 0#32
  let c2_i32_734 : BitVec 32 := 2#32
  let c1_i32_735 : BitVec 32 := 1#32
  let v1166 : BitVec 32 := Scalar.muli c2_i32_734 c1_i32_735
  let v1167 : BitVec 32 := Scalar.addi c0_i32_736 v1166
  v1167.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_145 : BitVec 32 := 3#32
  let v335 : BitVec 1 := Scalar.cmpi .ne v2 c3_i32_145
  let v336 : BitVec 32 := Scalar.extui v335
  let c0_i32_147 : BitVec 32 := 0#32
  let v337 : BitVec 1 := Scalar.cmpi .ne v336 c0_i32_147
  v337

def k0_off7 (d0 : Dev nD) : Fin 1 → Nat :=
  let c3_i32_140 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v330 : BitVec 32 := Scalar.subi c3_i32_140 v2
  let c4_i32_141 : BitVec 32 := 4#32
  let v331 : BitVec 32 := Scalar.addi v330 c4_i32_141
  let c4_i32_142 : BitVec 32 := 4#32
  let v332 : BitVec 32 := Scalar.remsi v331 c4_i32_142
  let c1_i32_143 : BitVec 32 := 1#32
  let v333 : BitVec 32 := Scalar.subi v332 c1_i32_143
  let c0_i32_144 : BitVec 32 := 0#32
  let v334 : BitVec 32 := Scalar.maxsi v333 c0_i32_144
  ![v334.toNat]
def k0_off8 (d0 : Dev nD) : Fin 3 → Nat :=
  let c3_i32_140 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v330 : BitVec 32 := Scalar.subi c3_i32_140 v2
  let c4_i32_141 : BitVec 32 := 4#32
  let v331 : BitVec 32 := Scalar.addi v330 c4_i32_141
  let c4_i32_142 : BitVec 32 := 4#32
  let v332 : BitVec 32 := Scalar.remsi v331 c4_i32_142
  let c1_i32_143 : BitVec 32 := 1#32
  let v333 : BitVec 32 := Scalar.subi v332 c1_i32_143
  let c0_i32_144 : BitVec 32 := 0#32
  let v334 : BitVec 32 := Scalar.maxsi v333 c0_i32_144
  let c0_i32_737 : BitVec 32 := 0#32
  let c0_i32_738 : BitVec 32 := 0#32
  ![v334.toNat, 0, 0]
def k0_dev7 : Nat :=
  let c0_i32_736 : BitVec 32 := 0#32
  let c3_i32_734 : BitVec 32 := 3#32
  let c1_i32_735 : BitVec 32 := 1#32
  let v1166 : BitVec 32 := Scalar.muli c3_i32_734 c1_i32_735
  let v1167 : BitVec 32 := Scalar.addi c0_i32_736 v1166
  v1167.toNat
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v400 : Index := Scalar.indexCast v2
  let c0_200 : Index := 0#32
  let c0_201 : Index := 0#32
  ![v400.toNat, 0, 0]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_208 : BitVec 32 := 0#32
  let c0_i32_209 : BitVec 32 := 0#32
  ![v2.toNat, 0, 0]
def k0_dev8 (d0 : Dev nD) : Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_202 : BitVec 32 := 1#32
  let v404 : BitVec 32 := Scalar.addi v2 c1_i32_202
  let c4_i32_203 : BitVec 32 := 4#32
  let v405 : BitVec 32 := Scalar.remsi v404 c4_i32_203
  let c1_i32_206 : BitVec 32 := 1#32
  let v406 : BitVec 32 := Scalar.muli v405 c1_i32_206
  let v407 : BitVec 32 := Scalar.addi c0_i32_207 v406
  v407.toNat
def k0_dev9 (d0 : Dev nD) : Nat :=
  let c0_i32_217 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_212 : BitVec 32 := 2#32
  let v416 : BitVec 32 := Scalar.addi v2 c2_i32_212
  let c4_i32_213 : BitVec 32 := 4#32
  let v417 : BitVec 32 := Scalar.remsi v416 c4_i32_213
  let c1_i32_216 : BitVec 32 := 1#32
  let v418 : BitVec 32 := Scalar.muli v417 c1_i32_216
  let v419 : BitVec 32 := Scalar.addi c0_i32_217 v418
  v419.toNat
def k0_dev10 (d0 : Dev nD) : Nat :=
  let c0_i32_227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_222 : BitVec 32 := 3#32
  let v428 : BitVec 32 := Scalar.addi v2 c3_i32_222
  let c4_i32_223 : BitVec 32 := 4#32
  let v429 : BitVec 32 := Scalar.remsi v428 c4_i32_223
  let c1_i32_226 : BitVec 32 := 1#32
  let v430 : BitVec 32 := Scalar.muli v429 c1_i32_226
  let v431 : BitVec 32 := Scalar.addi c0_i32_227 v430
  v431.toNat
def k0_off11 (d0 : Dev nD) (c1_i32_258 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v496 : BitVec 32 := Scalar.subi v2 c1_i32_258
  let c4_i32_259 : BitVec 32 := 4#32
  let v497 : BitVec 32 := Scalar.addi v496 c4_i32_259
  let c4_i32_260 : BitVec 32 := 4#32
  let v498 : BitVec 32 := Scalar.remsi v497 c4_i32_260
  let v499 : Index := Scalar.indexCast v498
  let c0_261 : Index := 0#32
  let c0_262 : Index := 0#32
  ![v499.toNat, 0, 0]
def k0_off12 (d0 : Dev nD) (c1_i32_258 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v496 : BitVec 32 := Scalar.subi v2 c1_i32_258
  let c4_i32_259 : BitVec 32 := 4#32
  let v497 : BitVec 32 := Scalar.addi v496 c4_i32_259
  let c4_i32_260 : BitVec 32 := 4#32
  let v498 : BitVec 32 := Scalar.remsi v497 c4_i32_260
  let c0_i32_283 : BitVec 32 := 0#32
  let c0_i32_284 : BitVec 32 := 0#32
  ![v498.toNat, 0, 0]
def k0_dev11 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_258 : BitVec 32 := 1#32
  let v496 : BitVec 32 := Scalar.subi v2 c1_i32_258
  let c4_i32_259 : BitVec 32 := 4#32
  let v497 : BitVec 32 := Scalar.addi v496 c4_i32_259
  let c4_i32_260 : BitVec 32 := 4#32
  let v498 : BitVec 32 := Scalar.remsi v497 c4_i32_260
  let c1_i32_279 : BitVec 32 := 1#32
  let v548 : BitVec 32 := Scalar.muli v498 c1_i32_279
  let v549 : BitVec 32 := Scalar.addi c0_i32_280 v548
  v549.toNat
def k0_off13 (d0 : Dev nD) (c1_i32_258 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v496 : BitVec 32 := Scalar.subi v2 c1_i32_258
  let c4_i32_259 : BitVec 32 := 4#32
  let v497 : BitVec 32 := Scalar.addi v496 c4_i32_259
  let c4_i32_260 : BitVec 32 := 4#32
  let v498 : BitVec 32 := Scalar.remsi v497 c4_i32_260
  let c0_i32_290 : BitVec 32 := 0#32
  let c256_i32_291 : BitVec 32 := 256#32
  ![v498.toNat, 0, 256]
def k0_dev12 (d0 : Dev nD) : Nat :=
  let c0_i32_288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_258 : BitVec 32 := 1#32
  let v496 : BitVec 32 := Scalar.subi v2 c1_i32_258
  let c4_i32_259 : BitVec 32 := 4#32
  let v497 : BitVec 32 := Scalar.addi v496 c4_i32_259
  let c4_i32_260 : BitVec 32 := 4#32
  let v498 : BitVec 32 := Scalar.remsi v497 c4_i32_260
  let c1_i32_287 : BitVec 32 := 1#32
  let v558 : BitVec 32 := Scalar.muli v498 c1_i32_287
  let v559 : BitVec 32 := Scalar.addi c0_i32_288 v558
  v559.toNat
def k0_dev13 (d0 : Dev nD) : Nat :=
  let c0_i32_322 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_300 : BitVec 32 := 3#32
  let v576 : BitVec 32 := Scalar.subi v2 c3_i32_300
  let c4_i32_301 : BitVec 32 := 4#32
  let v577 : BitVec 32 := Scalar.addi v576 c4_i32_301
  let c4_i32_302 : BitVec 32 := 4#32
  let v578 : BitVec 32 := Scalar.remsi v577 c4_i32_302
  let c1_i32_321 : BitVec 32 := 1#32
  let v628 : BitVec 32 := Scalar.muli v578 c1_i32_321
  let v629 : BitVec 32 := Scalar.addi c0_i32_322 v628
  v629.toNat
def k0_dev14 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_300 : BitVec 32 := 3#32
  let v576 : BitVec 32 := Scalar.subi v2 c3_i32_300
  let c4_i32_301 : BitVec 32 := 4#32
  let v577 : BitVec 32 := Scalar.addi v576 c4_i32_301
  let c4_i32_302 : BitVec 32 := 4#32
  let v578 : BitVec 32 := Scalar.remsi v577 c4_i32_302
  let c1_i32_329 : BitVec 32 := 1#32
  let v638 : BitVec 32 := Scalar.muli v578 c1_i32_329
  let v639 : BitVec 32 := Scalar.addi c0_i32_330 v638
  v639.toNat
def k0_dev15 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_343 : BitVec 32 := 2#32
  let v656 : BitVec 32 := Scalar.subi v2 c2_i32_343
  let c4_i32_344 : BitVec 32 := 4#32
  let v657 : BitVec 32 := Scalar.addi v656 c4_i32_344
  let c4_i32_345 : BitVec 32 := 4#32
  let v658 : BitVec 32 := Scalar.remsi v657 c4_i32_345
  let c1_i32_364 : BitVec 32 := 1#32
  let v708 : BitVec 32 := Scalar.muli v658 c1_i32_364
  let v709 : BitVec 32 := Scalar.addi c0_i32_365 v708
  v709.toNat
def k0_dev16 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_343 : BitVec 32 := 2#32
  let v656 : BitVec 32 := Scalar.subi v2 c2_i32_343
  let c4_i32_344 : BitVec 32 := 4#32
  let v657 : BitVec 32 := Scalar.addi v656 c4_i32_344
  let c4_i32_345 : BitVec 32 := 4#32
  let v658 : BitVec 32 := Scalar.remsi v657 c4_i32_345
  let c1_i32_372 : BitVec 32 := 1#32
  let v718 : BitVec 32 := Scalar.muli v658 c1_i32_372
  let v719 : BitVec 32 := Scalar.addi c0_i32_373 v718
  v719.toNat
def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v773 : Index := Scalar.indexCast v2
  let c0_415 : Index := 0#32
  let c0_416 : Index := 0#32
  ![v773.toNat, 0, 0]
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_422 : BitVec 32 := 0#32
  let c0_i32_423 : BitVec 32 := 0#32
  ![v2.toNat, 0, 0]
def k0_dev17 (d0 : Dev nD) : Nat :=
  let c0_i32_421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_417 : BitVec 32 := 1#32
  let v777 : BitVec 32 := Scalar.addi v2 c1_i32_417
  let c4_i32_418 : BitVec 32 := 4#32
  let v778 : BitVec 32 := Scalar.remsi v777 c4_i32_418
  let c1_i32_420 : BitVec 32 := 1#32
  let v779 : BitVec 32 := Scalar.muli v778 c1_i32_420
  let v780 : BitVec 32 := Scalar.addi c0_i32_421 v779
  v780.toNat
def k0_dev18 (d0 : Dev nD) : Nat :=
  let c0_i32_430 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_426 : BitVec 32 := 2#32
  let v789 : BitVec 32 := Scalar.addi v2 c2_i32_426
  let c4_i32_427 : BitVec 32 := 4#32
  let v790 : BitVec 32 := Scalar.remsi v789 c4_i32_427
  let c1_i32_429 : BitVec 32 := 1#32
  let v791 : BitVec 32 := Scalar.muli v790 c1_i32_429
  let v792 : BitVec 32 := Scalar.addi c0_i32_430 v791
  v792.toNat
def k0_dev19 (d0 : Dev nD) : Nat :=
  let c0_i32_439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_435 : BitVec 32 := 3#32
  let v801 : BitVec 32 := Scalar.addi v2 c3_i32_435
  let c4_i32_436 : BitVec 32 := 4#32
  let v802 : BitVec 32 := Scalar.remsi v801 c4_i32_436
  let c1_i32_438 : BitVec 32 := 1#32
  let v803 : BitVec 32 := Scalar.muli v802 c1_i32_438
  let v804 : BitVec 32 := Scalar.addi c0_i32_439 v803
  v804.toNat
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v858 : Index := Scalar.indexCast v2
  let c0_480 : Index := 0#32
  let c256_481 : Index := 256#32
  ![v858.toNat, 0, 256]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_487 : BitVec 32 := 0#32
  let c256_i32_488 : BitVec 32 := 256#32
  ![v2.toNat, 0, 256]
def k0_dev20 (d0 : Dev nD) : Nat :=
  let c0_i32_486 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_482 : BitVec 32 := 1#32
  let v862 : BitVec 32 := Scalar.addi v2 c1_i32_482
  let c4_i32_483 : BitVec 32 := 4#32
  let v863 : BitVec 32 := Scalar.remsi v862 c4_i32_483
  let c1_i32_485 : BitVec 32 := 1#32
  let v864 : BitVec 32 := Scalar.muli v863 c1_i32_485
  let v865 : BitVec 32 := Scalar.addi c0_i32_486 v864
  v865.toNat
def k0_dev21 (d0 : Dev nD) : Nat :=
  let c0_i32_495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_491 : BitVec 32 := 2#32
  let v874 : BitVec 32 := Scalar.addi v2 c2_i32_491
  let c4_i32_492 : BitVec 32 := 4#32
  let v875 : BitVec 32 := Scalar.remsi v874 c4_i32_492
  let c1_i32_494 : BitVec 32 := 1#32
  let v876 : BitVec 32 := Scalar.muli v875 c1_i32_494
  let v877 : BitVec 32 := Scalar.addi c0_i32_495 v876
  v877.toNat
def k0_dev22 (d0 : Dev nD) : Nat :=
  let c0_i32_504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_500 : BitVec 32 := 3#32
  let v886 : BitVec 32 := Scalar.addi v2 c3_i32_500
  let c4_i32_501 : BitVec 32 := 4#32
  let v887 : BitVec 32 := Scalar.remsi v886 c4_i32_501
  let c1_i32_503 : BitVec 32 := 1#32
  let v888 : BitVec 32 := Scalar.muli v887 c1_i32_503
  let v889 : BitVec 32 := Scalar.addi c0_i32_504 v888
  v889.toNat
def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_510 : BitVec 32 := 0#32
  let v900 : BitVec 1 := Scalar.cmpi .sgt v2 c0_i32_510
  let v901 : BitVec 32 := Scalar.extui v900
  let c0_i32_511 : BitVec 32 := 0#32
  let v902 : BitVec 1 := Scalar.cmpi .slt v2 c0_i32_511
  let v903 : BitVec 32 := Scalar.extui v902
  let v904 : BitVec 32 := Scalar.subi v901 v903
  let c2_i32_509 : BitVec 32 := 2#32
  let c0_i32_512 : BitVec 32 := 0#32
  let v905 : BitVec 1 := Scalar.cmpi .sgt c2_i32_509 c0_i32_512
  let v906 : BitVec 32 := Scalar.extui v905
  let c0_i32_513 : BitVec 32 := 0#32
  let v907 : BitVec 1 := Scalar.cmpi .slt c2_i32_509 c0_i32_513
  let v908 : BitVec 32 := Scalar.extui v907
  let v909 : BitVec 32 := Scalar.subi v906 v908
  let v910 : BitVec 1 := Scalar.cmpi .ne v904 v909
  let v911 : BitVec 32 := Scalar.remsi v2 c2_i32_509
  let c0_i32_514 : BitVec 32 := 0#32
  let v912 : BitVec 1 := Scalar.cmpi .ne v911 c0_i32_514
  let v913 : BitVec 1 := Scalar.andi v910 v912
  let v899 : BitVec 32 := Scalar.divsi v2 c2_i32_509
  let c1_i32_515 : BitVec 32 := 1#32
  let v914 : BitVec 32 := Scalar.subi v899 c1_i32_515
  let v915 : BitVec 32 := Scalar.select v913 v914 v899
  let v918 : Index := Scalar.indexCast v915
  let c2_i32_516 : BitVec 32 := 2#32
  let v916 : BitVec 32 := Scalar.remsi v2 c2_i32_516
  let c128_i32 : BitVec 32 := 128#32
  let v917 : BitVec 32 := Scalar.muli v916 c128_i32
  let v919 : Index := Scalar.indexCast v917
  let c0_517 : Index := 0#32
  ![v918.toNat, v919.toNat, 0]
def k0_off19 (d0 : Dev nD) (c1_i32_534 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v939 : BitVec 32 := Scalar.subi v2 c1_i32_534
  let c4_i32_535 : BitVec 32 := 4#32
  let v940 : BitVec 32 := Scalar.addi v939 c4_i32_535
  let c4_i32_536 : BitVec 32 := 4#32
  let v941 : BitVec 32 := Scalar.remsi v940 c4_i32_536
  let c0_i32_540 : BitVec 32 := 0#32
  let v947 : BitVec 1 := Scalar.cmpi .sgt v941 c0_i32_540
  let v948 : BitVec 32 := Scalar.extui v947
  let c0_i32_541 : BitVec 32 := 0#32
  let v949 : BitVec 1 := Scalar.cmpi .slt v941 c0_i32_541
  let v950 : BitVec 32 := Scalar.extui v949
  let v951 : BitVec 32 := Scalar.subi v948 v950
  let c2_i32_539 : BitVec 32 := 2#32
  let c0_i32_542 : BitVec 32 := 0#32
  let v952 : BitVec 1 := Scalar.cmpi .sgt c2_i32_539 c0_i32_542
  let v953 : BitVec 32 := Scalar.extui v952
  let c0_i32_543 : BitVec 32 := 0#32
  let v954 : BitVec 1 := Scalar.cmpi .slt c2_i32_539 c0_i32_543
  let v955 : BitVec 32 := Scalar.extui v954
  let v956 : BitVec 32 := Scalar.subi v953 v955
  let v957 : BitVec 1 := Scalar.cmpi .ne v951 v956
  let v958 : BitVec 32 := Scalar.remsi v941 c2_i32_539
  let c0_i32_544 : BitVec 32 := 0#32
  let v959 : BitVec 1 := Scalar.cmpi .ne v958 c0_i32_544
  let v960 : BitVec 1 := Scalar.andi v957 v959
  let v946 : BitVec 32 := Scalar.divsi v941 c2_i32_539
  let c1_i32_545 : BitVec 32 := 1#32
  let v961 : BitVec 32 := Scalar.subi v946 c1_i32_545
  let v962 : BitVec 32 := Scalar.select v960 v961 v946
  let v965 : Index := Scalar.indexCast v962
  let c2_i32_546 : BitVec 32 := 2#32
  let v963 : BitVec 32 := Scalar.remsi v941 c2_i32_546
  let c128_i32_547 : BitVec 32 := 128#32
  let v964 : BitVec 32 := Scalar.muli v963 c128_i32_547
  let v966 : Index := Scalar.indexCast v964
  let c0_548 : Index := 0#32
  ![v965.toNat, v966.toNat, 0]
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_611 : BitVec 32 := 0#32
  let v1064 : BitVec 1 := Scalar.cmpi .ne v2 c0_i32_611
  let v1065 : BitVec 32 := Scalar.extui v1064
  let c0_i32_613 : BitVec 32 := 0#32
  let v1066 : BitVec 1 := Scalar.cmpi .ne v1065 c0_i32_613
  v1066

def k0_off20 (d0 : Dev nD) : Fin 1 → Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v207 : BitVec 32 := Scalar.subi c0_i32_84 v2
  let c4_i32_85 : BitVec 32 := 4#32
  let v208 : BitVec 32 := Scalar.addi v207 c4_i32_85
  let c4_i32_86 : BitVec 32 := 4#32
  let v209 : BitVec 32 := Scalar.remsi v208 c4_i32_86
  let c1_i32_87 : BitVec 32 := 1#32
  let v210 : BitVec 32 := Scalar.subi v209 c1_i32_87
  let c0_i32_88 : BitVec 32 := 0#32
  let v211 : BitVec 32 := Scalar.maxsi v210 c0_i32_88
  ![v211.toNat]
def k0_off21 (d0 : Dev nD) : Fin 3 → Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v207 : BitVec 32 := Scalar.subi c0_i32_84 v2
  let c4_i32_85 : BitVec 32 := 4#32
  let v208 : BitVec 32 := Scalar.addi v207 c4_i32_85
  let c4_i32_86 : BitVec 32 := 4#32
  let v209 : BitVec 32 := Scalar.remsi v208 c4_i32_86
  let c1_i32_87 : BitVec 32 := 1#32
  let v210 : BitVec 32 := Scalar.subi v209 c1_i32_87
  let c0_i32_88 : BitVec 32 := 0#32
  let v211 : BitVec 32 := Scalar.maxsi v210 c0_i32_88
  let c0_i32_738 : BitVec 32 := 0#32
  let c0_i32_739 : BitVec 32 := 0#32
  ![v211.toNat, 0, 0]
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_614 : BitVec 32 := 1#32
  let v1067 : BitVec 1 := Scalar.cmpi .ne v2 c1_i32_614
  let v1068 : BitVec 32 := Scalar.extui v1067
  let c0_i32_616 : BitVec 32 := 0#32
  let v1069 : BitVec 1 := Scalar.cmpi .ne v1068 c0_i32_616
  v1069

def k0_off22 (d0 : Dev nD) : Fin 1 → Nat :=
  let c1_i32_95 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v220 : BitVec 32 := Scalar.subi c1_i32_95 v2
  let c4_i32_96 : BitVec 32 := 4#32
  let v221 : BitVec 32 := Scalar.addi v220 c4_i32_96
  let c4_i32_97 : BitVec 32 := 4#32
  let v222 : BitVec 32 := Scalar.remsi v221 c4_i32_97
  let c1_i32_98 : BitVec 32 := 1#32
  let v223 : BitVec 32 := Scalar.subi v222 c1_i32_98
  let c0_i32_99 : BitVec 32 := 0#32
  let v224 : BitVec 32 := Scalar.maxsi v223 c0_i32_99
  ![v224.toNat]
def k0_off23 (d0 : Dev nD) : Fin 3 → Nat :=
  let c1_i32_95 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v220 : BitVec 32 := Scalar.subi c1_i32_95 v2
  let c4_i32_96 : BitVec 32 := 4#32
  let v221 : BitVec 32 := Scalar.addi v220 c4_i32_96
  let c4_i32_97 : BitVec 32 := 4#32
  let v222 : BitVec 32 := Scalar.remsi v221 c4_i32_97
  let c1_i32_98 : BitVec 32 := 1#32
  let v223 : BitVec 32 := Scalar.subi v222 c1_i32_98
  let c0_i32_99 : BitVec 32 := 0#32
  let v224 : BitVec 32 := Scalar.maxsi v223 c0_i32_99
  let c0_i32_738 : BitVec 32 := 0#32
  let c0_i32_739 : BitVec 32 := 0#32
  ![v224.toNat, 0, 0]
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_617 : BitVec 32 := 2#32
  let v1070 : BitVec 1 := Scalar.cmpi .ne v2 c2_i32_617
  let v1071 : BitVec 32 := Scalar.extui v1070
  let c0_i32_619 : BitVec 32 := 0#32
  let v1072 : BitVec 1 := Scalar.cmpi .ne v1071 c0_i32_619
  v1072

def k0_off24 (d0 : Dev nD) : Fin 1 → Nat :=
  let c2_i32_130 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v317 : BitVec 32 := Scalar.subi c2_i32_130 v2
  let c4_i32_131 : BitVec 32 := 4#32
  let v318 : BitVec 32 := Scalar.addi v317 c4_i32_131
  let c4_i32_132 : BitVec 32 := 4#32
  let v319 : BitVec 32 := Scalar.remsi v318 c4_i32_132
  let c1_i32_133 : BitVec 32 := 1#32
  let v320 : BitVec 32 := Scalar.subi v319 c1_i32_133
  let c0_i32_134 : BitVec 32 := 0#32
  let v321 : BitVec 32 := Scalar.maxsi v320 c0_i32_134
  ![v321.toNat]
def k0_off25 (d0 : Dev nD) : Fin 3 → Nat :=
  let c2_i32_130 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v317 : BitVec 32 := Scalar.subi c2_i32_130 v2
  let c4_i32_131 : BitVec 32 := 4#32
  let v318 : BitVec 32 := Scalar.addi v317 c4_i32_131
  let c4_i32_132 : BitVec 32 := 4#32
  let v319 : BitVec 32 := Scalar.remsi v318 c4_i32_132
  let c1_i32_133 : BitVec 32 := 1#32
  let v320 : BitVec 32 := Scalar.subi v319 c1_i32_133
  let c0_i32_134 : BitVec 32 := 0#32
  let v321 : BitVec 32 := Scalar.maxsi v320 c0_i32_134
  let c0_i32_738 : BitVec 32 := 0#32
  let c0_i32_739 : BitVec 32 := 0#32
  ![v321.toNat, 0, 0]
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_620 : BitVec 32 := 3#32
  let v1073 : BitVec 1 := Scalar.cmpi .ne v2 c3_i32_620
  let v1074 : BitVec 32 := Scalar.extui v1073
  let c0_i32_622 : BitVec 32 := 0#32
  let v1075 : BitVec 1 := Scalar.cmpi .ne v1074 c0_i32_622
  v1075

def k0_off26 (d0 : Dev nD) : Fin 1 → Nat :=
  let c3_i32_140 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v330 : BitVec 32 := Scalar.subi c3_i32_140 v2
  let c4_i32_141 : BitVec 32 := 4#32
  let v331 : BitVec 32 := Scalar.addi v330 c4_i32_141
  let c4_i32_142 : BitVec 32 := 4#32
  let v332 : BitVec 32 := Scalar.remsi v331 c4_i32_142
  let c1_i32_143 : BitVec 32 := 1#32
  let v333 : BitVec 32 := Scalar.subi v332 c1_i32_143
  let c0_i32_144 : BitVec 32 := 0#32
  let v334 : BitVec 32 := Scalar.maxsi v333 c0_i32_144
  ![v334.toNat]
def k0_off27 (d0 : Dev nD) : Fin 3 → Nat :=
  let c3_i32_140 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v330 : BitVec 32 := Scalar.subi c3_i32_140 v2
  let c4_i32_141 : BitVec 32 := 4#32
  let v331 : BitVec 32 := Scalar.addi v330 c4_i32_141
  let c4_i32_142 : BitVec 32 := 4#32
  let v332 : BitVec 32 := Scalar.remsi v331 c4_i32_142
  let c1_i32_143 : BitVec 32 := 1#32
  let v333 : BitVec 32 := Scalar.subi v332 c1_i32_143
  let c0_i32_144 : BitVec 32 := 0#32
  let v334 : BitVec 32 := Scalar.maxsi v333 c0_i32_144
  let c0_i32_738 : BitVec 32 := 0#32
  let c0_i32_739 : BitVec 32 := 0#32
  ![v334.toNat, 0, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S1024x512 : Shape := ⟨2, ![1024, 512]⟩
abbrev S2x128 : Shape := ⟨2, ![2, 128]⟩
abbrev S128x3072 : Shape := ⟨2, ![128, 3072]⟩
abbrev S512x2048 : Shape := ⟨2, ![512, 2048]⟩
abbrev S2048x512 : Shape := ⟨2, ![2048, 512]⟩
abbrev S2x3072 : Shape := ⟨2, ![2, 3072]⟩
abbrev S2x512 : Shape := ⟨2, ![2, 512]⟩
abbrev S_ : Shape := ⟨0, ![]⟩
abbrev S2x256 : Shape := ⟨2, ![2, 256]⟩
abbrev S2x256x1 : Shape := ⟨3, ![2, 256, 1]⟩
abbrev S2x1x512 : Shape := ⟨3, ![2, 1, 512]⟩
abbrev S2x256x1024 : Shape := ⟨3, ![2, 256, 1024]⟩
abbrev S2x256x16x64 : Shape := ⟨4, ![2, 256, 16, 64]⟩
abbrev S2x16x256x1 : Shape := ⟨4, ![2, 16, 256, 1]⟩
abbrev S2x16x256x256 : Shape := ⟨4, ![2, 16, 256, 256]⟩
abbrev S2x16x256 : Shape := ⟨3, ![2, 16, 256]⟩
abbrev S2x256x16x1 : Shape := ⟨4, ![2, 256, 16, 1]⟩
abbrev S2x16x64x256 : Shape := ⟨4, ![2, 16, 64, 256]⟩
abbrev S2x256x2048 : Shape := ⟨3, ![2, 256, 2048]⟩

abbrev nBuf : Space → Nat
  | .hbm => 167
  | .vmem => 0
  | .smem => 0
  | _ => 0

abbrev hbmTy0_0 (i : Nat) : BufTy := match i % 128 with
  | 0 => ⟨S2x256x512, .f32⟩
  | 1 => ⟨S512x1024, .f32⟩
  | 2 => ⟨S512x1024, .f32⟩
  | 3 => ⟨S512x1024, .f32⟩
  | 4 => ⟨S1024x512, .f32⟩
  | 5 => ⟨S2x128, .f32⟩
  | 6 => ⟨S128x3072, .f32⟩
  | 7 => ⟨S512x2048, .f32⟩
  | 8 => ⟨S2048x512, .f32⟩
  | 9 => ⟨S2x3072, .f32⟩
  | 10 => ⟨S2x512, .f32⟩
  | 11 => ⟨S2x512, .f32⟩
  | 12 => ⟨S2x512, .f32⟩
  | 13 => ⟨S2x512, .f32⟩
  | 14 => ⟨S2x512, .f32⟩
  | 15 => ⟨S2x512, .f32⟩
  | 16 => ⟨S_, .f32⟩
  | 17 => ⟨S2x256, .f32⟩
  | 18 => ⟨S2x256x1, .f32⟩
  | 19 => ⟨S_, .f32⟩
  | 20 => ⟨S2x256x1, .f32⟩
  | 21 => ⟨S2x256x1, .f32⟩
  | 22 => ⟨S_, .i32⟩
  | 23 => ⟨S_, .f32⟩
  | 24 => ⟨S2x256, .f32⟩
  | 25 => ⟨S2x256x1, .f32⟩
  | 26 => ⟨S_, .f32⟩
  | 27 => ⟨S2x256x1, .f32⟩
  | 28 => ⟨S2x256x1, .f32⟩
  | 29 => ⟨S2x256x512, .f32⟩
  | 30 => ⟨S2x256x512, .f32⟩
  | 31 => ⟨S2x256x512, .f32⟩
  | 32 => ⟨S_, .f32⟩
  | 33 => ⟨S_, .f32⟩
  | 34 => ⟨S_, .f32⟩
  | 35 => ⟨S_, .f32⟩
  | 36 => ⟨S2x256, .f32⟩
  | 37 => ⟨S2x256x1, .f32⟩
  | 38 => ⟨S2x256x1, .f32⟩
  | 39 => ⟨S2x256x1, .f32⟩
  | 40 => ⟨S_, .f32⟩
  | 41 => ⟨S_, .i1⟩
  | 42 => ⟨S_, .f32⟩
  | 43 => ⟨S_, .f32⟩
  | 44 => ⟨S2x256x1, .f32⟩
  | 45 => ⟨S2x256x1, .f32⟩
  | 46 => ⟨S2x256x512, .f32⟩
  | 47 => ⟨S2x256x512, .f32⟩
  | 48 => ⟨S_, .f32⟩
  | 49 => ⟨S2x256x1, .f32⟩
  | 50 => ⟨S2x256x1, .f32⟩
  | 51 => ⟨S2x256x1, .f32⟩
  | 52 => ⟨S2x256x512, .f32⟩
  | 53 => ⟨S2x256x512, .f32⟩
  | 54 => ⟨S2x1x512, .f32⟩
  | 55 => ⟨S_, .f32⟩
  | 56 => ⟨S2x1x512, .f32⟩
  | 57 => ⟨S2x1x512, .f32⟩
  | 58 => ⟨S2x256x512, .f32⟩
  | 59 => ⟨S2x256x512, .f32⟩
  | 60 => ⟨S2x1x512, .f32⟩
  | 61 => ⟨S2x256x512, .f32⟩
  | 62 => ⟨S2x256x512, .f32⟩
  | 63 => ⟨S2x256x1024, .f32⟩
  | 64 => ⟨S2x256x16x64, .f32⟩
  | 65 => ⟨S2x256x1024, .f32⟩
  | 66 => ⟨S2x256x16x64, .f32⟩
  | 67 => ⟨S2x256x1024, .f32⟩
  | 68 => ⟨S2x256x16x64, .f32⟩
  | 69 => ⟨S_, .f32⟩
  | 70 => ⟨S2x256x16x64, .f32⟩
  | 71 => ⟨S_, .f32⟩
  | 72 => ⟨S2x16x256x1, .f32⟩
  | 73 => ⟨S_, .f32⟩
  | 74 => ⟨S2x16x256x1, .f32⟩
  | 75 => ⟨S2x16x256x256, .f32⟩
  | 76 => ⟨S_, .f32⟩
  | 77 => ⟨S2x16x256x256, .f32⟩
  | 78 => ⟨S2x16x256x256, .f32⟩
  | 79 => ⟨S_, .f32⟩
  | 80 => ⟨S2x16x256, .f32⟩
  | 81 => ⟨S2x16x256x1, .f32⟩
  | 82 => ⟨S2x16x256x1, .f32⟩
  | 83 => ⟨S2x16x256x1, .f32⟩
  | 84 => ⟨S2x16x256x1, .f32⟩
  | 85 => ⟨S2x16x256x256, .f32⟩
  | 86 => ⟨S2x16x256x256, .f32⟩
  | 87 => ⟨S2x16x256x256, .f32⟩
  | 88 => ⟨S2x16x256x1, .f32⟩
  | 89 => ⟨S_, .f32⟩
  | 90 => ⟨S2x16x256, .f32⟩
  | 91 => ⟨S2x16x256x1, .f32⟩
  | 92 => ⟨S2x16x256x1, .f32⟩
  | 93 => ⟨S2x256x16x1, .f32⟩
  | 94 => ⟨S2x256x16x64, .f32⟩
  | 95 => ⟨S2x256x16x64, .f32⟩
  | 96 => ⟨S2x16x64x256, .f32⟩
  | 97 => ⟨S2x256x16x64, .f32⟩
  | 98 => ⟨S2x256x16x64, .f32⟩
  | 99 => ⟨S2x256x16x1, .f32⟩
  | 100 => ⟨S2x256x16x64, .f32⟩
  | 101 => ⟨S2x256x16x64, .f32⟩
  | 102 => ⟨S2x256x1024, .f32⟩
  | 103 => ⟨S2x256x512, .f32⟩
  | 104 => ⟨S2x1x512, .f32⟩
  | 105 => ⟨S2x256x512, .f32⟩
  | 106 => ⟨S2x256x512, .f32⟩
  | 107 => ⟨S2x256x512, .f32⟩
  | 108 => ⟨S_, .f32⟩
  | 109 => ⟨S2x256, .f32⟩
  | 110 => ⟨S2x256x1, .f32⟩
  | 111 => ⟨S_, .f32⟩
  | 112 => ⟨S2x256x1, .f32⟩
  | 113 => ⟨S2x256x1, .f32⟩
  | 114 => ⟨S_, .i32⟩
  | 115 => ⟨S_, .f32⟩
  | 116 => ⟨S2x256, .f32⟩
  | 117 => ⟨S2x256x1, .f32⟩
  | 118 => ⟨S_, .f32⟩
  | 119 => ⟨S2x256x1, .f32⟩
  | 120 => ⟨S2x256x1, .f32⟩
  | 121 => ⟨S2x256x512, .f32⟩
  | 122 => ⟨S2x256x512, .f32⟩
  | 123 => ⟨S2x256x512, .f32⟩
  | 124 => ⟨S_, .f32⟩
  | 125 => ⟨S_, .f32⟩
  | 126 => ⟨S_, .f32⟩
  | 127 => ⟨S_, .f32⟩
  | _ => ⟨S2x256x512, .f32⟩

abbrev hbmTy0_1 (i : Nat) : BufTy := match i % 128 with
  | 0 => ⟨S2x256, .f32⟩
  | 1 => ⟨S2x256x1, .f32⟩
  | 2 => ⟨S2x256x1, .f32⟩
  | 3 => ⟨S2x256x1, .f32⟩
  | 4 => ⟨S_, .f32⟩
  | 5 => ⟨S_, .i1⟩
  | 6 => ⟨S_, .f32⟩
  | 7 => ⟨S_, .f32⟩
  | 8 => ⟨S2x256x1, .f32⟩
  | 9 => ⟨S2x256x1, .f32⟩
  | 10 => ⟨S2x256x512, .f32⟩
  | 11 => ⟨S2x256x512, .f32⟩
  | 12 => ⟨S_, .f32⟩
  | 13 => ⟨S2x256x1, .f32⟩
  | 14 => ⟨S2x256x1, .f32⟩
  | 15 => ⟨S2x256x1, .f32⟩
  | 16 => ⟨S2x256x512, .f32⟩
  | 17 => ⟨S2x256x512, .f32⟩
  | 18 => ⟨S2x1x512, .f32⟩
  | 19 => ⟨S_, .f32⟩
  | 20 => ⟨S2x1x512, .f32⟩
  | 21 => ⟨S2x1x512, .f32⟩
  | 22 => ⟨S2x256x512, .f32⟩
  | 23 => ⟨S2x256x512, .f32⟩
  | 24 => ⟨S2x1x512, .f32⟩
  | 25 => ⟨S2x256x512, .f32⟩
  | 26 => ⟨S2x256x512, .f32⟩
  | 27 => ⟨S2x256x2048, .f32⟩
  | 28 => ⟨S2x256x2048, .f32⟩
  | 29 => ⟨S2x256x2048, .f32⟩
  | 30 => ⟨S_, .f32⟩
  | 31 => ⟨S2x256x2048, .f32⟩
  | 32 => ⟨S2x256x2048, .f32⟩
  | 33 => ⟨S2x256x2048, .f32⟩
  | 34 => ⟨S2x1x512, .f32⟩
  | 35 => ⟨S2x256x512, .f32⟩
  | 36 => ⟨S2x256x512, .f32⟩
  | 37 => ⟨S2x256x512, .f32⟩
  | 38 => ⟨S2x256x512, .f32⟩
  | _ => ⟨S2x256x512, .f32⟩

abbrev hbmTy (i : Nat) : BufTy := match i / 128 with
  | 0 => hbmTy0_0 i
  | 1 => hbmTy0_1 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_3 : Ref sig .tc := ⟨.hbm, 69, rfl⟩
abbrev main_v33 : Ref sig .tc := ⟨.hbm, 70, rfl⟩
abbrev main_cst_4 : Ref sig .tc := ⟨.hbm, 71, rfl⟩
abbrev main_v34 : Ref sig .tc := ⟨.hbm, 72, rfl⟩
abbrev main_cst_5 : Ref sig .tc := ⟨.hbm, 73, rfl⟩
abbrev main_v35 : Ref sig .tc := ⟨.hbm, 74, rfl⟩
abbrev main_v36 : Ref sig .tc := ⟨.hbm, 75, rfl⟩
abbrev main_cst_6 : Ref sig .tc := ⟨.hbm, 76, rfl⟩
abbrev main_v37 : Ref sig .tc := ⟨.hbm, 77, rfl⟩
abbrev main_v38 : Ref sig .tc := ⟨.hbm, 78, rfl⟩
abbrev main_cst_7 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_8 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_9 : Ref sig .tc := ⟨.hbm, 108, rfl⟩
abbrev main_v66 : Ref sig .tc := ⟨.hbm, 109, rfl⟩
abbrev main_v67 : Ref sig .tc := ⟨.hbm, 110, rfl⟩
abbrev main_cst_10 : Ref sig .tc := ⟨.hbm, 111, rfl⟩
abbrev main_v68 : Ref sig .tc := ⟨.hbm, 112, rfl⟩
abbrev main_v69 : Ref sig .tc := ⟨.hbm, 113, rfl⟩
abbrev main_c_11 : Ref sig .tc := ⟨.hbm, 114, rfl⟩
abbrev main_call1_cst : Ref sig .tc := ⟨.hbm, 115, rfl⟩
abbrev main_call1_v0 : Ref sig .tc := ⟨.hbm, 116, rfl⟩
abbrev main_call1_v1 : Ref sig .tc := ⟨.hbm, 117, rfl⟩
abbrev main_call1_cst_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_cst_1 : Ref sig .tc := ⟨.hbm, 125, rfl⟩
abbrev main_call1_v8 : Ref sig .tc := ⟨.hbm, 126, rfl⟩
abbrev main_call1_cst_2 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_call1_v12 : Ref sig .tc := ⟨.hbm, 131, rfl⟩
abbrev main_call1_cst_3 : Ref sig .tc := ⟨.hbm, 132, rfl⟩
abbrev main_call1_v13 : Ref sig .tc := ⟨.hbm, 133, rfl⟩
abbrev main_call1_cst_4 : Ref sig .tc := ⟨.hbm, 134, rfl⟩
abbrev main_call1_call0_v0 : Ref sig .tc := ⟨.hbm, 135, rfl⟩
abbrev main_call1_call0_v1 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_12 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_cst_13 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_cst_14 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩

abbrev nD : Nat := 1
abbrev τ : Topo := Topo.v7x

variable {F : FTy → Type} [FloatOps F]
-- ==== Proof.Vals.lean ====
/- What each device computes, as functions of the memory at launch: the values the body reads, the values it stores,
   and which rows travel to which device. -/
module

public import proofs.«01_k».proof.Proof.Gen.KernelIdeal
public import proofs.«01_k».proof.Proof.Gen.KernelIdeal.Skeleton

@[expose] public section

set_option maxRecDepth 16384

noncomputable section

namespace Cert.KProof

open Cert.KernelIdeal Cert.KernelIdeal.Gen
open Idealize.ShloMosaic Idealize.ShloMosaic.TcCoe

variable {F : FTy → Type} [FloatOps F]

/-! ## Memrefs -/

abbrev xM : Memref sig .tc .vmem S2x256x512 .f32 := Memref.whole cc0_scratch0
abbrev wqM : Memref sig .tc .vmem S512x256 .f32 := Memref.whole cc0_scratch1
abbrev wkM : Memref sig .tc .vmem S512x256 .f32 := Memref.whole cc0_scratch2
abbrev wvM : Memref sig .tc .vmem S512x256 .f32 := Memref.whole cc0_scratch3
abbrev woM : Memref sig .tc .vmem S256x512 .f32 := Memref.whole cc0_scratch4
abbrev teM : Memref sig .tc .vmem S2x128 .f32 := Memref.whole cc0_scratch5
abbrev wmM : Memref sig .tc .vmem S128x3072 .f32 := Memref.whole cc0_scratch6
abbrev f1M : Memref sig .tc .vmem S512x512 .f32 := Memref.whole cc0_scratch7
abbrev f2M : Memref sig .tc .vmem S512x512 .f32 := Memref.whole cc0_scratch8
abbrev p1M : Memref sig .tc .vmem S4x128x512 .bf16 := Memref.whole cc0_scratch9
abbrev r1M : Memref sig .tc .vmem S3x128x512 .bf16 := Memref.whole cc0_scratch10
abbrev agM : Memref sig .tc .vmem S4x128x512 .bf16 := Memref.whole cc0_scratch11
abbrev p2M : Memref sig .tc .vmem S4x128x512 .bf16 := Memref.whole cc0_scratch12
abbrev r2M : Memref sig .tc .vmem S3x128x512 .bf16 := Memref.whole cc0_scratch13
abbrev rdM : Memref sig .tc .vmem S4x128x512 .bf16 := Memref.whole cc0_scratch14
abbrev oM : Memref sig .tc .vmem S2x256x512 .f32 := Memref.whole cc0_stg0_0

/-! ## The mesh -/

set_option backward.proofsInPublic true in
/-- The device `k` places after `c`. -/
def sh (c : Dev nD) (k : ℕ) : Dev nD := ⟨(c.val + k) % 4, Nat.mod_lt _ (by decide)⟩

/-- A device's place, as the program computes it. -/
abbrev pl (c : Dev nD) : BitVec 32 := Scalar.remsi (Scalar.divsi (Dev.word c) 1#32) 4#32

/-! ## Rows and half rows of the four- and three-row buffers -/

theorem inb4 : ∀ q : Fin 4, ∀ a, ![q.val, 0, 0] a + S1x128x512.size a ≤ S4x128x512.size a := by decide
theorem inb3 : ∀ q : Fin 3, ∀ a, ![q.val, 0, 0] a + S1x128x512.size a ≤ S3x128x512.size a := by decide
theorem inb4h : ∀ (q : Fin 4) (h : Fin 2), ∀ a, ![q.val, 0, 256 * h.val] a + S1x128x256.size a ≤ S4x128x512.size a := by decide
theorem inb3h : ∀ (q : Fin 3) (h : Fin 2), ∀ a, ![q.val, 0, 256 * h.val] a + S1x128x256.size a ≤ S3x128x512.size a := by decide
theorem inbH : ∀ (h : Fin 2), ∀ a, ![0, 0, 256 * h.val] a + S1x128x256.size a ≤ S1x128x512.size a := by decide

abbrev row4 (q : Fin 4) : Rect S4x128x512 := Rect.unit (s := S4x128x512) ![q.val, 0, 0] S1x128x512.size (inb4 q)
abbrev row3 (q : Fin 3) : Rect S3x128x512 := Rect.unit (s := S3x128x512) ![q.val, 0, 0] S1x128x512.size (inb3 q)
abbrev half4 (q : Fin 4) (h : Fin 2) : Rect S4x128x512 := Rect.unit (s := S4x128x512) ![q.val, 0, 256 * h.val] S1x128x256.size (inb4h q h)
abbrev half3 (q : Fin 3) (h : Fin 2) : Rect S3x128x512 := Rect.unit (s := S3x128x512) ![q.val, 0, 256 * h.val] S1x128x256.size (inb3h q h)
/-- Half `h` of a row. -/
abbrev halfR (h : Fin 2) : Rect S1x128x512 := Rect.unit (s := S1x128x512) ![0, 0, 256 * h.val] S1x128x256.size (inbH h)

/-- Half `h` of a row's contents. -/
def halfOf (w : Vec F S1x128x512 .bf16) (h : Fin 2) : Vec F S1x128x256 .bf16 := fun j => w ((halfR h).emb j)

/-! ## The values -/

section Vals

variable (m : (ℓ : Loc nD τ sig) → Buf (Elt F) ℓ) (c : Dev nD)

abbrev A0 : Vec F S2x256x512 .f32 := m ((c : Thread nD τ).loc main_arg0)
abbrev A1 : Vec F S512x256 .f32 := m ((c : Thread nD τ).loc main_arg1)
abbrev A2 : Vec F S512x256 .f32 := m ((c : Thread nD τ).loc main_arg2)
abbrev A3 : Vec F S512x256 .f32 := m ((c : Thread nD τ).loc main_arg3)
abbrev A4 : Vec F S256x512 .f32 := m ((c : Thread nD τ).loc main_arg4)
abbrev A5 : Vec F S2x128 .f32 := m ((c : Thread nD τ).loc main_arg5)
abbrev A6 : Vec F S128x3072 .f32 := m ((c : Thread nD τ).loc main_arg6)
abbrev A7 : Vec F S512x512 .f32 := m ((c : Thread nD τ).loc main_arg7)
abbrev A8 : Vec F S512x512 .f32 := m ((c : Thread nD τ).loc main_arg8)

def V36 : Vec F S1x256x512 .f32 := xM.view.readAt (Elt F) (Rect.unit (s := S2x256x512) ![0, 0, 0] S1x256x512.size inb_S2x256x512_S1x256x512_0_0_0).toLoadRect (A0 m c)
def V38 : Vec F S1x256x512 .f32 := xM.view.readAt (Elt F) (Rect.unit (s := S2x256x512) ![1, 0, 0] S1x256x512.size inb_S2x256x512_S1x256x512_1_0_0).toLoadRect (A0 m c)
def V84 : Vec F S1x128 .f32 := teM.view.readAt (Elt F) (Rect.unit (s := S2x128) ![0, 0] S1x128.size inb_S2x128_S1x128_0_0).toLoadRect (A5 m c)
def V93 : Vec F S1x128 .f32 := teM.view.readAt (Elt F) (Rect.unit (s := S2x128) ![1, 0] S1x128.size inb_S2x128_S1x128_1_0).toLoadRect (A5 m c)
def V85 : Vec F S128x3072 .f32 := wmM.view.readAt (Elt F) (Rect.unit (s := S128x3072) ![0, 0] S128x3072.size inb_S128x3072_S128x3072_0_0).toLoadRect (A6 m c)
def V108 : Vec F S512x256 .f32 := wqM.view.readAt (Elt F) (Rect.unit (s := S512x256) ![0, 0] S512x256.size inb_S512x256_S512x256_0_0).toLoadRect (A1 m c)
def V110 : Vec F S512x256 .f32 := wkM.view.readAt (Elt F) (Rect.unit (s := S512x256) ![0, 0] S512x256.size inb_S512x256_S512x256_0_0).toLoadRect (A2 m c)
def V112 : Vec F S512x256 .f32 := wvM.view.readAt (Elt F) (Rect.unit (s := S512x256) ![0, 0] S512x256.size inb_S512x256_S512x256_0_0).toLoadRect (A3 m c)
def V199 : Vec F S256x512 .f32 := woM.view.readAt (Elt F) (Rect.unit (s := S256x512) ![0, 0] S256x512.size inb_S256x512_S256x512_0_0).toLoadRect (A4 m c)
def V444 : Vec F S512x512 .f32 := f1M.view.readAt (Elt F) (Rect.unit (s := S512x512) ![0, 0] S512x512.size inb_S512x512_S512x512_0_0).toLoadRect (A7 m c)
def V446 : Vec F S512x512 .f32 := f2M.view.readAt (Elt F) (Rect.unit (s := S512x512) ![0, 0] S512x512.size inb_S512x512_S512x512_0_0).toLoadRect (A8 m c)

def V37 : FVec F S256x512 .f32 := k0_pay1 (V36 m c)
def V39 : FVec F S256x512 .f32 := k0_pay2 (V38 m c)
def V59 : FVec F S256x512 .f32 := k0_pay3 (V36 m c)
def V61 : FVec F S256x1 .f32 := k0_pay4 (V38 m c)
def V79 : FVec F S256x512 .f32 := k0_pay6 (V39 m c) (V61 m c) k0_pay5
def V87 : FVec F S1x512 .f32 := k0_pay8 (V84 m c) (V85 m c)
def V88 : FVec F S1x512 .f32 := k0_pay9 (V84 m c) (V85 m c)
def V89 : FVec F S1x512 .f32 := k0_pay10 (V84 m c) (V85 m c)
def V90 : FVec F S1x512 .f32 := k0_pay11 (V84 m c) (V85 m c)
def V91 : FVec F S1x512 .f32 := k0_pay12 (V84 m c) (V85 m c)
def V92 : FVec F S1x512 .f32 := k0_pay13 (V84 m c) (V85 m c)
def V96 : FVec F S1x512 .f32 := k0_pay15 (V93 m c) (V85 m c)
def V97 : FVec F S1x512 .f32 := k0_pay16 (V93 m c) (V85 m c)
def V98 : FVec F S1x512 .f32 := k0_pay17 (V93 m c) (V85 m c)
def V99 : FVec F S1x512 .f32 := k0_pay18 (V93 m c) (V85 m c)
def V100 : FVec F S1x512 .f32 := k0_pay19 (V93 m c) (V85 m c)
def V101 : FVec F S1x512 .f32 := k0_pay20 (V93 m c) (V85 m c)
def V109 : FVec F S512x256 .bf16 := k0_pay21 (V108 m c)
def V111 : FVec F S512x256 .bf16 := k0_pay22 (V110 m c)
def V113 : FVec F S512x256 .bf16 := k0_pay23 (V112 m c)
def V122 : FVec F S256x256 .bf16 := k0_pay25 (V59 m c) (V87 m c) (V88 m c) (V108 m c)
def V124 : FVec F S256x256 .bf16 := k0_pay26 (V59 m c) (V87 m c) (V88 m c) (V110 m c)
def V126 : FVec F S256x256 .bf16 := k0_pay27 (V59 m c) (V87 m c) (V88 m c) (V112 m c)
def V143 : FVec F S256x64 .f32 := k0_pay28 (V59 m c) (V87 m c) (V88 m c) (V108 m c) (V110 m c) (V112 m c)
def V144 : FVec F S256x64 .bf16 := k0_pay29 (V59 m c) (V87 m c) (V88 m c) (V108 m c)
def V160 : FVec F S256x64 .f32 := k0_pay30 (V124 m c) (V126 m c) (V144 m c)
def V177 : FVec F S256x64 .f32 := k0_pay31 (V122 m c) (V124 m c) (V126 m c)
def V189 : FVec F S256x1 .f32 := k0_pay33 (V122 m c) (V124 m c)
def V190 : FVec F S256x256 .bf16 := k0_pay34 (V122 m c) (V124 m c)
def V200 : FVec F S256x512 .bf16 := k0_pay35 (V199 m c)
def V201 : FVec F S256x512 .f32 := k0_pay36 (V126 m c) (V143 m c) (V160 m c) (V177 m c) (V189 m c) (V190 m c) (V199 m c)
def V236 : FVec F S256x256 .bf16 := k0_pay40 (V79 m c) (V96 m c) (V97 m c) (V109 m c)
def V238 : FVec F S256x256 .bf16 := k0_pay41 (V79 m c) (V96 m c) (V97 m c) (V111 m c)
def V240 : FVec F S256x256 .bf16 := k0_pay42 (V79 m c) (V96 m c) (V97 m c) (V113 m c)
def V257 : FVec F S256x64 .f32 := k0_pay43 (V79 m c) (V96 m c) (V97 m c) (V109 m c) (V111 m c) (V113 m c)
def V266 : FVec F S256x256 .f32 := k0_pay44 (V79 m c) (V96 m c) (V97 m c) (V109 m c) (V111 m c)
def V311 : FVec F S256x512 .f32 := k0_pay45 (V200 m c) (V236 m c) (V238 m c) (V240 m c) (V257 m c) (V266 m c)
def V313 : FVec F S128x512 .bf16 := k0_pay46 (V200 m c) (V236 m c) (V238 m c) (V240 m c) (V257 m c) (V266 m c)

/-- The four rows of the attention partial product device `c` stores. -/
def P1 (q : Fin 4) : Vec F S1x128x512 .bf16 :=
  match q with
  | 0 => k0_pay37 (V126 m c) (V143 m c) (V160 m c) (V177 m c) (V189 m c) (V190 m c) (V199 m c)
  | 1 => k0_pay38 (V126 m c) (V143 m c) (V160 m c) (V177 m c) (V189 m c) (V190 m c) (V199 m c)
  | 2 => k0_pay47 (V313 m c)
  | 3 => k0_pay48 (V311 m c)

/-- The row of the attention sum that lands in slot `j` on device `c`. -/
def R1 (j : Fin 3) : Vec F S1x128x512 .bf16 := P1 m (sh c (3 - j.val)) c

def V398 : FVec F S128x512 .f32 :=
  k0_pay49 (pl c) (V37 m c) (V39 m c) (V89 m c) (V98 m c) (V201 m c) (V311 m c) 2#32 (R1 m c 0) (R1 m c 1) (R1 m c 2)
/-- Device `c`'s row of the first residual. -/
def X1 : Vec F S1x128x512 .bf16 :=
  k0_pay50 (pl c) (V37 m c) (V39 m c) (V89 m c) (V98 m c) (V201 m c) (V311 m c) 2#32 (R1 m c 0) (R1 m c 1) (R1 m c 2)

def V445 : FVec F S512x512 .bf16 := k0_pay51 (V444 m c)
def V447 : FVec F S512x512 .bf16 := k0_pay52 (V446 m c)
def V479 : FVec F S128x512 .f32 := k0_pay53 (pl c) (V90 m c) (V91 m c) (V99 m c) (V100 m c) (V398 m c) (V444 m c)
def V487 : FVec F S128x512 .f32 := k0_pay54 (V447 m c) (V479 m c)
def V502 : FVec F S128x512 .f32 := k0_pay55 (X1 m (sh c 3))
def V504 : FVec F S1x512 .f32 := k0_pay56 (pl c) (V90 m c) (V99 m c)
def V506 : FVec F S1x512 .f32 := k0_pay57 (pl c) (V91 m c) (V100 m c)
def V510 : FVec F S128x1 .f32 := k0_pay58 (X1 m (sh c 3))
def V517 : FVec F S128x1 .f32 := k0_pay59 (X1 m (sh c 3))
def V582 : FVec F S128x512 .f32 := k0_pay61 (X1 m (sh c 1))
def V584 : FVec F S1x512 .f32 := k0_pay62 (pl c) (V90 m c) (V99 m c)
def V586 : FVec F S1x512 .f32 := k0_pay63 (pl c) (V91 m c) (V100 m c)
def V588 : FVec F S128x1 .f32 := k0_pay64 (X1 m (sh c 1))
/-- The place two after `c`'s, as the program computes it. -/
abbrev pl2 : BitVec 32 := Scalar.remsi (Scalar.addi (Scalar.subi (pl c) 2#32) 4#32) 4#32
def V662 : FVec F S128x512 .f32 := k0_pay67 (X1 m (sh c 2))

/-- The feed-forward partial product device `c` makes for the device `o` places after it. -/
def P2 (o : ℕ) : Vec F S1x128x512 .bf16 :=
  match o with
  | 1 => k0_pay66 (V445 m c) (V447 m c) (V582 m c) (V584 m c) (V586 m c) (V588 m c) k0_pay65
  | 2 => k0_pay68 (V90 m c) (V91 m c) (V99 m c) (V100 m c) (V445 m c) (V447 m c) (pl2 c) (V662 m c) (Scalar.cmpi .sge (pl2 c) 2#32)
  | _ => k0_pay60 (V445 m c) (V447 m c) (V502 m c) (V504 m c) (V506 m c) (V510 m c) (V517 m c)

/-- The row of the feed-forward sum that lands in slot `j` on device `c`. -/
def R2 (j : Fin 3) (h : Fin 2) : Vec F S1x128x256 .bf16 := halfOf (P2 m (sh c (3 - j.val)) (j.val + 1)) h

def V764 : FVec F S128x256 .f32 := k0_pay69 (V487 m c) (R2 m c 0 0) (R2 m c 1 0) (R2 m c 2 0)
def V765 : FVec F S128x256 .f32 := k0_pay70 (V398 m c)
def V769 : FVec F S128x256 .f32 := k0_pay71 (pl c) (V92 m c) (V101 m c)
def V771 : FVec F S128x256 .f32 := k0_pay72 (V764 m c) (V765 m c) (V769 m c)
def V856 : FVec F S128x256 .f32 := k0_pay74 (pl c) (V92 m c) (V101 m c) (V398 m c) (V487 m c) (R2 m c 0 1) (R2 m c 1 1) (R2 m c 2 1)

/-- The halves of device `c`'s row of the result, as they are sent around. -/
def RD (h : Fin 2) : Vec F S1x128x256 .bf16 :=
  match h with
  | 0 => k0_pay73 (V764 m c) (V765 m c) (V769 m c)
  | 1 => k0_pay75 (pl c) (V92 m c) (V101 m c) (V398 m c) (V487 m c) (R2 m c 0 1) (R2 m c 1 1) (R2 m c 2 1)

/-- The place in a half row. -/
def ixH (i : Fin 1) (j : Fin 128) (k : Fin 256) : S1x128x256.Idx := fun a =>
  match a with
  | ⟨0, _⟩ => i
  | ⟨1, _⟩ => j
  | ⟨2, _⟩ => k

/-- The row whose halves are `a` and `b`. -/
def joinH (a b : Vec F S1x128x256 .bf16) : Vec F S1x128x512 .bf16 := fun i =>
  if h : (i 2).val < 256 then a (ixH (i 0) (i 1) ⟨(i 2).val, h⟩)
  else b (ixH (i 0) (i 1) ⟨(i 2).val - 256, by have : (i 2).val < 512 := (i 2).isLt; omega⟩)

/-- Device `c`'s row of the result, as the other devices read it. -/
def RW : Vec F S1x128x512 .bf16 := joinH (RD m c 0) (RD m c 1)

/-- What device `c` stores in row `q` of its result. -/
def outRow (q : Fin 4) : Vec F S1x128x512 .f32 :=
  if q = c then k0_pay76 (V771 m c) (V856 m c) else k0_pay77 (RW m q)

theorem pay79_78 (w : Vec F S1x128x512 .bf16) : k0_pay79 (k0_pay78 w) = k0_pay77 w := rfl

theorem pay80_77 (w : Vec F S1x128x512 .bf16) : k0_pay80 w = k0_pay77 w := rfl

end Vals

end Cert.KProof

end
-- ==== Proof.Cells.lean ====
/- The semaphores' schedule: which cell is paid by whom, how much, and what the payment hands over; what each device owes
   at each place of its program, and the levels that order the waits. -/
module

public import proofs.«01_k».proof.Proof.Vals
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, and the mesh's with duties named by a distance -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The runtime's barrier semaphore. -/
abbrev barS : Sem sig := (SemArray.scalar (sig.barrier 0 rfl) : Sems sig S_).sem
abbrev bc (c : Dev nD) : GSem nD τ sig := ((c : Thread nD τ), .reg barS)
abbrev dc (c : Dev nD) (n : Fin 58) : GSem nD τ sig := ((c : Thread nD τ), .dma n)

/-- The proof's cells of one device: at 0 the barrier, at `n` the transfers' semaphore `n`. -/
abbrev csem (n : Fin 58) : SemLoc sig := if n = 0 then .reg barS else .dma n
abbrev kcell (ck : Dev nD × Fin 58) : GSem nD τ sig := ((ck.1 : Thread nD τ), csem ck.2)

theorem csem_inj : ∀ n n' : Fin 58, csem n = csem n' → n = n' := by
  intro n n' h
  by_cases h0 : n = 0 <;> by_cases h1 : n' = 0
  · rw [h0, h1]
  · simp only [csem, if_pos h0, if_neg h1] at h; cases h
  · simp only [csem, if_neg h0, if_pos h1] at h; cases h
  · simp only [csem, if_neg h0, if_neg h1] at h; exact SemLoc.dma.inj h

theorem kcell_zero (c : Dev nD) : kcell (c, 0) = bc c := rfl
theorem kcell_dma (c : Dev nD) (n : Fin 58) (h : n ≠ 0) : kcell (c, n) = dc c n := by
  simp only [kcell, csem, if_neg h]

/-! ## Credits -/

/-- What one transfer of each kind credits: a row and a half row of the exchanged buffers. -/
abbrev N1 : ℕ := 4096
abbrev NH : ℕ := 2048

/-- What the transfer that ends on semaphore `n` credits. -/
def amt (n : ℕ) : ℕ :=
  match n with
  | 1 => xM.view.dmaCredit
  | 2 => teM.view.dmaCredit
  | 3 => wmM.view.dmaCredit
  | 4 => wqM.view.dmaCredit
  | 5 => wkM.view.dmaCredit
  | 6 => wvM.view.dmaCredit
  | 7 => woM.view.dmaCredit
  | 8 => f1M.view.dmaCredit
  | 9 => f2M.view.dmaCredit
  | n => if n < 16 then N1 else if n < 34 then NH else if n < 40 then N1 else NH

theorem amt_pos (n : ℕ) : 0 < amt n := by
  unfold amt
  split
  all_goals first
    | exact View.dmaCredit_pos _ (by decide)
    | (split_ifs <;> decide)

/-! ## Regions -/

/-- The third of a row's share that goes with the transfer `o` places on. -/
def third (o : ℕ) : PosShare TreeShare :=
  match o with
  | 1 => (fullShare : PosShare TreeShare).left
  | 2 => (fullShare : PosShare TreeShare).right.left
  | _ => (fullShare : PosShare TreeShare).right.right

/-- Rows and half rows, at their own shapes. -/
abbrev sl4 (M : Memref sig .tc .vmem S4x128x512 .bf16) (q : Fin 4) : Memref sig .tc .vmem S1x128x512 .bf16 := M.slice (row4 q) (fun _ => rfl)
abbrev sl3 (M : Memref sig .tc .vmem S3x128x512 .bf16) (q : Fin 3) : Memref sig .tc .vmem S1x128x512 .bf16 := M.slice (row3 q) (fun _ => rfl)
abbrev hf4 (M : Memref sig .tc .vmem S4x128x512 .bf16) (q : Fin 4) (h : Fin 2) : Memref sig .tc .vmem S1x128x256 .bf16 := M.slice (half4 q h) (fun _ => rfl)
abbrev hf3 (M : Memref sig .tc .vmem S3x128x512 .bf16) (q : Fin 3) (h : Fin 2) : Memref sig .tc .vmem S1x128x256 .bf16 := M.slice (half3 q h) (fun _ => rfl)

abbrev p1R (q : Fin 4) := sl4 p1M q
abbrev r1R (j : Fin 3) := sl3 r1M j
abbrev agR (q : Fin 4) := sl4 agM q
abbrev p2R (q : Fin 4) := sl4 p2M q
abbrev p2H (q : Fin 4) (h : Fin 2) := hf4 p2M q h
abbrev r2H (j : Fin 3) (h : Fin 2) := hf3 r2M j h
abbrev rdH (q : Fin 4) (h : Fin 2) := hf4 rdM q h
abbrev rdR (q : Fin 4) := sl4 rdM q

/-- Device `c` owns the memref at share `q`, reading `X` through it. -/
abbrev ow (c : Dev nD) {sp : Space} {s : Shape} {e : EltTy} (M : Memref sig .tc sp s e) (q : PosShare TreeShare)
    (X : s.Idx → Elt F e) : sProp 𝕄 := owns (c : Thread nD τ) M q X
/-- The same with the contents unspecified. -/
abbrev owE (c : Dev nD) {sp : Space} {s : Shape} {e : EltTy} (M : Memref sig .tc sp s e) : sProp 𝕄 :=
  iprop(∃ X : s.Idx → Elt F e, ow c M fullShare X)

/-- What device `e` hands device `c` at the barrier: the places on `e` that `c`'s transfers write. -/
def LandAt (c e : Dev nD) (j : Fin 3) : sProp 𝕄 :=
  iprop(owE (F := F) e (r1R j) ∗ owE (F := F) e (agR c) ∗ owE (F := F) e (r2H j 0) ∗ owE (F := F) e (r2H j 1)
    ∗ owE (F := F) e (rdH c 0) ∗ owE (F := F) e (rdH c 1))

/-- What `c` is handed by the device `k` places on. -/
def Land (c : Dev nD) (k : ℕ) : sProp 𝕄 :=
  match k with
  | 1 => LandAt (F := F) c (sh c 1) 0
  | 2 => LandAt (F := F) c (sh c 2) 1
  | _ => LandAt (F := F) c (sh c 3) 2

variable (m : (ℓ : Loc nD τ sig) → Buf (Elt F) ℓ) (ρ : Dev nD → PrngReg)

/-- The memory at launch. -/
def s₀ : MemSt nD τ sig (Elt F) := ⟨m, fun _ => 0, ρ⟩

/-- A whole buffer of device `c` at contents `f`. -/
abbrev pt (c : Dev nD) (b : Ref sig .tc) (f : Buf (Elt F) ((c : Thread nD τ).loc b)) : sProp 𝕄 := ((c : Thread nD τ).loc b) ↦{fullShare} f

/-- What the transfer that ends on semaphore `n` of device `c` hands over. -/
def dPay (c : Dev nD) (n : ℕ) : sProp 𝕄 :=
  match n with
  | 1 => iprop(pt c main_arg0 (A0 m c) ∗ pt c cc0_scratch0 (A0 m c))
  | 2 => iprop(pt c main_arg5 (A5 m c) ∗ pt c cc0_scratch5 (A5 m c))
  | 3 => iprop(pt c main_arg6 (A6 m c) ∗ pt c cc0_scratch6 (A6 m c))
  | 4 => iprop(pt c main_arg1 (A1 m c) ∗ pt c cc0_scratch1 (A1 m c))
  | 5 => iprop(pt c main_arg2 (A2 m c) ∗ pt c cc0_scratch2 (A2 m c))
  | 6 => iprop(pt c main_arg3 (A3 m c) ∗ pt c cc0_scratch3 (A3 m c))
  | 7 => iprop(pt c main_arg4 (A4 m c) ∗ pt c cc0_scratch4 (A4 m c))
  | 8 => iprop(pt c main_arg7 (A7 m c) ∗ pt c cc0_scratch7 (A7 m c))
  | 9 => iprop(pt c main_arg8 (A8 m c) ∗ pt c cc0_scratch8 (A8 m c))
  | 10 => ow c (p1R (sh c 1)) fullShare (P1 m c (sh c 1))
  | 11 => ow c (p1R (sh c 2)) fullShare (P1 m c (sh c 2))
  | 12 => ow c (p1R (sh c 3)) fullShare (P1 m c (sh c 3))
  | 13 => ow c (agR c) (third 1) (X1 m c)
  | 14 => ow c (agR c) (third 2) (X1 m c)
  | 15 => ow c (agR c) (third 3) (X1 m c)
  | 22 => ow c (p2H (sh c 1) 0) fullShare (halfOf (P2 m c 1) 0)
  | 23 => ow c (p2H (sh c 1) 1) fullShare (halfOf (P2 m c 1) 1)
  | 24 => ow c (p2H (sh c 2) 0) fullShare (halfOf (P2 m c 2) 0)
  | 25 => ow c (p2H (sh c 2) 1) fullShare (halfOf (P2 m c 2) 1)
  | 26 => ow c (p2H (sh c 3) 0) fullShare (halfOf (P2 m c 3) 0)
  | 27 => ow c (p2H (sh c 3) 1) fullShare (halfOf (P2 m c 3) 1)
  | 28 => ow c (rdH c 0) (third 1) (RD m c 0)
  | 29 => ow c (rdH c 1) (third 1) (RD m c 1)
  | 30 => ow c (rdH c 0) (third 2) (RD m c 0)
  | 31 => ow c (rdH c 1) (third 2) (RD m c 1)
  | 32 => ow c (rdH c 0) (third 3) (RD m c 0)
  | 33 => ow c (rdH c 1) (third 3) (RD m c 1)
  | 34 => ow c (r1R 0) fullShare (R1 m c 0)
  | 35 => ow c (r1R 1) fullShare (R1 m c 1)
  | 36 => ow c (r1R 2) fullShare (R1 m c 2)
  | 37 => ow c (agR (sh c 3)) fullShare (X1 m (sh c 3))
  | 38 => ow c (agR (sh c 2)) fullShare (X1 m (sh c 2))
  | 39 => ow c (agR (sh c 1)) fullShare (X1 m (sh c 1))
  | 46 => ow c (r2H 0 0) fullShare (R2 m c 0 0)
  | 47 => ow c (r2H 0 1) fullShare (R2 m c 0 1)
  | 48 => ow c (r2H 1 0) fullShare (R2 m c 1 0)
  | 49 => ow c (r2H 1 1) fullShare (R2 m c 1 1)
  | 50 => ow c (r2H 2 0) fullShare (R2 m c 2 0)
  | 51 => ow c (r2H 2 1) fullShare (R2 m c 2 1)
  | 52 => ow c (rdH (sh c 3) 0) fullShare (RD m (sh c 3) 0)
  | 53 => ow c (rdH (sh c 3) 1) fullShare (RD m (sh c 3) 1)
  | 54 => ow c (rdH (sh c 2) 0) fullShare (RD m (sh c 2) 0)
  | 55 => ow c (rdH (sh c 2) 1) fullShare (RD m (sh c 2) 1)
  | 56 => ow c (rdH (sh c 1) 0) fullShare (RD m (sh c 1) 0)
  | 57 => ow c (rdH (sh c 1) 1) fullShare (RD m (sh c 1) 1)
  | _ => iprop(emp)

instance dPay_storable (c : Dev nD) (n : ℕ) : BI.Storable (upEmb : UEmb _ 𝕄) (dPay m c n) := by
  unfold dPay
  split <;> infer_instance

instance Land_storable (c : Dev nD) (k : ℕ) : BI.Storable (upEmb : UEmb _ 𝕄) (Land (F := F) c k) := by
  unfold Land LandAt
  split <;> infer_instance

/-! ## The schedule -/

/-- The semaphores some transfer ends on. -/
def act (n : Fin 58) : Bool := (1 ≤ n.val ∧ n.val < 16) ∨ (22 ≤ n.val ∧ n.val < 40) ∨ 46 ≤ n.val

def Rd : Rounds.Schedule (GSem nD τ sig) (Fin 4) 𝕄 where
  duties g r := if r = 0 ∧ g.1.2 = .tc then
      (match g.2 with
        | .reg s => if s = barS then {1, 2, 3} else ∅
        | .dma n => if act n then {0} else ∅)
    else ∅
  unitless _ := False
  amount g _ _ := match g.2 with
    | .reg _ => 1
    | .dma n => amt n.val
  payload g _ d := match g.2 with
    | .reg _ => Land g.1.1 (4 - d.val)
    | .dma n => dPay m g.1.1 n.val
  amount_pos g _ _ _ := by
    dsimp only
    split
    · exact Nat.one_pos
    · exact amt_pos _

instance Rd_payload_storable (g : GSem nD τ sig) (r : ℕ) (d : Fin 4) :
    BI.Storable (upEmb : UEmb _ 𝕄) ((Rd (F := F) m).payload g r d) := by
  dsimp only [Rd]
  split <;> infer_instance

section Sched
variable (c : Dev nD) (n : Fin 58)

theorem duties_bar : (Rd (F := F) m).duties (bc c) 0 = {1, 2, 3} := rfl
theorem duties_dma (h : act n = true) : (Rd (F := F) m).duties (dc c n) 0 = {0} := by
  show (if act n = true then ({0} : Finset (Fin 4)) else ∅) = {0}
  rw [if_pos h]
theorem duties_idle (h : act n = false) (r : ℕ) : (Rd (F := F) m).duties (dc c n) r = ∅ := by
  show (if r = 0 ∧ _ then (if act n = true then ({0} : Finset (Fin 4)) else ∅) else ∅) = ∅
  rw [if_neg (show ¬ act n = true by rw [h]; decide)]; split_ifs <;> rfl
theorem duties_later (g : GSem nD τ sig) : ∀ r, 1 ≤ r → (Rd (F := F) m).duties g r = ∅ :=
  fun r hr => by dsimp only [Rd]; rw [if_neg fun h => by omega]

theorem amount_bar (d : Fin 4) : (Rd (F := F) m).amount (bc c) 0 d = 1 := rfl
theorem amount_dma (d : Fin 4) : (Rd (F := F) m).amount (dc c n) 0 d = amt n.val := rfl
theorem payload_bar (d : Fin 4) : (Rd (F := F) m).payload (bc c) 0 d = Land c (4 - d.val) := rfl
theorem payload_dma (d : Fin 4) : (Rd (F := F) m).payload (dc c n) 0 d = dPay m c n.val := rfl

theorem expect_bar : (Rd (F := F) m).expect (bc c) 0 = 3 := by
  unfold Schedule.expect Schedule.amountOf
  rw [duties_bar, Finset.sum_congr rfl fun d _ => amount_bar m c d]; rfl
theorem expect_dma (h : act n = true) : (Rd (F := F) m).expect (dc c n) 0 = amt n.val := by
  unfold Schedule.expect Schedule.amountOf; rw [duties_dma m c n h, Finset.sum_singleton, amount_dma]

theorem rest_bar : bigSep ((Rd (F := F) m).duties (bc c) 0 \ ∅) (fun d => (Rd (F := F) m).payload (bc c) 0 d)
    = iprop(Land c 3 ∗ Land c 2 ∗ Land c 1) := by
  rw [Finset.sdiff_empty, duties_bar, bigSep_eq_bigSepL_of_eq [1, 2, 3] (by decide) (by decide), bigSepL_cons_cons, bigSepL_cons_cons, bigSepL_singleton]
  rfl
theorem rest_dma (h : act n = true) : bigSep ((Rd (F := F) m).duties (dc c n) 0 \ ∅) (fun d => (Rd (F := F) m).payload (dc c n) 0 d)
    = dPay m c n.val := by
  rw [Finset.sdiff_empty, duties_dma m c n h, bigSep_singleton, payload_dma]

end Sched

/-! ## What a device owes, in the order it pays -/

/-- The payment of the attention rows: device `c` sends row `q` to device `q`, and nothing to itself. -/
def rsPay (c : Dev nD) (q : Fin 4) : GSem nD τ sig × ℕ :=
  (dc q ⟨34 + (q.val + 3 - c.val) % 4, by have := Nat.mod_lt (q.val + 3 - c.val) (show 0 < 4 by decide); omega⟩, if q = c then 0 else N1)

def pays (c : Dev nD) : List (GSem nD τ sig × ℕ) :=
  [(bc (sh c 1), 1), (bc (sh c 2), 1), (bc (sh c 3), 1),
   rsPay c 0, rsPay c 1, rsPay c 2, rsPay c 3,
   (dc (sh c 1) 37, N1), (dc (sh c 2) 38, N1), (dc (sh c 3) 39, N1),
   (dc (sh c 3) 50, NH), (dc (sh c 3) 51, NH), (dc (sh c 1) 46, NH), (dc (sh c 1) 47, NH), (dc (sh c 2) 48, NH), (dc (sh c 2) 49, NH),
   (dc (sh c 1) 52, NH), (dc (sh c 2) 54, NH), (dc (sh c 3) 56, NH), (dc (sh c 1) 53, NH), (dc (sh c 2) 55, NH), (dc (sh c 3) 57, NH)]

/-- The payments of a list, as tallies. -/
def owedL : List (GSem nD τ sig × ℕ) → CellTallies nD τ sig Unit
  | [] => 0
  | p :: l => owedL l + tallyAt p.1 () p.2

/-- What device `c` still owes before its payment number `k`. -/
def owed (c : Dev nD) (k : ℕ) : CellTallies nD τ sig Unit := owedL ((pays c).drop k)

/-- A position of the list of payments, as the debt before and after it. -/
theorem owed_step (c : Dev nD) (k : ℕ) (p : GSem nD τ sig × ℕ) (h : (pays c)[k]? = some p) :
    owed c k = owed c (k + 1) + tallyAt p.1 () p.2 := by
  unfold owed
  obtain ⟨hk, hp⟩ := List.getElem?_eq_some_iff.mp h
  rw [List.drop_eq_getElem_cons hk, hp]; rfl

theorem owedL_pos {l : List (GSem nD τ sig × ℕ)} {g : GSem nD τ sig} {u : Unit} (h : 0 < owedL l g u) : ∃ p ∈ l, p.1 = g := by
  induction l with
  | nil => exact absurd h (Nat.lt_irrefl 0)
  | cons p l ih =>
    unfold owedL at h
    rw [Pi.add_apply, Finsupp.add_apply, tallyAt_apply] at h
    by_cases hg : g = p.1
    · exact ⟨p, List.mem_cons_self, hg.symm⟩
    · rw [if_neg (fun h' => hg h'.1), Nat.add_zero] at h
      obtain ⟨p', hp', he⟩ := ih h
      exact ⟨p', List.mem_cons_of_mem _ hp', he⟩

/-! ## Levels -/

def L (g : GSem nD τ sig) : Finset Unit := if g.1.2 = .tc then {()} else ∅

def lvN (n : ℕ) : ℕ := if n < 34 then 0 else if n < 37 then 2 else if n < 40 then 3 else if n < 52 then 4 else 5
def lv (g : GSem nD τ sig) (_ : Unit) : ℕ := match g.2 with
  | .reg _ => 1
  | .dma n => lvN n.val

theorem L_of_ne (g : GSem nD τ sig) (h : g.1.2 ≠ .tc) : L g = ∅ := if_neg h
theorem L_tc (c : Dev nD) (sm : SemLoc sig) : L ((c : Thread nD τ), sm) = {()} := if_pos rfl

theorem pays_tc : ∀ c : Dev nD, ∀ p ∈ pays c, p.1.1.2 = .tc := by
  intro c p hp
  simp only [pays, rsPay, List.mem_cons, List.not_mem_nil, or_false] at hp
  rcases hp with h | h | h | h | h | h | h | h | h | h | h | h | h | h | h | h | h | h | h | h | h | h <;> rw [h]

/-- The level of the payments from number `k` on. -/
def cut (k : ℕ) : ℕ := if k < 3 then 1 else if k < 7 then 2 else if k < 10 then 3 else if k < 16 then 4 else 5

theorem cut_le : ∀ c : Dev nD, ∀ k : Fin 22, ∀ p ∈ (pays c).drop k.val, cut k.val ≤ lv p.1 () := by decide

theorem pays_len (c : Dev nD) : (pays c).length = 22 := rfl

/-- A wait below every level still owed is allowed. -/
theorem mayWait_cut (c : Dev nD) (sm : SemLoc sig) (k : ℕ) (h : k < 22 → lv ((c : Thread nD τ), sm) () < cut k) :
    (levAts L lv : sProp 𝕄) ⊢ MayWait (c : Thread nD τ) sm () (owed c k) := by
  by_cases hk : k < 22
  · refine MayOwe.of_cut (L := L) (lev := lv) (lv ((c : Thread nD τ), sm) ()) (fun p hp => by rw [Finset.mem_singleton.mp hp, L_tc]; exact Finset.mem_singleton_self _)
      (fun g u hg => by
        obtain ⟨p, hp, rfl⟩ := owedL_pos hg
        unfold L; rw [if_pos (pays_tc c p (List.drop_subset _ _ hp))]; exact Finset.mem_singleton_self _)
      (fun p hp => by rw [Finset.mem_singleton.mp hp])
      (fun g u hg => by
        obtain ⟨p, hp, rfl⟩ := owedL_pos hg
        exact lt_of_lt_of_le (h hk) (cut_le c ⟨k, hk⟩ p hp))
  · have h0 : owed c k = 0 := by
      unfold owed; rw [List.drop_eq_nil_of_le (by rw [pays_len]; omega)]; rfl
    rw [h0, MayWait_zero]; iintro -; iempintro

end Cert.KProof

end
-- ==== Proof.Wrap.lean ====
/- One rule per kind of effect of the body, each in terms of the schedule: signals, the barrier's wait, transfers in,
   transfers out, waits, loads and stores of rows. -/
module

public import proofs.«01_k».proof.Proof.Cells

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## What every step reads: the cells' invariants, that each cell's round is reached, the levels -/

def records (K : Dev nD × Fin 58 → ℕ) : sProp 𝕄 :=
  iprop((bigSep Finset.univ fun ck : Dev nD × Fin 58 => cellInv ER (Rd m) (K ck) (kcell ck))
    ∗ (bigSep Finset.univ fun ck : Dev nD × Fin 58 => reached ER (kcell ck) 0) ∗ levAts L lv)

instance records_persistent (K : Dev nD × Fin 58 → ℕ) : BI.Persistent (records m K) := by
  unfold records; infer_instance

variable (K : Dev nD × Fin 58 → ℕ)

theorem records_lev : records m K ⊢ (levAts L lv : sProp 𝕄) := by
  unfold records; iintro ⟨-, -, H⟩; iexact H

theorem records_cell (ck : Dev nD × Fin 58) : records m K ⊢ iprop(cellInv ER (Rd m) (K ck) (kcell ck) ∗ reached ER (kcell ck) 0) := by
  have h1 : (bigSep Finset.univ fun ck : Dev nD × Fin 58 => cellInv ER (Rd m) (K ck) (kcell ck) : sProp 𝕄) ⊢ cellInv ER (Rd m) (K ck) (kcell ck) :=
    bigSep_elim (Finset.mem_univ ck)
  have h2 : (bigSep Finset.univ fun ck : Dev nD × Fin 58 => reached ER (kcell ck) 0 : sProp 𝕄) ⊢ reached ER (kcell ck) 0 :=
    bigSep_elim (Φ := fun ck : Dev nD × Fin 58 => (reached ER (kcell ck) 0 : sProp 𝕄)) (Finset.mem_univ ck)
  unfold records
  iintro ⟨H1, H2, -⟩
  isplitl [H1]
  · iapply h1; iexact H1
  · iapply h2; iexact H2

theorem records_bar (c : Dev nD) : records m K ⊢ iprop(cellInv ER (Rd m) (K (c, 0)) (bc c) ∗ reached ER (bc c) 0) := records_cell m K (c, 0)
theorem records_dma (c : Dev nD) (n : Fin 58) (h : n ≠ 0) :
    records m K ⊢ iprop(cellInv ER (Rd m) (K (c, n)) (dc c n) ∗ reached ER (dc c n) 0) := by
  have := records_cell m K (c, n); rw [kcell_dma c n h] at this; exact this

theorem act_ne (n : Fin 58) (h : act n = true) : n ≠ 0 := by rintro rfl; revert h; decide

/-! ## The state between steps -/

/-- Device `c` before its payment number `k`. -/
def Ow (c : Dev nD) (k : ℕ) : sProp 𝕄 := iprop(∃ W, owes (c : Thread nD τ) (owed c k) W)
/-- A started transfer: the claim on its credit. -/
def Clm (c : Dev nD) (n : Fin 58) : sProp 𝕄 := iprop(cred (tallyAt (dc c n) () (amt n.val)) ∗ atPos ER (dc c n) 0 ∅ 0)
/-- A transfer in that is not started. -/
def LdB (c : Dev nD) (n : Fin 58) : sProp 𝕄 := iprop(dutyTok ER (dc c n) 0 0 ∗ atPos ER (dc c n) 0 ∅ 0)
/-- A transfer out that is not started. -/
def SndB (c : Dev nD) (n₁ : Fin 58) (e : Dev nD) (n₂ : Fin 58) : sProp 𝕄 :=
  iprop(dutyTok ER (dc c n₁) 0 0 ∗ atPos ER (dc c n₁) 0 ∅ 0 ∗ dutyTok ER (dc e n₂) 0 0)
/-- A semaphore done with, at zero. -/
def Zr (c : Dev nD) (n : Fin 58) : sProp 𝕄 := semVal (dc c n) 0

/-- The rest of the program from `p` reaches `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig Unit (Elt F) ℕ UU ℕ)}

/-! ## The barrier -/

theorem st_ret (c : Dev nD) (a : α) : Q a ⊢ WP c (.ret a) Q := by
  unfold WP; rw [wp_ret]; iintro H; imodintro; iexact H

/-- The end of a stretch, its results named. -/
theorem st_retE (c : Dev nD) (a b : α) (h : a = b) : Q b ⊢ WP c (.ret a) Q := by subst h; exact st_ret c a

theorem st_signal (c d : Dev nD) (k : Fin 4) (a j i : ℕ) (ha : k.val = a ∧ a = j + 1 ∧ j < 3 ∧ i + a = 4) (hd : d = sh c a) (N : ℕ) (hN : N = 1)
    {kk : PUnit → Prog (TpuEff nD τ sig (Elt F) Λ₀ .tc) α} :
    records m K ⊢ iprop(Ow c j -∗ dutyTok ER (bc (sh c a)) 0 k -∗ Land (sh c a) i -∗
      (Ow c a -∗ WP c (kk ⟨⟩) Q) -∗ WP c (.op (.semSignal (Dev.tc d : Thread nD τ) barS N) kk) Q) := by
  obtain ⟨rfl, hj, hj3, hi⟩ := ha
  subst hd hN
  have hk : k = 1 ∨ k = 2 ∨ k = 3 := by
    have h1 : k.val = 1 ∨ k.val = 2 ∨ k.val = 3 := by omega
    rcases h1 with h | h | h
    · exact .inl (Fin.ext h)
    · exact .inr (.inl (Fin.ext h))
    · exact .inr (.inr (Fin.ext h))
  obtain rfl : i = 4 - k.val := by omega
  obtain rfl : j = k.val - 1 := by omega
  have hO : owed c (k.val - 1) = owed c k.val + tallyAt (bc (sh c k.val)) () 1 := by
    rcases hk with rfl | rfl | rfl <;> exact owed_step c _ (bc (sh c _), 1) rfl
  unfold Ow
  iintro #HR ⟨%W, HO⟩ Ht HL Hk
  ihave #HI := (records_bar m K (sh c k.val)) $$ HR
  icases HI with ⟨#HI, #Hr⟩
  iapply (Rounds.wp_signal 𝒱₀ ER (Rd m) (c : Thread nD τ) none (dst := ((sh c k.val : Dev nD) : Thread nD τ)) (κ := K (sh c k.val, 0))
      (d := k) (by rw [duties_bar]; rcases hk with h | h | h <;> rw [h] <;> decide) (amount_bar m (sh c k.val) k) () (owed c k.val) hO)
    $$ [HO Ht HL]
  · isplitr; · iexact HI
    isplitl [HO]; · iexact HO
    isplitl [Ht]; · iexact Ht
    isplitl [HL]; · rw [payload_bar]; iexact HL
    iexact Hr
  iintro HO
  iapply Hk; iexists W; iexact HO

theorem st_barWait (c : Dev nD) (N : ℕ) (hN : N = 3)
    {kk : PUnit → Prog (TpuEff nD τ sig (Elt F) Λ₀ .tc) α} :
    records m K ⊢ iprop(Ow c 3 -∗ cred (tallyAt (bc c) () 3) -∗ atPos ER (bc c) 0 ∅ 0 -∗
      ((Ow c 3 ∗ Land (F := F) c 3 ∗ Land (F := F) c 2 ∗ Land (F := F) c 1 ∗ semVal (bc c) 0) -∗ WP c (kk ⟨⟩) Q) -∗ WP c (.op (.semWait barS N) kk) Q) := by
  subst hN
  unfold Ow
  iintro #HR ⟨%W, HO⟩ Hc Hat Hk
  ihave #HI := (records_bar m K c) $$ HR
  icases HI with ⟨#HI, -⟩
  iapply (Rounds.wp_wait_rest_token 𝒱₀ ER (Rd m) (c : Thread nD τ) none (κ := K (c, 0))
      (wpE_semWait_eq 𝒱₀ (c : Thread nD τ) none Set.univ) (Set.mem_univ _) () (O := owed c 3) (W := W) (R := 0) (m := 0) (T := ∅)
      (by rw [expect_bar])) $$ [Hc HO Hat]
  · isplitr; · iexact HI
    isplitl [Hc]; · iexact Hc
    isplitl [HO]; · iexact HO
    isplitr; · iapply (mayWait_cut c (.reg barS) 3 (fun _ => by show 1 < cut 3; decide)); iapply (records_lev m K); iexact HR
    iexact Hat
  iintro ⟨HO, Hat, -, Hp⟩
  ihave Hp := (Entails.of_eq (rest_bar m c)) $$ Hp
  icases Hp with ⟨H3, H2, H1⟩
  imod (Rounds.cell_close ER (Rd m) (Set.mem_univ (K (c, 0))) (fun h => h) (R := 0 + 1) (duties_later m (bc c))) $$ [Hat] with Hz
  · isplitr; · iexact HI
    iexact Hat
  iapply Hk
  isplitl [HO]; · iexists _; iexact HO
  isplitl [H3]; · iexact H3
  isplitl [H2]; · iexact H2
  isplitl [H1]; · iexact H1
  iexact Hz

/-! ## Transfers in, and waits -/

theorem st_fetch (c : Dev nD) (n : Fin 58) (q : DmaSem sig) (hq : q = n) (ha : act n = true) {sp sp' : Space} {s : Shape} {e : EltTy}
    {src : Memref sig .tc sp s e} {dst : Memref sig .tc sp' s e} (fs : Buf (Elt F) (src.view.loc (c : Thread nD τ))) (fs' : Buf (Elt F) (dst.view.loc (c : Thread nD τ)))
    (hS : src.view.set = Finset.univ) (hD : dst.view.set = Finset.univ)
    (hw : ∀ fd, dst.view.write (Elt F) fd (src.view.read (Elt F) fs) Finset.univ = fs')
    (hN : dst.view.dmaCredit = amt n.val)
    (hpay : iprop((src.view.loc (c : Thread nD τ) ↦{fullShare} fs) ∗ (dst.view.loc (c : Thread nD τ) ↦{fullShare} fs')) ⊢ dPay m c n.val)
    {hsrc : src.view.WordExact} {hdst : dst.view.WordExact} {hsem : DmaTarget.Typed (nD := nD) (p := (c : Thread nD τ).2) sp (.dma q) (.here dst)}
    {kk : PUnit → Prog (TpuEff nD τ sig (Elt F) Λ₀ .tc) α} :
    records m K ⊢ iprop(LdB c n -∗ (src.view.loc (c : Thread nD τ) ↦{fullShare} fs) -∗ (∃ fd, dst.view.loc (c : Thread nD τ) ↦{fullShare} fd) -∗
      (Clm c n -∗ WP c (kk ⟨⟩) Q) -∗ WP c (.op (.enqueueDma src (.here dst) (.dma q) hsrc hdst hsem) kk) Q) := by
  subst hq
  unfold LdB Clm
  iintro #HR ⟨Ht, Hat⟩ Hs ⟨%fd, Hd⟩ Hk
  ihave #HI := (records_dma m K c q (act_ne q ha)) $$ HR
  icases HI with ⟨#HI, #Hr⟩
  iapply (Rounds.wp_copy_pointsTo 𝒱₀ ER (Rd m) (c : Thread nD τ) none (κ := K (c, q)) (r := 0) (d := 0) (fd := fd) (fs := fs)
      (by rw [duties_dma m c q ha]; exact Finset.mem_singleton_self _) () (amt q.val) (show dst.view.amount (.dma q) = _ from hN) (amount_dma m c q 0)
      (by rw [payload_dma, hS, hD, hw]; iintro ⟨H1, H2⟩; iapply hpay; isplitl [H2]; · iexact H2
          iexact H1)) $$ [Ht Hs Hd]
  · isplitr; · iexact HI
    isplitl [Hs]; · rw [hS]; iexact Hs
    isplitl [Hd]; · rw [hD]; iexact Hd
    isplitl [Ht]; · iexact Ht
    iexact Hr
  iintro Hc
  iapply Hk
  isplitl [Hc]; · iexact Hc
  iexact Hat

theorem st_wait (c : Dev nD) (n : Fin 58) (k : ℕ) (q : DmaSem sig) (hq : q = n) (ha : act n = true) (hk : k < 22 → lvN n.val < cut k)
    {sp sp' : Space} {s s' : Shape} {e e' : EltTy} {src : Memref sig .tc sp s e} {dst : Memref sig .tc sp' s' e'}
    (P : sProp 𝕄) (hP : dPay m c n.val ⊢ P)
    (hN : dst.view.dmaCredit = amt n.val) {h1} {h2}
    {kk : PUnit → Prog (TpuEff nD τ sig (Elt F) Λ₀ .tc) α} :
    records m K ⊢ iprop(Clm c n -∗ Ow c k -∗
      ((Ow c k ∗ P ∗ Zr c n) -∗ WP c (kk ⟨⟩) Q) -∗ WP c (.op (.waitDma2 q src dst h1 h2) kk) Q) := by
  subst hq
  unfold Ow Clm Zr
  iintro #HR ⟨Hc, Hat⟩ ⟨%W, HO⟩ Hk
  ihave #HI := (records_dma m K c q (act_ne q ha)) $$ HR
  icases HI with ⟨#HI, -⟩
  rw [← hN]
  iapply (Rounds.wp_wait_rest_token 𝒱₀ ER (Rd m) (c : Thread nD τ) none (κ := K (c, q))
      (wpE_waitDma2_eq 𝒱₀ (c : Thread nD τ) none Set.univ) (Set.mem_univ _) () (O := owed c k) (W := W) (R := 0) (m := 0) (T := ∅)
      (by rw [Nat.zero_add, expect_dma m c q ha, hN])) $$ [Hc HO Hat]
  · isplitr; · iexact HI
    isplitl [Hc]; · iexact Hc
    isplitl [HO]; · iexact HO
    isplitr; · iapply (mayWait_cut c (.dma q) k hk); iapply (records_lev m K); iexact HR
    iexact Hat
  iintro ⟨HO, Hat, -, Hp⟩
  ihave Hp := (Entails.of_eq (rest_dma m c q ha)) $$ Hp
  imod (Rounds.cell_close ER (Rd m) (Set.mem_univ (K (c, q))) (fun h => h) (R := 0 + 1) (duties_later m (dc c q))) $$ [Hat] with Hz
  · isplitr; · iexact HI
    iexact Hat
  iapply Hk
  isplitl [HO]; · iexists _; iexact HO
  isplitl [Hp]; · iapply hP; iexact Hp
  iexact Hz

/-! ## Transfers out -/

/-- What a row holds after a transfer into it through two views of the rows that drop the same axis. -/
theorem read_landed {s s' : Shape} (h : s'.numel = s.numel) {sp sp' : Space} {e : EltTy} (v : View sig .tc sp s e) (w : View sig .tc sp' s e)
    (fd : v.ty.Contents (Elt F)) (fs : w.ty.Contents (Elt F)) :
    v.read (Elt F) ((v.reshape s' h).write (Elt F) fd ((w.reshape s' h).read (Elt F) fs) Finset.univ) = w.read (Elt F) fs := by
  funext i
  have h1 := congrFun (View.read_write_univ (v := v.reshape s' h) (Val := Elt F) fd ((w.reshape s' h).read (Elt F) fs)) ((Shape.reshapeEquiv h).symm i)
  have h2 : ∀ (x : s.Idx), (Shape.reshapeEquiv h) ((Shape.reshapeEquiv h).symm x) = x := fun x => Equiv.apply_symm_apply _ _
  have hv : ∀ (g : v.ty.Contents (Elt F)) (j : s'.Idx), (v.reshape s' h).read (Elt F) g j = v.read (Elt F) g (Shape.reshapeEquiv h j) := fun g j => rfl
  have hw : ∀ (g : w.ty.Contents (Elt F)) (j : s'.Idx), (w.reshape s' h).read (Elt F) g j = w.read (Elt F) g (Shape.reshapeEquiv h j) := fun g j => rfl
  rw [hv, hw, h2] at h1
  exact h1

theorem pts_ow (c : Dev nD) {sp : Space} {s : Shape} {e : EltTy} {M : Memref sig .tc sp s e} {q : PosShare TreeShare}
    {f : Buf (Elt F) (M.view.loc (c : Thread nD τ))} {X : s.Idx → Elt F e} (h : M.view.read (Elt F) f = X) :
    (M.view.loc (c : Thread nD τ) ↦[M.view.set]{q} f : sProp 𝕄) ⊢ ow c M q X := by
  subst h; exact owns_intro (c : Thread nD τ) M q f

theorem st_send (c e e' : Dev nD) (he : e' = e) (k : ℕ) (n₁ n₂ : Fin 58) (q₁ q₂ : DmaSem sig) (hq₁ : q₁ = n₁) (hq₂ : q₂ = n₂) {s s' : Shape} (hsq : s.Squeezes s')
    {src src₀ dst dst₀ : Memref sig .tc .vmem s .bf16} (hs : src = src₀) (hd : dst = dst₀) (ha₁ : act n₁ = true) (ha₂ : act n₂ = true)
    (N : ℕ) (hN : (dst₀.squeeze s' hsq).view.dmaCredit = N) (h₁ : amt n₁.val = N) (h₂ : amt n₂.val = N)
    (hp : (pays c)[k]? = some (dc e n₂, N)) (q : PosShare TreeShare) (X : s.Idx → Elt F .bf16)
    (hpay₁ : ow c src₀ q X ⊢ dPay m c n₁.val) (hpay₂ : ow e dst₀ fullShare X ⊢ dPay m e n₂.val)
    {hsc : (dst.squeeze s' hsq).view.ref.isScScratch = false} {hsrc : (src.squeeze s' hsq).view.WordExact} {hdst : (dst.squeeze s' hsq).view.WordExact}
    {hsem : DmaTarget.Typed .vmem (.dma q₂) (.remote (Dev.tc e' : Thread nD τ) (dst.squeeze s' hsq) (.dma q₁) hsc)}
    {kk : PUnit → Prog (TpuEff nD τ sig (Elt F) Λ₀ .tc) α} :
    records m K ⊢ iprop(ow c src₀ q X -∗ owE e dst₀ -∗ Ow c k -∗ SndB c n₁ e n₂ -∗
      ((Clm c n₁ ∗ Ow c (k + 1)) -∗ WP c (kk ⟨⟩) Q)
          -∗ WP c (.op (.enqueueDma (src.squeeze s' hsq) (.remote (Dev.tc e' : Thread nD τ) (dst.squeeze s' hsq) (.dma q₁) hsc) (.dma q₂) hsrc hdst hsem) kk) Q) := by
  subst he hq₁ hq₂ hs hd hN
  unfold Ow Clm SndB owE ow owns
  have hset₁ : (src.squeeze s' hsq).view.set = src.view.set := View.set_reshape _ _
  have hset₂ : (dst.squeeze s' hsq).view.set = dst.view.set := View.set_reshape _ _
  have hp₁ : ∀ fs : Buf (Elt F) (src.view.loc (c : Thread nD τ)), src.view.read (Elt F) fs = X →
      ((src.squeeze s' hsq).view.loc (c : Thread nD τ) ↦[(src.squeeze s' hsq).view.set]{q} fs : sProp 𝕄) ⊢ (Rd m).payload (dc c q₁) 0 0 := by
    intro fs hfs
    rw [payload_dma, hset₁]
    exact (pts_ow (M := src) (f := fs) c hfs).trans hpay₁
  have hp₂ : ∀ (fs : Buf (Elt F) (src.view.loc (c : Thread nD τ))) (fd : Buf (Elt F) (dst.view.loc (e' : Thread nD τ))), src.view.read (Elt F) fs = X →
      ((dst.squeeze s' hsq).view.loc (e' : Thread nD τ) ↦[(dst.squeeze s' hsq).view.set]{fullShare}
        ((dst.squeeze s' hsq).view.write (Elt F) fd ((src.squeeze s' hsq).view.read (Elt F) fs) Finset.univ) : sProp 𝕄) ⊢ (Rd m).payload (dc e' q₂) 0 0 := by
    intro fs fd hfs
    rw [payload_dma, hset₂]
    have h := read_landed (F := F) hsq.numel_eq dst.view src.view fd fs
    exact (pts_ow (M := dst) (f := (dst.squeeze s' hsq).view.write (Elt F) fd ((src.squeeze s' hsq).view.read (Elt F) fs) Finset.univ) e' (h.trans hfs)).trans hpay₂
  iintro #HR ⟨%fs, %hfs, Hs⟩ ⟨%X', %fd, %hfd, Hd⟩ ⟨%W, HO⟩ ⟨Ht₁, Hat, Ht₂⟩ Hk
  ihave #HI := (records_dma m K c q₁ (act_ne q₁ ha₁)) $$ HR
  icases HI with ⟨#HI₁, #Hr₁⟩
  ihave #HJ := (records_dma m K e' q₂ (act_ne q₂ ha₂)) $$ HR
  icases HJ with ⟨#HI₂, #Hr₂⟩
  iapply (Rounds.wp_send_pointsTo 𝒱₀ ER (Rd m) (c : Thread nD τ) none (κ₁ := K (c, q₁)) (κ₂ := K (e', q₂))
    (src := src.squeeze s' hsq) (dst := dst.squeeze s' hsq) (c' := (e' : Thread nD τ)) (q := q)
    (r₁ := 0) (r₂ := 0) (d₁ := 0) (d₂ := 0) (fs := fs) (fd := fd)
    (by rw [duties_dma m c q₁ ha₁]; exact Finset.mem_singleton_self _) (by rw [duties_dma m e' q₂ ha₂]; exact Finset.mem_singleton_self _)
    () () (dst.squeeze s' hsq).view.dmaCredit rfl ((amount_dma m c q₁ 0).trans h₁) ((amount_dma m e' q₂ 0).trans h₂) (owed c (k + 1)) (owed_step c k _ hp) (W := W)
    (hp₁ fs hfs) (hp₂ fs fd hfs)) $$ [Hs Hd HO Ht₁ Ht₂]
  · isplitr; · iexact HI₁
    isplitr; · iexact HI₂
    isplitl [Hs]; · rw [hset₁]; iexact Hs
    isplitl [Hd]; · rw [hset₂]; iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc Hat]
  · isplitl [Hc]; · rw [h₁]; iexact Hc
    iexact Hat
  iexists W; iexact HO

/-! ## Loads and stores of a part held alone -/

theorem st_load (c : Dev nD) {s : Shape} {e : EltTy} {M : Memref sig .tc .vmem s e} {o o₀ : Fin s.rank → ℕ} (ho : o = o₀) {z : Fin s.rank → ℕ}
    {hb : ∀ a, o a + z a ≤ s.size a} {hb₀ : ∀ a, o₀ a + z a ≤ s.size a} {h : ∀ a, (Rect.unit (s := s) o₀ z hb₀).stride a = 1}
    (q : PosShare TreeShare) (X : Shape.Idx ⟨s.rank, z⟩ → Elt F e) {hl : M.view.LoadsAt (Rect.unit (s := s) o z hb).toLoadRect}
    {kk : (Shape.Idx ⟨s.rank, z⟩ → Elt F e) → Prog (TpuEff nD τ sig (Elt F) Λ₀ .tc) α} :
    ow c (sp := .vmem) (s := ⟨s.rank, z⟩) (e := e) (M.slice (Rect.unit (s := s) o₀ z hb₀) h) q X ⊢ iprop((ow c (sp := .vmem) (s := ⟨s.rank, z⟩) (e := e) (M.slice (Rect.unit (s := s) o₀ z hb₀) h) q X -∗ WP c (kk X) Q)
      -∗ WP c (.op (.load M (Rect.unit (s := s) o z hb).toLoadRect hl) kk) Q) := by
  subst ho
  unfold ow owns
  iintro ⟨%f, %hf, H⟩ Hk
  iapply (wp_load_rect 𝒱₀ (c : Thread nD τ) none Set.univ (m := M) (r := Rect.unit (s := s) o z hb) (Finset.Subset.refl _)) $$ H
  iintro H
  rw [show (M.access (Rect.unit (s := s) o z hb)).read (Elt F) f = X from hf]
  iapply Hk; iexists f; isplitr; · ipureintro; exact hf
  iexact H

theorem st_store (c : Dev nD) {s : Shape} {e : EltTy} {M : Memref sig .tc .vmem s e} {o o₀ : Fin s.rank → ℕ} (ho : o = o₀) {z : Fin s.rank → ℕ}
    {hb : ∀ a, o a + z a ≤ s.size a} {hb₀ : ∀ a, o₀ a + z a ≤ s.size a} {h : ∀ a, (Rect.unit (s := s) o₀ z hb₀).stride a = 1}
    (X w w' : Shape.Idx ⟨s.rank, z⟩ → Elt F e) (hww : w' = w)
    {hx : (M.access (Rect.unit (s := s) o z hb)).Stores Finset.univ} {hm : Finset.univ = Finset.univ ∨ ∀ a, (Rect.unit (s := s) o z hb).stride a = 1}
    {kk : PUnit → Prog (TpuEff nD τ sig (Elt F) Λ₀ .tc) α} :
    ow c (sp := .vmem) (s := ⟨s.rank, z⟩) (e := e) (M.slice (Rect.unit (s := s) o₀ z hb₀) h) fullShare X ⊢ iprop((ow c (sp := .vmem) (s := ⟨s.rank, z⟩) (e := e) (M.slice (Rect.unit (s := s) o₀ z hb₀) h) fullShare w -∗ WP c (kk ⟨⟩) Q)
      -∗ WP c (.op (.store M (Rect.unit (s := s) o z hb) w' Finset.univ hx hm) kk) Q) := by
  subst ho; subst hww
  unfold ow owns
  iintro ⟨%f, %hf, H⟩ Hk
  iapply (wp_store 𝒱₀ (c : Thread nD τ) none Set.univ (m := M) (r := Rect.unit (s := s) o z hb) (Mk := Finset.univ)
    (S := (M.access (Rect.unit (s := s) o z hb)).set) (f := f) (View.setOn_subset_set _ _)) $$ H
  iintro H
  iapply Hk; iexists _; isplitr
  swap
  · iexact H
  · ipureintro; exact View.read_write_univ (v := M.access (Rect.unit (s := s) o z hb)) (Val := Elt F) f _

/-- A load from a whole buffer. -/
theorem st_loadW (c : Dev nD) {s : Shape} {e : EltTy} {M : Memref sig .tc .vmem s e} (r : Rect s) (f : Buf (Elt F) (M.view.loc (c : Thread nD τ)))
    (X : r.shape.Idx → Elt F e) (hX : M.view.readAt (Elt F) r.toLoadRect f = X) {hl : M.view.LoadsAt r.toLoadRect}
    {kk : (r.shape.Idx → Elt F e) → Prog (TpuEff nD τ sig (Elt F) Λ₀ .tc) α} :
    (M.view.loc (c : Thread nD τ) ↦{fullShare} f) ⊢ iprop(((M.view.loc (c : Thread nD τ) ↦{fullShare} f) -∗ WP c (kk X) Q)
      -∗ WP c (.op (.load M r.toLoadRect hl) kk) Q) := by
  subst hX
  iintro H Hk
  iapply (wp_load 𝒱₀ (c : Thread nD τ) none Set.univ (m := M) (r := r.toLoadRect) (S := Finset.univ) (Finset.subset_univ _)) $$ H
  iintro H
  iapply Hk; iexact H

end Cert.KProof

end
-- ==== Proof.Parts1.lean ====
/- The first stretch of the body: the transfers in, the barrier, and the loads of the arguments. -/
module

public import proofs.«01_k».proof.Proof.Wrap

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 58 → ℕ) (c : Dev nD)

/-- A transfer in, before it starts: its semaphore, the argument and the place it lands. -/
def LdIn (n : Fin 58) (b b' : Ref sig .tc) (f : Buf (Elt F) ((c : Thread nD τ).loc b)) : sProp 𝕄 :=
  iprop(LdB c n ∗ pt c b f ∗ ∃ g, pt c b' g)

/-- What a transfer of a whole buffer leaves. -/
theorem lands (b : Ref sig .tc) (fd g : b.ty.Contents (Elt F)) : (Memref.whole b).view.write (Elt F) fd g Finset.univ = g :=
  View.write_whole_univ _ _ _

set_option maxHeartbeats 2000000 in
theorem part1 (Φ : (Σ' (d0 : Dev nD) (v2 : BitVec 32) (v21 : Sems sig S_), BitVec 32) → sProp 𝕄) :
    records m K ⊢ iprop(LdIn c 1 main_arg0 cc0_scratch0 (A0 m c) -∗ LdIn c 2 main_arg5 cc0_scratch5 (A5 m c) -∗ LdIn c 3 main_arg6 cc0_scratch6 (A6 m c)
      -∗ LdIn c 4 main_arg1 cc0_scratch1 (A1 m c) -∗ LdIn c 5 main_arg2 cc0_scratch2 (A2 m c) -∗ LdIn c 6 main_arg3 cc0_scratch3 (A3 m c)
      -∗ LdIn c 7 main_arg4 cc0_scratch4 (A4 m c) -∗ LdIn c 8 main_arg7 cc0_scratch7 (A7 m c) -∗ LdIn c 9 main_arg8 cc0_scratch8 (A8 m c)
      -∗ Ow c 0 -∗ dutyTok ER (bc (sh c 1)) 0 1 -∗ Land (F := F) (sh c 1) 3
      -∗ (∀ w, (Clm c 1 ∗ Clm c 2 ∗ Clm c 3 ∗ Clm c 4 ∗ Clm c 5 ∗ Clm c 6 ∗ Clm c 7 ∗ Clm c 8 ∗ Clm c 9 ∗ Ow c 1)
          -∗ Φ ⟨c, pl c, SemArray.scalar (sig.barrier 0 rfl), w⟩)
      -∗ WP c (k0_part1 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17) Φ) := by
  rw [k0_part1_eq_skeleton]; unfold k0_part1_skel
  simp only [semSignalWord, semWaitWord, Prog.lift, Prog.bind_op, Prog.bind_ret, Prog.pure_eq_ret, wp_deviceId]
  unfold LdIn
  iintro #HR ⟨L1, a1, d1⟩ ⟨L2, a2, d2⟩ ⟨L3, a3, d3⟩ ⟨L4, a4, d4⟩ ⟨L5, a5, d5⟩ ⟨L6, a6, d6⟩ ⟨L7, a7, d7⟩ ⟨L8, a8, d8⟩ ⟨L9, a9, d9⟩ HO Ht HL Hk
  iapply (st_fetch m K c 1 _ rfl rfl (src := Memref.whole main_arg0) (dst := xM) (A0 m c) (A0 m c) (View.set_whole _) (View.set_whole _) (fun fd => lands cc0_scratch0 fd (A0 m c)) rfl (Entails.refl _)) $$ HR L1 a1 d1; iintro L1
  iapply (st_fetch m K c 2 _ rfl rfl (src := Memref.whole main_arg5) (dst := teM) (A5 m c) (A5 m c) (View.set_whole _) (View.set_whole _) (fun fd => lands cc0_scratch5 fd (A5 m c)) rfl (Entails.refl _)) $$ HR L2 a2 d2; iintro L2
  iapply (st_fetch m K c 3 _ rfl rfl (src := Memref.whole main_arg6) (dst := wmM) (A6 m c) (A6 m c) (View.set_whole _) (View.set_whole _) (fun fd => lands cc0_scratch6 fd (A6 m c)) rfl (Entails.refl _)) $$ HR L3 a3 d3; iintro L3
  iapply (st_fetch m K c 4 _ rfl rfl (src := Memref.whole main_arg1) (dst := wqM) (A1 m c) (A1 m c) (View.set_whole _) (View.set_whole _) (fun fd => lands cc0_scratch1 fd (A1 m c)) rfl (Entails.refl _)) $$ HR L4 a4 d4; iintro L4
  iapply (st_fetch m K c 5 _ rfl rfl (src := Memref.whole main_arg2) (dst := wkM) (A2 m c) (A2 m c) (View.set_whole _) (View.set_whole _) (fun fd => lands cc0_scratch2 fd (A2 m c)) rfl (Entails.refl _)) $$ HR L5 a5 d5; iintro L5
  iapply (st_fetch m K c 6 _ rfl rfl (src := Memref.whole main_arg3) (dst := wvM) (A3 m c) (A3 m c) (View.set_whole _) (View.set_whole _) (fun fd => lands cc0_scratch3 fd (A3 m c)) rfl (Entails.refl _)) $$ HR L6 a6 d6; iintro L6
  iapply (st_fetch m K c 7 _ rfl rfl (src := Memref.whole main_arg4) (dst := woM) (A4 m c) (A4 m c) (View.set_whole _) (View.set_whole _) (fun fd => lands cc0_scratch4 fd (A4 m c)) rfl (Entails.refl _)) $$ HR L7 a7 d7; iintro L7
  iapply (st_fetch m K c 8 _ rfl rfl (src := Memref.whole main_arg7) (dst := f1M) (A7 m c) (A7 m c) (View.set_whole _) (View.set_whole _) (fun fd => lands cc0_scratch7 fd (A7 m c)) rfl (Entails.refl _)) $$ HR L8 a8 d8; iintro L8
  iapply (st_fetch m K c 9 _ rfl rfl (src := Memref.whole main_arg8) (dst := f2M) (A8 m c) (A8 m c) (View.set_whole _) (View.set_whole _) (fun fd => lands cc0_scratch8 fd (A8 m c)) rfl (Entails.refl _)) $$ HR L9 a9 d9; iintro L9
  iapply (st_signal m K c _ 1 1 0 3 (by decide) (by revert c; decide) _ rfl) $$ HR HO Ht HL; iintro HO
  iapply (st_ret c)
  iapply Hk
  iframe

theorem part2 (w : BitVec 32) (Φ : (Σ' (v37 : FVec F S256x512 .f32) (v39 : FVec F S256x512 .f32) (v59 : FVec F S256x512 .f32) (v61 : FVec F S256x1 .f32), FVec F S256x1 .f32) → sProp 𝕄) :
    records m K ⊢ iprop(Ow c 1 -∗ dutyTok ER (bc (sh c 2)) 0 2 -∗ Land (F := F) (sh c 2) 2 -∗ dutyTok ER (bc (sh c 3)) 0 3 -∗ Land (F := F) (sh c 3) 1
      -∗ cred (tallyAt (bc c) () 3) -∗ atPos ER (bc c) 0 ∅ 0 -∗ Clm c 1
      -∗ ((Ow c 3 ∗ Land (F := F) c 3 ∗ Land (F := F) c 2 ∗ Land (F := F) c 1 ∗ semVal (bc c) 0 ∗ pt c main_arg0 (A0 m c) ∗ pt c cc0_scratch0 (A0 m c) ∗ Zr c 1)
          -∗ Φ ⟨V37 m c, V39 m c, V59 m c, V61 m c, k0_pay5 (F := F)⟩)
      -∗ WP c (k0_part2 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) (SemArray.scalar (sig.barrier 0 rfl)) w) Φ) := by
  rw [k0_part2_eq_skeleton]; unfold k0_part2_skel
  simp only [semSignalWord, semWaitWord, Prog.lift, Prog.bind_op, Prog.bind_ret, Prog.pure_eq_ret, wp_deviceId]
  iintro #HR HO Ht2 HL2 Ht3 HL3 Hcr Hat L1 Hk
  iapply (st_signal m K c _ 2 2 1 2 (by decide) (by revert c; decide) _ rfl) $$ HR HO Ht2 HL2; iintro HO
  iapply (st_signal m K c _ 3 3 2 1 (by decide) (by revert c; decide) _ rfl) $$ HR HO Ht3 HL3; iintro HO
  iapply (st_barWait m K c _ rfl) $$ HR HO Hcr Hat; iintro ⟨HO, HL3, HL2, HL1, HzB⟩
  iapply (st_wait m K c 1 3 _ rfl rfl (by decide) iprop(pt c main_arg0 (A0 m c) ∗ pt c cc0_scratch0 (A0 m c)) (Entails.refl _) rfl) $$ HR L1 HO; iintro ⟨HO, ⟨a1, d1⟩, Hz⟩
  iapply (st_loadW c (M := xM) _ (A0 m c) (V36 m c) rfl) $$ d1; iintro d1
  iapply (st_loadW c (M := xM) _ (A0 m c) (V38 m c) rfl) $$ d1; iintro d1
  iapply (st_retE (Q := Φ) c _ ⟨V37 m c, V39 m c, V59 m c, V61 m c, k0_pay5 (F := F)⟩ rfl)
  iapply Hk
  iframe

theorem part3 (Φ : _ → sProp 𝕄) :
    records m K ⊢ iprop(Ow c 3 -∗ Clm c 2 -∗ Clm c 3 -∗ Clm c 4
      -∗ ((Ow c 3 ∗ pt c main_arg5 (A5 m c) ∗ pt c cc0_scratch5 (A5 m c) ∗ Zr c 2 ∗ pt c main_arg6 (A6 m c) ∗ pt c cc0_scratch6 (A6 m c) ∗ Zr c 3
            ∗ pt c main_arg1 (A1 m c) ∗ pt c cc0_scratch1 (A1 m c) ∗ Zr c 4)
          -∗ Φ ⟨V79 m c, V87 m c, V88 m c, V89 m c, V90 m c, V91 m c, V92 m c, V96 m c, V97 m c, V98 m c, V99 m c, V100 m c, V101 m c⟩)
      -∗ WP c (k0_part3 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 (V39 m c) (V61 m c) (k0_pay5 (F := F))) Φ) := by
  rw [k0_part3_eq_skeleton]; unfold k0_part3_skel
  simp only [semSignalWord, semWaitWord, Prog.lift, Prog.bind_op, Prog.bind_ret, Prog.pure_eq_ret, wp_deviceId]
  iintro #HR HO L2 L3 L4 Hk
  iapply (st_wait m K c 2 3 _ rfl rfl (by decide) iprop(pt c main_arg5 (A5 m c) ∗ pt c cc0_scratch5 (A5 m c)) (Entails.refl _) rfl) $$ HR L2 HO; iintro ⟨HO, ⟨a2, d2⟩, Hz2⟩
  iapply (st_wait m K c 3 3 _ rfl rfl (by decide) iprop(pt c main_arg6 (A6 m c) ∗ pt c cc0_scratch6 (A6 m c)) (Entails.refl _) rfl) $$ HR L3 HO; iintro ⟨HO, ⟨a3, d3⟩, Hz3⟩
  iapply (st_loadW c (M := teM) _ (A5 m c) (V84 m c) rfl) $$ d2; iintro d2
  iapply (st_loadW c (M := wmM) _ (A6 m c) (V85 m c) rfl) $$ d3; iintro d3
  iapply (st_loadW c (M := teM) _ (A5 m c) (V93 m c) rfl) $$ d2; iintro d2
  iapply (st_loadW c (M := wmM) _ (A6 m c) (V85 m c) rfl) $$ d3; iintro d3
  iapply (st_wait m K c 4 3 _ rfl rfl (by decide) iprop(pt c main_arg1 (A1 m c) ∗ pt c cc0_scratch1 (A1 m c)) (Entails.refl _) rfl) $$ HR L4 HO; iintro ⟨HO, ⟨a4, d4⟩, Hz4⟩
  iapply (st_retE (Q := Φ) c _ ⟨V79 m c, V87 m c, V88 m c, V89 m c, V90 m c, V91 m c, V92 m c, V96 m c, V97 m c, V98 m c, V99 m c, V100 m c, V101 m c⟩ rfl)
  iapply Hk
  iframe

theorem part4 (Φ : _ → sProp 𝕄) :
    records m K ⊢ iprop(Ow c 3 -∗ Clm c 5 -∗ Clm c 6 -∗ pt c cc0_scratch1 (A1 m c)
      -∗ ((Ow c 3 ∗ pt c cc0_scratch1 (A1 m c) ∗ pt c main_arg2 (A2 m c) ∗ pt c cc0_scratch2 (A2 m c) ∗ Zr c 5
            ∗ pt c main_arg3 (A3 m c) ∗ pt c cc0_scratch3 (A3 m c) ∗ Zr c 6)
          -∗ Φ ⟨V109 m c, V111 m c, V113 m c, V122 m c, V124 m c, V126 m c, V143 m c, V144 m c⟩)
      -∗ WP c (k0_part4 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 (V59 m c) (V87 m c) (V88 m c)) Φ) := by
  rw [k0_part4_eq_skeleton]; unfold k0_part4_skel
  simp only [semSignalWord, semWaitWord, Prog.lift, Prog.bind_op, Prog.bind_ret, Prog.pure_eq_ret, wp_deviceId]
  iintro #HR HO L5 L6 d4 Hk
  iapply (st_wait m K c 5 3 _ rfl rfl (by decide) iprop(pt c main_arg2 (A2 m c) ∗ pt c cc0_scratch2 (A2 m c)) (Entails.refl _) rfl) $$ HR L5 HO; iintro ⟨HO, ⟨a5, d5⟩, Hz5⟩
  iapply (st_wait m K c 6 3 _ rfl rfl (by decide) iprop(pt c main_arg3 (A3 m c) ∗ pt c cc0_scratch3 (A3 m c)) (Entails.refl _) rfl) $$ HR L6 HO; iintro ⟨HO, ⟨a6, d6⟩, Hz6⟩
  iapply (st_loadW c (M := wqM) _ (A1 m c) (V108 m c) rfl) $$ d4; iintro d4
  iapply (st_loadW c (M := wkM) _ (A2 m c) (V110 m c) rfl) $$ d5; iintro d5
  iapply (st_loadW c (M := wvM) _ (A3 m c) (V112 m c) rfl) $$ d6; iintro d6
  iapply (st_retE (Q := Φ) c _ ⟨V109 m c, V111 m c, V113 m c, V122 m c, V124 m c, V126 m c, V143 m c, V144 m c⟩ rfl)
  iapply Hk
  iframe

theorem part5 (Φ : _ → sProp 𝕄) :
    Φ ⟨V160 m c, V177 m c, V189 m c, V190 m c⟩ ⊢ WP c (k0_part5 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 (V122 m c) (V124 m c) (V126 m c) (V144 m c)) Φ := by
  rw [k0_part5_eq_skeleton]; unfold k0_part5_skel
  simp only [semSignalWord, semWaitWord, Prog.lift, Prog.bind_op, Prog.bind_ret, Prog.pure_eq_ret, wp_deviceId]
  iintro H
  iapply (st_retE (Q := Φ) c _ ⟨V160 m c, V177 m c, V189 m c, V190 m c⟩ rfl)
  iexact H

theorem part8 (Φ : _ → sProp 𝕄) :
    Φ ⟨V311 m c, V313 m c⟩ ⊢ WP c (k0_part8 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 (V200 m c) (V236 m c) (V238 m c) (V240 m c) (V257 m c) (V266 m c)) Φ := by
  rw [k0_part8_eq_skeleton]; unfold k0_part8_skel
  simp only [semSignalWord, semWaitWord, Prog.lift, Prog.bind_op, Prog.bind_ret, Prog.pure_eq_ret, wp_deviceId]
  iintro H
  iapply (st_retE (Q := Φ) c _ ⟨V311 m c, V313 m c⟩ rfl)
  iexact H

end Cert.KProof

end
-- ==== Proof.Regions.lean ====
/- Cutting the buffers into the rows and half rows that travel, and putting them back. -/
module

public import proofs.«01_k».proof.Proof.Wrap

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-! ## The devices counted from `c` -/

theorem four_from (Φ : Fin 4 → sProp 𝕄) : bigSep Finset.univ Φ = iprop(Φ c ∗ Φ (sh c 1) ∗ Φ (sh c 2) ∗ Φ (sh c 3)) := by
  rw [bigSep_univ_eq_bigSepL [c, sh c 1, sh c 2, sh c 3] (by revert c; decide) (by revert c; decide), bigSepL_cons_cons, bigSepL_cons_cons, bigSepL_cons_cons,
    bigSepL_singleton]
  rfl

theorem three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

theorem sh_back1 : sh (sh c 1) 3 = c := by revert c; decide
theorem sh_back2 : sh (sh c 2) 2 = c := by revert c; decide
theorem sh_back3 : sh (sh c 3) 1 = c := by revert c; decide

/-! ## Rectangles -/

theorem row4_disj (q q' : Fin 4) (h : q ≠ q') : Disjoint (row4 q).set (row4 q').set :=
  Rect.unit_disjoint 0 (by
    have h1 : q.val ≠ q'.val := fun e => h (Fin.ext e)
    show q.val + 1 ≤ q'.val ∨ q'.val + 1 ≤ q.val
    omega)
theorem row3_disj (q q' : Fin 3) (h : q ≠ q') : Disjoint (row3 q).set (row3 q').set :=
  Rect.unit_disjoint 0 (by
    have h1 : q.val ≠ q'.val := fun e => h (Fin.ext e)
    show q.val + 1 ≤ q'.val ∨ q'.val + 1 ≤ q.val
    omega)

theorem row4_cov : (Finset.univ : Finset (Fin 4)).biUnion (fun q => (row4 q).set) = Finset.univ := by
  refine Finset.eq_univ_iff_forall.mpr fun i => Finset.mem_biUnion.mpr ⟨⟨(i 0).val, (i 0).isLt⟩, Finset.mem_univ _, Rect.mem_set_unit.mpr fun a => ?_⟩
  have hi := (i a).isLt
  match a, hi with
  | ⟨0, _⟩, hi => exact ⟨le_refl _, Nat.lt_succ_self _⟩
  | ⟨1, _⟩, hi => exact ⟨Nat.zero_le _, by show (i _).val < 0 + 128; rw [Nat.zero_add]; exact hi⟩
  | ⟨2, _⟩, hi => exact ⟨Nat.zero_le _, by show (i _).val < 0 + 512; rw [Nat.zero_add]; exact hi⟩
theorem row3_cov : (Finset.univ : Finset (Fin 3)).biUnion (fun q => (row3 q).set) = Finset.univ := by
  refine Finset.eq_univ_iff_forall.mpr fun i => Finset.mem_biUnion.mpr ⟨⟨(i 0).val, (i 0).isLt⟩, Finset.mem_univ _, Rect.mem_set_unit.mpr fun a => ?_⟩
  have hi := (i a).isLt
  match a, hi with
  | ⟨0, _⟩, hi => exact ⟨le_refl _, Nat.lt_succ_self _⟩
  | ⟨1, _⟩, hi => exact ⟨Nat.zero_le _, by show (i _).val < 0 + 128; rw [Nat.zero_add]; exact hi⟩
  | ⟨2, _⟩, hi => exact ⟨Nat.zero_le _, by show (i _).val < 0 + 512; rw [Nat.zero_add]; exact hi⟩

/-! ## The rows of the result -/

theorem inbO : ∀ q : Fin 4, ∀ a, ![q.val / 2, q.val % 2 * 128, 0] a + S1x128x512.size a ≤ S2x256x512.size a := by decide
/-- Row `q` of the result: rows `(q % 2) * 128 ..` of batch entry `q / 2`. -/
abbrev oRect (q : Fin 4) : Rect S2x256x512 := Rect.unit (s := S2x256x512) ![q.val / 2, q.val % 2 * 128, 0] S1x128x512.size (inbO q)
abbrev oR (q : Fin 4) : Memref sig .tc .vmem S1x128x512 .f32 := oM.slice (oRect q) (fun _ => rfl)

theorem oRect_disj (q q' : Fin 4) (h : q ≠ q') : Disjoint (oRect q).set (oRect q').set := by
  have h1 : q.val ≠ q'.val := fun e => h (Fin.ext e)
  by_cases h0 : q.val / 2 = q'.val / 2
  · refine Rect.unit_disjoint 1 ?_
    show q.val % 2 * 128 + 128 ≤ q'.val % 2 * 128 ∨ q'.val % 2 * 128 + 128 ≤ q.val % 2 * 128
    omega
  · refine Rect.unit_disjoint 0 ?_
    show q.val / 2 + 1 ≤ q'.val / 2 ∨ q'.val / 2 + 1 ≤ q.val / 2
    omega

theorem oRect_cov : (Finset.univ : Finset (Fin 4)).biUnion (fun q => (oRect q).set) = Finset.univ := by
  refine Finset.eq_univ_iff_forall.mpr fun i => ?_
  have h0 : (i 0).val < 2 := (i 0).isLt
  have h1 : (i 1).val < 256 := (i 1).isLt
  have h2 : (i 2).val < 512 := (i 2).isLt
  refine Finset.mem_biUnion.mpr ⟨⟨2 * (i 0).val + (i 1).val / 128, by omega⟩, Finset.mem_univ _, Rect.mem_set_unit.mpr fun a => ?_⟩
  match a with
  | ⟨0, _⟩ =>
    show (2 * (i 0).val + (i 1).val / 128) / 2 ≤ (i 0).val ∧ (i 0).val < (2 * (i 0).val + (i 1).val / 128) / 2 + 1
    omega
  | ⟨1, _⟩ =>
    show (2 * (i 0).val + (i 1).val / 128) % 2 * 128 ≤ (i 1).val ∧ (i 1).val < (2 * (i 0).val + (i 1).val / 128) % 2 * 128 + 128
    omega
  | ⟨2, _⟩ =>
    show 0 ≤ (i 2).val ∧ (i 2).val < 0 + 512
    omega

/-- Device `c`'s result. -/
def outF : Vec F S2x256x512 .f32 := Rect.glue oRect oRect_cov (outRow m c)

theorem outF_row (q : Fin 4) : (fun j => outF m c ((oRect q).emb j)) = outRow m c q :=
  funext fun y => Rect.glue_emb oRect oRect_cov oRect_disj (outRow m c) q y

/-! ## Cutting and gluing at some contents -/

theorem ow_owE {s : Shape} {e : EltTy} (M : Memref sig .tc .vmem s e) (X : Vec F s e) : ow c M fullShare X ⊢ owE (F := F) c M := by
  iintro H; iexists X; iexact H

section Ex
variable {s : Shape} {e : EltTy} (M : Memref sig .tc .vmem s e) {T : Type} [Fintype T] [DecidableEq T] (r : T → Rect s) (hr : ∀ t a, (r t).stride a = 1)
  (hd : ∀ t t', t ≠ t' → Disjoint (r t).set (r t').set) (hcov : (Finset.univ : Finset T).biUnion (fun t => (r t).set) = Finset.univ)
include hd hcov

theorem split_ex : owE (F := F) c M ⊢ bigSep Finset.univ fun t => owE (F := F) c (M.slice (r t) (hr t)) := by
  iintro ⟨%X, H⟩
  have h : ow c M fullShare X ⊢ bigSep Finset.univ fun t => owE (F := F) c (M.slice (r t) (hr t)) :=
    (owns_rects (c : Thread nD τ) M fullShare r hr hd hcov X).trans (bigSep_mono fun t _ => ow_owE c _ _)
  iapply h; iexact H

theorem join_ex : (bigSep Finset.univ fun t => owE (F := F) c (M.slice (r t) (hr t))) ⊢ owE (F := F) c M := by
  refine (BI.bigSep_exists_pi Finset.univ (fun t X => ow c (M.slice (r t) (hr t)) fullShare X)).trans ?_
  iintro ⟨%Xs, H⟩
  have hg (t : T) : (fun j => Rect.glue r hcov Xs ((r t).emb j)) = Xs t := funext fun y => Rect.glue_emb r hcov hd Xs t y
  iexists (Rect.glue r hcov Xs)
  have h := owns_of_rects (Ix := Unit) (Name := ℕ) (U := UU) (Lvl := ℕ) (Val := Elt F) (c : Thread nD τ) M fullShare r hr hd hcov (Rect.glue r hcov Xs)
  simp only [hg] at h
  iapply h; iexact H

end Ex

theorem whole_ow (b : Ref sig .tc) : iprop(∃ f, pt (F := F) c b f) ⊢ owE (F := F) c (Memref.whole b) := by
  iintro ⟨%f, H⟩; iexists f
  iapply (Entails.of_eq (owns_whole (c : Thread nD τ) b fullShare f).symm); iexact H
theorem ow_whole (b : Ref sig .tc) : owE (F := F) c (Memref.whole b) ⊢ iprop(∃ f, pt (F := F) c b f) := by
  iintro ⟨%f, H⟩; iexists f
  iapply (Entails.of_eq (owns_whole (c : Thread nD τ) b fullShare f)); iexact H

/-! ## Rows of the four- and three-row buffers -/

theorem rows4 (M : Memref sig .tc .vmem S4x128x512 .bf16) : owE (F := F) c M ⊢ iprop(owE (F := F) c (sl4 M c)
    ∗ owE (F := F) c (sl4 M (sh c 1)) ∗ owE (F := F) c (sl4 M (sh c 2)) ∗ owE (F := F) c (sl4 M (sh c 3))) :=
  (split_ex c M row4 (fun _ _ => rfl) row4_disj row4_cov).trans (Entails.of_eq (four_from c fun q => owE (F := F) c (sl4 M q)))
theorem unrows4 (M : Memref sig .tc .vmem S4x128x512 .bf16) : iprop(owE (F := F) c (sl4 M c)
    ∗ owE (F := F) c (sl4 M (sh c 1)) ∗ owE (F := F) c (sl4 M (sh c 2)) ∗ owE (F := F) c (sl4 M (sh c 3)))
    ⊢ owE (F := F) c M :=
  (Entails.of_eq (four_from c fun q => owE (F := F) c (sl4 M q)).symm).trans (join_ex c M row4 (fun _ _ => rfl) row4_disj row4_cov)
theorem rows3 (M : Memref sig .tc .vmem S3x128x512 .bf16) : owE (F := F) c M ⊢ iprop(owE (F := F) c (sl3 M 0)
    ∗ owE (F := F) c (sl3 M 1) ∗ owE (F := F) c (sl3 M 2)) :=
  (split_ex c M row3 (fun _ _ => rfl) row3_disj row3_cov).trans (Entails.of_eq (three fun q => owE (F := F) c (sl3 M q)))
theorem unrows3 (M : Memref sig .tc .vmem S3x128x512 .bf16) : iprop(owE (F := F) c (sl3 M 0)
    ∗ owE (F := F) c (sl3 M 1) ∗ owE (F := F) c (sl3 M 2)) ⊢ owE (F := F) c M :=
  (Entails.of_eq (three fun q => owE (F := F) c (sl3 M q)).symm).trans (join_ex c M row3 (fun _ _ => rfl) row3_disj row3_cov)

theorem four_lit (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

theorem rowsO : owE (F := F) c oM ⊢ iprop(owE (F := F) c (oR c) ∗ owE (F := F) c (oR (sh c 1)) ∗ owE (F := F) c (oR (sh c 2)) ∗ owE (F := F) c (oR (sh c 3))) :=
  (split_ex c oM oRect (fun _ _ => rfl) oRect_disj oRect_cov).trans (Entails.of_eq (four_from c fun q => owE (F := F) c (oR q)))
theorem unrowsO : iprop(ow c (oR c) fullShare (outRow m c c) ∗ ow c (oR (sh c 1)) fullShare (outRow m c (sh c 1)) ∗ ow c (oR (sh c 2)) fullShare (outRow m c (sh c 2))
    ∗ ow c (oR (sh c 3)) fullShare (outRow m c (sh c 3))) ⊢ ow c oM fullShare (outF m c) := by
  refine (Entails.of_eq (four_from c fun q => ow c (oR q) fullShare (outRow m c q)).symm).trans ?_
  have h := owns_of_rects (Ix := Unit) (Name := ℕ) (U := UU) (Lvl := ℕ) (Val := Elt F) (c : Thread nD τ) oM fullShare oRect (fun _ _ => rfl) oRect_disj oRect_cov (outF m c)
  simp only [outF_row] at h
  exact h

/-! ## A rectangle as two -/

section Two
variable {s : Shape} {e : EltTy} (M : Memref sig .tc .vmem s e) {r ra rb : Rect s} (hr : ∀ a, r.stride a = 1) (hra : ∀ a, ra.stride a = 1) (hrb : ∀ a, rb.stride a = 1)
  (hu : r.set = ra.set ∪ rb.set) (hd : Disjoint ra.set rb.set) (ea : ra.shape.Idx → r.shape.Idx) (eb : rb.shape.Idx → r.shape.Idx)
  (hea : ∀ j, r.emb (ea j) = ra.emb j) (heb : ∀ j, r.emb (eb j) = rb.emb j) (q : PosShare TreeShare) (W : r.shape.Idx → Elt F e)
include hu hd hea heb

theorem sets_two : (M.view.slice r).set = (M.view.slice ra).set ∪ (M.view.slice rb).set ∧ Disjoint (M.view.slice ra).set (M.view.slice rb).set := by
  rw [View.set_slice, View.set_slice, View.set_slice, hu, Finset.map_union]
  exact ⟨rfl, (Finset.disjoint_map _).mpr hd⟩

theorem split_two : ow c (M.slice r hr) q W ⊢ iprop(ow c (M.slice ra hra) q (fun j => W (ea j)) ∗ ow c (M.slice rb hrb) q (fun j => W (eb j))) := by
  obtain ⟨h1, h2⟩ := sets_two M hu hd ea eb hea heb
  unfold ow owns
  iintro ⟨%f, %hf, H⟩
  have h := (pointsTo_union (Ix := Unit) (Name := ℕ) (U := UU) (Lvl := ℕ) (Val := Elt F) (ℓ := M.view.loc (c : Thread nD τ)) (q := q) (f := f) h2).1
  rw [← h1] at h
  ihave H := h $$ H
  icases H with ⟨Ha, Hb⟩
  have hW : ∀ j, M.view.read (Elt F) f (r.emb j) = W j := fun j => congrFun hf j
  isplitl [Ha]
  · iexists f; isplitr
    · ipureintro; funext j; show M.view.read (Elt F) f (ra.emb j) = W (ea j); rw [← hea, hW]
    iexact Ha
  · iexists f; isplitr
    · ipureintro; funext j; show M.view.read (Elt F) f (rb.emb j) = W (eb j); rw [← heb, hW]
    iexact Hb

theorem join_two : iprop(ow c (M.slice ra hra) q (fun j => W (ea j)) ∗ ow c (M.slice rb hrb) q (fun j => W (eb j))) ⊢ ow c (M.slice r hr) q W := by
  obtain ⟨h1, h2⟩ := sets_two M hu hd ea eb hea heb
  unfold ow owns
  iintro ⟨⟨%f, %hf, Ha⟩, ⟨%g, %hg, Hb⟩⟩
  have h := pointsTo_join (Ix := Unit) (Name := ℕ) (U := UU) (Lvl := ℕ) (Val := Elt F) (ℓ := M.view.loc (c : Thread nD τ)) (q := q) (f := f) (g := g) h2
  rw [← h1] at h
  ihave H := h $$ [Ha Hb]
  · isplitl [Ha]; · iexact Ha
    iexact Hb
  iexists _; isplitr
  swap
  · iexact H
  ipureintro
  funext j
  have hj : r.emb j ∈ ra.set ∪ rb.set := by rw [← hu, ← Rect.map_emb_univ]; exact Finset.mem_map_of_mem _ (Finset.mem_univ j)
  have hmem : ∀ (r' : Rect s) (k : r'.shape.Idx), M.view.emb (r'.emb k) ∈ (M.view.slice r').set := fun r' k => by
    rw [View.set_slice]; exact Finset.mem_map_of_mem _ (r'.map_emb_univ ▸ Finset.mem_map_of_mem _ (Finset.mem_univ k))
  show M.view.read (Elt F) ((M.view.slice rb).set.piecewise g f) (r.emb j) = W j
  rcases Finset.mem_union.mp hj with hj | hj
  · obtain ⟨k, hk⟩ := ra.exists_idx_of_mem hj
    have hjk : j = ea k := r.emb.injective (hk.symm.trans (hea k).symm)
    have := congrFun hf k
    rw [hjk, hea, View.read_apply, Finset.piecewise_eq_of_notMem _ _ _ (Finset.disjoint_left.mp h2 (hmem ra k))]
    exact this
  · obtain ⟨k, hk⟩ := rb.exists_idx_of_mem hj
    have hjk : j = eb k := r.emb.injective (hk.symm.trans (heb k).symm)
    have := congrFun hg k
    rw [hjk, heb, View.read_apply, Finset.piecewise_eq_of_mem _ _ _ (hmem rb k)]
    exact this

end Two

/-! ## Half rows -/

theorem half4_emb (q : Fin 4) (h : Fin 2) (j : S1x128x256.Idx) : (row4 q).emb ((halfR h).emb j) = (half4 q h).emb j := by
  funext a; apply Fin.ext
  match a with
  | ⟨0, _⟩ => show q.val + 1 * (0 + 1 * (j 0).val) = q.val + 1 * (j 0).val; omega
  | ⟨1, _⟩ => show 0 + 1 * (0 + 1 * (j 1).val) = 0 + 1 * (j 1).val; omega
  | ⟨2, _⟩ => show 0 + 1 * (256 * h.val + 1 * (j 2).val) = 256 * h.val + 1 * (j 2).val; omega
theorem half3_emb (q : Fin 3) (h : Fin 2) (j : S1x128x256.Idx) : (row3 q).emb ((halfR h).emb j) = (half3 q h).emb j := by
  funext a; apply Fin.ext
  match a with
  | ⟨0, _⟩ => show q.val + 1 * (0 + 1 * (j 0).val) = q.val + 1 * (j 0).val; omega
  | ⟨1, _⟩ => show 0 + 1 * (0 + 1 * (j 1).val) = 0 + 1 * (j 1).val; omega
  | ⟨2, _⟩ => show 0 + 1 * (256 * h.val + 1 * (j 2).val) = 256 * h.val + 1 * (j 2).val; omega

theorem halves_disj {s : Shape} {o o' : Fin s.rank → ℕ} {z z' : Fin s.rank → ℕ} {hb hb'} (a : Fin s.rank) (h : o a + z a ≤ o' a) :
    Disjoint (Rect.unit (s := s) o z hb).set (Rect.unit (s := s) o' z' hb').set := Rect.unit_disjoint a (Or.inl h)
theorem half4_disj (q : Fin 4) : Disjoint (half4 q 0).set (half4 q 1).set := halves_disj 2 (by show 256 * 0 + 256 ≤ 256 * 1; omega)
theorem half3_disj (q : Fin 3) : Disjoint (half3 q 0).set (half3 q 1).set := halves_disj 2 (by show 256 * 0 + 256 ≤ 256 * 1; omega)

/-- A place of a row is in one of its halves. -/
theorem halfR_cover (k : S1x128x512.Idx) : (∃ j, (halfR 0).emb j = k) ∨ ∃ j, (halfR 1).emb j = k := by
  have h2 : (k 2).val < 512 := (k 2).isLt
  by_cases h : (k 2).val < 256
  · refine Or.inl ⟨ixH (k 0) (k 1) ⟨(k 2).val, h⟩, ?_⟩
    funext a; apply Fin.ext
    match a with
    | ⟨0, _⟩ => show 0 + 1 * (k 0).val = (k 0).val; omega
    | ⟨1, _⟩ => show 0 + 1 * (k 1).val = (k 1).val; omega
    | ⟨2, _⟩ => show 256 * 0 + 1 * (k 2).val = (k 2).val; omega
  · refine Or.inr ⟨ixH (k 0) (k 1) ⟨(k 2).val - 256, by omega⟩, ?_⟩
    funext a; apply Fin.ext
    match a with
    | ⟨0, _⟩ => show 0 + 1 * (k 0).val = (k 0).val; omega
    | ⟨1, _⟩ => show 0 + 1 * (k 1).val = (k 1).val; omega
    | ⟨2, _⟩ => show 256 * 1 + 1 * ((k 2).val - 256) = (k 2).val; omega

theorem set_of_halves {s : Shape} {r ra rb : Rect s} (ea : ra.shape.Idx → r.shape.Idx) (eb : rb.shape.Idx → r.shape.Idx)
    (hea : ∀ j, r.emb (ea j) = ra.emb j) (heb : ∀ j, r.emb (eb j) = rb.emb j) (hc : ∀ k, (∃ j, ea j = k) ∨ ∃ j, eb j = k) : r.set = ra.set ∪ rb.set := by
  have hin : ∀ (r' : Rect s) (k : r'.shape.Idx), r'.emb k ∈ r'.set := fun r' k => r'.map_emb_univ ▸ Finset.mem_map_of_mem _ (Finset.mem_univ k)
  ext i
  rw [Finset.mem_union]
  constructor
  · intro hi
    obtain ⟨k, rfl⟩ := r.exists_idx_of_mem hi
    rcases hc k with ⟨j, rfl⟩ | ⟨j, rfl⟩
    · exact Or.inl (by have := hin ra j; rw [← hea] at this; exact this)
    · exact Or.inr (by have := hin rb j; rw [← heb] at this; exact this)
  · rintro (hi | hi)
    · obtain ⟨k, rfl⟩ := ra.exists_idx_of_mem hi
      have := hin r (ea k); rw [hea] at this; exact this
    · obtain ⟨k, rfl⟩ := rb.exists_idx_of_mem hi
      have := hin r (eb k); rw [heb] at this; exact this

theorem half4_union (q : Fin 4) : (row4 q).set = (half4 q 0).set ∪ (half4 q 1).set :=
  set_of_halves (r := row4 q) (ra := half4 q 0) (rb := half4 q 1) (halfR 0).emb (halfR 1).emb (half4_emb q 0) (half4_emb q 1) halfR_cover
theorem half3_union (q : Fin 3) : (row3 q).set = (half3 q 0).set ∪ (half3 q 1).set :=
  set_of_halves (r := row3 q) (ra := half3 q 0) (rb := half3 q 1) (halfR 0).emb (halfR 1).emb (half3_emb q 0) (half3_emb q 1) halfR_cover

theorem ixH_eta (j : S1x128x256.Idx) : ixH (j 0) (j 1) (j 2) = j := by
  funext a
  match a with
  | ⟨0, _⟩ => rfl
  | ⟨1, _⟩ => rfl
  | ⟨2, _⟩ => rfl
theorem halfOf_join0 (a b : Vec F S1x128x256 .bf16) : halfOf (joinH a b) 0 = a := by
  funext j
  have h2 : (j 2).val < 256 := (j 2).isLt
  have e : ∀ b, (((halfR 0).emb j) b).val = (j b).val := fun b => by
    match b with
    | ⟨0, _⟩ => show 0 + 1 * (j 0).val = (j 0).val; omega
    | ⟨1, _⟩ => show 0 + 1 * (j 1).val = (j 1).val; omega
    | ⟨2, _⟩ => show 256 * 0 + 1 * (j 2).val = (j 2).val; omega
  unfold halfOf joinH
  rw [dif_pos (by rw [e 2]; exact h2)]
  refine congrArg a (Eq.trans ?_ (ixH_eta j))
  congr 1
  · exact Fin.ext (e 0)
  · exact Fin.ext (e 1)
  · exact Fin.ext (e 2)
theorem halfOf_join1 (a b : Vec F S1x128x256 .bf16) : halfOf (joinH a b) 1 = b := by
  funext j
  have h2 : (j 2).val < 256 := (j 2).isLt
  have e0 : (((halfR 1).emb j) 0).val = (j 0).val := by show 0 + 1 * (j 0).val = (j 0).val; omega
  have e1 : (((halfR 1).emb j) 1).val = (j 1).val := by show 0 + 1 * (j 1).val = (j 1).val; omega
  have e2 : (((halfR 1).emb j) 2).val = 256 + (j 2).val := by show 256 * 1 + 1 * (j 2).val = 256 + (j 2).val; omega
  unfold halfOf joinH
  rw [dif_neg (by rw [e2]; omega)]
  refine congrArg b (Eq.trans ?_ (ixH_eta j))
  congr 1
  · exact Fin.ext e0
  · exact Fin.ext e1
  · exact Fin.ext (by show ((halfR 1).emb j 2).val - 256 = (j 2).val; rw [e2]; omega)

/-- A row of a four-row buffer into its halves, and back. -/
theorem row_halves (M : Memref sig .tc .vmem S4x128x512 .bf16) (q : Fin 4) (p : PosShare TreeShare) (W : Vec F S1x128x512 .bf16) :
    ow c (sl4 M q) p W ⊢ iprop(ow c (hf4 M q 0) p (halfOf W 0) ∗ ow c (hf4 M q 1) p (halfOf W 1)) :=
  split_two c M (r := row4 q) (ra := half4 q 0) (rb := half4 q 1) (fun _ => rfl) (fun _ => rfl) (fun _ => rfl) (half4_union q) (half4_disj q) (halfR 0).emb (halfR 1).emb (half4_emb q 0)
    (half4_emb q 1) p W
theorem halves_row (M : Memref sig .tc .vmem S4x128x512 .bf16) (q : Fin 4) (p : PosShare TreeShare) (A B : Vec F S1x128x256 .bf16) :
    iprop(ow c (hf4 M q 0) p A ∗ ow c (hf4 M q 1) p B) ⊢ ow c (sl4 M q) p (joinH A B) := by
  have h := join_two c M (r := row4 q) (ra := half4 q 0) (rb := half4 q 1) (fun _ => rfl) (fun _ => rfl) (fun _ => rfl) (half4_union q) (half4_disj q) (halfR 0).emb (halfR 1).emb (half4_emb q 0)
    (half4_emb q 1) p (joinH A B)
  have h0 : (fun j => joinH A B ((halfR 0).emb j)) = A := halfOf_join0 A B
  have h1 : (fun j => joinH A B ((halfR 1).emb j)) = B := halfOf_join1 A B
  refine BIBase.Entails.trans (Entails.of_eq ?_) h
  exact congrArg₂ (fun u v => iprop(ow c (hf4 M q 0) p u ∗ ow c (hf4 M q 1) p v)) h0.symm h1.symm
theorem row_halves3 (M : Memref sig .tc .vmem S3x128x512 .bf16) (q : Fin 3) (p : PosShare TreeShare) (W : Vec F S1x128x512 .bf16) :
    ow c (sl3 M q) p W ⊢ iprop(ow c (hf3 M q 0) p (halfOf W 0) ∗ ow c (hf3 M q 1) p (halfOf W 1)) :=
  split_two c M (r := row3 q) (ra := half3 q 0) (rb := half3 q 1) (fun _ => rfl) (fun _ => rfl) (fun _ => rfl) (half3_union q) (half3_disj q) (halfR 0).emb (halfR 1).emb (half3_emb q 0)
    (half3_emb q 1) p W
theorem halves_row3 (M : Memref sig .tc .vmem S3x128x512 .bf16) (q : Fin 3) (p : PosShare TreeShare) (A B : Vec F S1x128x256 .bf16) :
    iprop(ow c (hf3 M q 0) p A ∗ ow c (hf3 M q 1) p B) ⊢ ow c (sl3 M q) p (joinH A B) := by
  have h := join_two c M (r := row3 q) (ra := half3 q 0) (rb := half3 q 1) (fun _ => rfl) (fun _ => rfl) (fun _ => rfl) (half3_union q) (half3_disj q) (halfR 0).emb (halfR 1).emb (half3_emb q 0)
    (half3_emb q 1) p (joinH A B)
  have h0 : (fun j => joinH A B ((halfR 0).emb j)) = A := halfOf_join0 A B
  have h1 : (fun j => joinH A B ((halfR 1).emb j)) = B := halfOf_join1 A B
  refine BIBase.Entails.trans (Entails.of_eq ?_) h
  exact congrArg₂ (fun u v => iprop(ow c (hf3 M q 0) p u ∗ ow c (hf3 M q 1) p v)) h0.symm h1.symm

theorem row_halves_ex (M : Memref sig .tc .vmem S4x128x512 .bf16) (q : Fin 4) : owE (F := F) c (sl4 M q)
    ⊢ iprop(owE (F := F) c (hf4 M q 0) ∗ owE (F := F) c (hf4 M q 1)) := by
  iintro ⟨%X, H⟩
  ihave H := (row_halves c M q fullShare X) $$ H
  icases H with ⟨Ha, Hb⟩
  isplitl [Ha]
  · iexists _; iexact Ha
  · iexists _; iexact Hb
theorem row_halves3_ex (M : Memref sig .tc .vmem S3x128x512 .bf16) (q : Fin 3) : owE (F := F) c (sl3 M q)
    ⊢ iprop(owE (F := F) c (hf3 M q 0) ∗ owE (F := F) c (hf3 M q 1)) := by
  iintro ⟨%X, H⟩
  ihave H := (row_halves3 c M q fullShare X) $$ H
  icases H with ⟨Ha, Hb⟩
  isplitl [Ha]
  · iexists _; iexact Ha
  · iexists _; iexact Hb

/-! ## The three readers of a row -/

theorem thirds {s : Shape} {e : EltTy} (M : Memref sig .tc .vmem s e) (X : Vec F s e) :
    ow c M fullShare X ⊣⊢ iprop(ow c M (third 1) X ∗ ow c M (third 2) X ∗ ow c M (third 3) X) := by
  have h1 := owns_halves (Ix := Unit) (Name := ℕ) (U := UU) (Lvl := ℕ) (Val := Elt F) (c : Thread nD τ) M fullShare X
  have h2 := owns_halves (Ix := Unit) (Name := ℕ) (U := UU) (Lvl := ℕ) (Val := Elt F) (c : Thread nD τ) M (fullShare : PosShare TreeShare).right X
  constructor
  · refine h1.1.trans ?_
    iintro ⟨Ha, Hb⟩
    ihave Hb := h2.1 $$ Hb
    icases Hb with ⟨Hb, Hc⟩
    isplitl [Ha]; · iexact Ha
    isplitl [Hb]; · iexact Hb
    iexact Hc
  · refine BIBase.Entails.trans ?_ h1.2
    iintro ⟨Ha, Hb, Hc⟩
    isplitl [Ha]; · iexact Ha
    iapply h2.2
    isplitl [Hb]; · iexact Hb
    iexact Hc

end Cert.KProof

end
-- ==== Proof.Sends.lean ====
/- The four guarded transfers of the attention rows: device `c` sends row `q` to device `q` unless that is `c` itself. -/
module

public import proofs.«01_k».proof.Proof.Regions

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 58 → ℕ) (c : Dev nD)
variable {α : Type} {Q : α → sProp (MT nD τ sig Unit (Elt F) ℕ UU ℕ)}

set_option backward.proofsInPublic true in
/-- The semaphore on which device `c`'s transfer to `q` leaves. -/
def rsN (c q : Fin 4) : Fin 58 := ⟨10 + (q.val + 3 - c.val) % 4, by have := Nat.mod_lt (q.val + 3 - c.val) (show 0 < 4 by decide); omega⟩
set_option backward.proofsInPublic true in
/-- The semaphore of `q` on which it lands. -/
def rrN (c q : Fin 4) : Fin 58 := ⟨34 + (q.val + 3 - c.val) % 4, by have := Nat.mod_lt (q.val + 3 - c.val) (show 0 < 4 by decide); omega⟩
set_option backward.proofsInPublic true in
/-- The row of `q` in which it lands. -/
def rsJ (c q : Fin 4) : Fin 3 := ⟨(q.val + 3 - c.val) % 4 % 3, Nat.mod_lt _ (by decide)⟩

/-- What the transfer to `q` needs besides its row. -/
def RSo (q : Fin 4) : sProp 𝕄 :=
  if q = c then iprop(emp) else iprop(SndB (F := F) c (rsN c q) q (rrN c q) ∗ owE (F := F) q (r1R (rsJ c q)))
/-- The row after the transfer has started, or its owner. -/
def RCo (q : Fin 4) : sProp 𝕄 :=
  if q = c then ow c (p1R q) fullShare (P1 m c q) else Clm (F := F) c (rsN c q)
/-- The semaphore after the transfer. -/
def ZRo (q : Fin 4) : sProp 𝕄 := if q = c then iprop(emp) else Zr (F := F) c (rsN c q)

theorem three_away : ∀ c q : Fin 4, c ≠ q → q = sh c 1 ∨ q = sh c 2 ∨ q = sh c 3 := by decide

theorem rs1 : rsN c (sh c 1) = 10 ∧ rrN c (sh c 1) = 34 ∧ rsJ c (sh c 1) = 0 ∧ sh c 1 ≠ c := by revert c; decide
theorem rs2 : rsN c (sh c 2) = 11 ∧ rrN c (sh c 2) = 35 ∧ rsJ c (sh c 2) = 1 ∧ sh c 2 ≠ c := by revert c; decide
theorem rs3 : rsN c (sh c 3) = 12 ∧ rrN c (sh c 3) = 36 ∧ rsJ c (sh c 3) = 2 ∧ sh c 3 ≠ c := by revert c; decide

theorem rs_act : ∀ c q : Fin 4, c ≠ q → act (rsN c q) = true ∧ act (rrN c q) = true ∧ amt (rsN c q).val = N1 ∧ amt (rrN c q).val = N1 := by decide
theorem rs_pays : ∀ c q : Fin 4, c ≠ q → (pays c)[3 + q.val]? = some (dc q (rrN c q), N1) := by decide
theorem rs_own (c : Fin 4) : (pays c)[3 + c.val]? = some (rsPay c c) := by revert c; decide

theorem rs_pay1 (q : Fin 4) (h : c ≠ q) : ow c (p1R q) fullShare (P1 m c q) ⊢ dPay m c (rsN c q).val := by
  rcases three_away c q h with rfl | rfl | rfl
  · rw [(rs1 c).1]; exact Entails.refl _
  · rw [(rs2 c).1]; exact Entails.refl _
  · rw [(rs3 c).1]; exact Entails.refl _
theorem rs_pay2 (q : Fin 4) (h : c ≠ q) : ow q (r1R (rsJ c q)) fullShare (P1 m c q) ⊢ dPay m q (rrN c q).val := by
  have key : ∀ (j : Fin 3) (e : Dev nD), e = c → ow q (r1R j) fullShare (P1 m c q) ⊢ ow q (r1R j) fullShare (P1 m e q) := fun j e he => by
    subst he; exact Entails.refl _
  rcases three_away c q h with rfl | rfl | rfl
  · rw [(rs1 c).2.1, (rs1 c).2.2.1]; exact key 0 _ (sh_back1 c)
  · rw [(rs2 c).2.1, (rs2 c).2.2.1]; exact key 1 _ (sh_back2 c)
  · rw [(rs3 c).2.1, (rs3 c).2.2.1]; exact key 2 _ (sh_back3 c)

theorem RSo_all : iprop((SndB (F := F) c 10 (sh c 1) 34 ∗ owE (F := F) (sh c 1) (r1R 0)) ∗ (SndB (F := F) c 11 (sh c 2) 35 ∗ owE (F := F) (sh c 2) (r1R 1))
    ∗ (SndB (F := F) c 12 (sh c 3) 36 ∗ owE (F := F) (sh c 3) (r1R 2))) ⊢ iprop(RSo (F := F) c 0 ∗ RSo (F := F) c 1 ∗ RSo (F := F) c 2 ∗ RSo (F := F) c 3) := by
  rw [← four_lit (RSo (F := F) c), four_from c]
  unfold RSo
  rw [if_pos rfl, if_neg (rs1 c).2.2.2, if_neg (rs2 c).2.2.2, if_neg (rs3 c).2.2.2, (rs1 c).1, (rs2 c).1, (rs3 c).1, (rs1 c).2.1, (rs2 c).2.1, (rs3 c).2.1,
    (rs1 c).2.2.1, (rs2 c).2.2.1, (rs3 c).2.2.1]
  iintro H
  isplitr; · iempintro
  iexact H

theorem ZRo_all : iprop(ZRo (F := F) c 0 ∗ ZRo (F := F) c 1 ∗ ZRo (F := F) c 2 ∗ ZRo (F := F) c 3) ⊢ iprop(Zr (F := F) c 10 ∗ Zr (F := F) c 11 ∗ Zr (F := F) c 12) := by
  rw [← four_lit (ZRo (F := F) c), four_from c]
  unfold ZRo
  rw [if_pos rfl, if_neg (rs1 c).2.2.2, if_neg (rs2 c).2.2.2, if_neg (rs3 c).2.2.2, (rs1 c).1, (rs2 c).1, (rs3 c).1]
  iintro ⟨-, H⟩
  iexact H

/-- A guarded step, by its two cases. -/
theorem st_if {P : Prop} [Decidable P] (p : P → Prog (TpuEff nD τ sig (Elt F) Λ₀ .tc) α) (p' : Prog (TpuEff nD τ sig (Elt F) Λ₀ .tc) α) (A B : sProp 𝕄)
    (hp : ∀ h : P, A ⊢ iprop((B -∗ WP c p' Q) -∗ WP c (p h) Q)) (hn : ¬ P → A ⊢ B) :
    A ⊢ iprop((B -∗ WP c p' Q) -∗ WP c (if h : P then p h else p') Q) := by
  iintro HA Hk
  by_cases h : P
  · rw [dif_pos h]
    iapply (hp h) $$ HA Hk
  · rw [dif_neg h]
    ihave HB := (hn h) $$ HA
    iapply Hk; iexact HB

theorem st_rs (q : Fin 4) (k k' : ℕ) (hk₀ : k = 3 + q.val) (hk₁ : k' = 4 + q.val) {P : Prop} [Decidable P] (hP : P ↔ c ≠ q) (e' : P → Dev nD) (he : ∀ h, e' h = q) {src : Memref sig .tc .vmem S1x128x512 .bf16}
    (hs : src = p1R q) (dst : P → Memref sig .tc .vmem S1x128x512 .bf16) (hd : ∀ h, dst h = r1R (rsJ c q)) (q₁ q₂ : P → DmaSem sig) (hq₁ : ∀ h, q₁ h = rsN c q)
    (hq₂ : ∀ h, q₂ h = rrN c q)
    {hsq : S1x128x512.Squeezes S128x512}
    {hsc : ∀ h, ((dst h).squeeze S128x512 hsq).view.ref.isScScratch = false} {hsrc : (src.squeeze S128x512 hsq).view.WordExact} {hdst : ∀ h, ((dst h).squeeze S128x512 hsq).view.WordExact}
    {hsem : ∀ h, DmaTarget.Typed .vmem (.dma (q₂ h)) (.remote (Dev.tc (e' h) : Thread nD τ) ((dst h).squeeze S128x512 hsq) (.dma (q₁ h)) (hsc h))}
    {kk : PUnit → Prog (TpuEff nD τ sig (Elt F) Λ₀ .tc) α} :
    records m K ⊢ iprop(ow c (p1R q) fullShare (P1 m c q) -∗ RSo (F := F) c q -∗ Ow (F := F) c k -∗ ((RCo m c q ∗ Ow (F := F) c k') -∗ WP c (kk ⟨⟩) Q)
      -∗ WP c (if h : P then .op (.enqueueDma (src.squeeze S128x512 hsq) (.remote (Dev.tc (e' h) : Thread nD τ) ((dst h).squeeze S128x512 hsq) (.dma (q₁ h)) (hsc h)) (.dma (q₂ h)) hsrc (hdst h) (hsem h)) kk
          else kk ⟨⟩) Q) := by
  subst hk₀ hk₁
  have hk : 4 + q.val = 3 + q.val + 1 := by omega
  have h := st_if c (Q := Q) (fun h : P => .op (.enqueueDma (src.squeeze S128x512 hsq) (.remote (Dev.tc (e' h) : Thread nD τ) ((dst h).squeeze S128x512 hsq) (.dma (q₁ h)) (hsc h)) (.dma (q₂ h)) hsrc (hdst h) (hsem h)) kk) (kk ⟨⟩)
    iprop(records m K ∗ ow c (p1R q) fullShare (P1 m c q) ∗ RSo (F := F) c q ∗ Ow (F := F) c (3 + q.val)) iprop(RCo m c q ∗ Ow (F := F) c (4 + q.val))
    (fun h => by
      have hc : c ≠ q := hP.mp h
      have hqc : ¬ q = c := fun e => hc e.symm
      unfold RSo RCo
      rw [if_neg hqc, if_neg hqc, hk]
      iintro ⟨#HR, H1, ⟨HS, HD⟩, HO⟩ Hk
      iapply (st_send m K c q (e' h) (he h) (3 + q.val) (rsN c q) (rrN c q) (q₁ h) (q₂ h) (hq₁ h) (hq₂ h) hsq hs (hd h) (rs_act c q hc).1 (rs_act c q hc).2.1
        N1 (by rfl) (rs_act c q hc).2.2.1 (rs_act c q hc).2.2.2 (rs_pays c q hc) fullShare (P1 m c q) (rs_pay1 m c q hc) (rs_pay2 m c q hc)) $$ HR H1 HD HO HS
      iintro H
      iapply Hk; iexact H)
    (fun h => by
      have hc : q = c := by by_contra e; exact h (hP.mpr fun e' => e e'.symm)
      subst hc
      unfold RSo RCo Ow
      rw [if_pos rfl, if_pos rfl, hk, owed_step q (3 + q.val) _ (rs_own q)]
      iintro ⟨-, H1, -, ⟨%W, HO⟩⟩
      isplitl [H1]; · iexact H1
      iexists W
      have h0 : tallyAt (rsPay q q).1 () (rsPay q q).2 = (0 : CellTallies nD τ sig Unit) := by
        unfold rsPay; rw [if_pos rfl]; exact tallyAt_zero _ _
      rw [h0, add_zero]; iexact HO)
  iintro HR H1 H2 H3 Hk
  iapply h $$ [HR H1 H2 H3] Hk
  iframe

/-- The guarded wait at the end. -/
theorem st_rsWait (q : Fin 4) {P : Prop} [Decidable P] (hP : P ↔ c ≠ q) {s s' : Shape} {e₁ e₂ : EltTy} (src : P → Memref sig .tc .vmem s e₁) (dst : P → Memref sig .tc .vmem s' e₂)
    (hN : ∀ h, (dst h).view.dmaCredit = N1) (q₁ : P → DmaSem sig) (hq₁ : ∀ h, q₁ h = rsN c q)
    {h1 : ∀ h, (src h).view.WordExact} {h2 : ∀ h, (dst h).view.WordExact}
    {kk : PUnit → Prog (TpuEff nD τ sig (Elt F) Λ₀ .tc) α} :
    records m K ⊢ iprop(RCo m c q -∗ Ow (F := F) c 22 -∗ ((ow c (p1R q) fullShare (P1 m c q) ∗ Ow (F := F) c 22 ∗ ZRo (F := F) c q) -∗ WP c (kk ⟨⟩) Q)
      -∗ WP c (if h : P then .op (.waitDma2 (q₁ h) (src h) (dst h) (h1 h) (h2 h)) kk else kk ⟨⟩) Q) := by
  have h := st_if c (Q := Q) (fun h : P => .op (.waitDma2 (q₁ h) (src h) (dst h) (h1 h) (h2 h)) kk) (kk ⟨⟩)
    iprop(records m K ∗ RCo m c q ∗ Ow (F := F) c 22) iprop(ow c (p1R q) fullShare (P1 m c q) ∗ Ow (F := F) c 22 ∗ ZRo (F := F) c q)
    (fun h => by
      have hc : c ≠ q := hP.mp h
      have hqc : ¬ q = c := fun e => hc e.symm
      have hpay : dPay m c (rsN c q).val ⊢ ow c (p1R q) fullShare (P1 m c q) := by
        rcases three_away c q hc with rfl | rfl | rfl
        · rw [(rs1 c).1]; exact Entails.refl _
        · rw [(rs2 c).1]; exact Entails.refl _
        · rw [(rs3 c).1]; exact Entails.refl _
      unfold RCo ZRo
      rw [if_neg hqc, if_neg hqc]
      iintro ⟨#HR, H1, HO⟩ Hk
      iapply (st_wait m K c (rsN c q) 22 (q₁ h) (hq₁ h) (rs_act c q hc).1 (fun h => absurd h (by decide)) _ hpay ((hN h).trans (rs_act c q hc).2.2.1.symm)) $$ HR H1 HO
      iintro ⟨HO, HP, HZ⟩
      iapply Hk; iframe)
    (fun h => by
      have hc : q = c := by by_contra e; exact h (hP.mpr fun e' => e e'.symm)
      subst hc
      unfold RCo ZRo
      rw [if_pos rfl, if_pos rfl]
      iintro ⟨-, H1, HO⟩
      iframe)
  iintro HR H1 H2 Hk
  iapply h $$ [HR H1 H2] Hk
  iframe

/-! ## Loads and stores of rows and half rows -/

theorem row4_ld (M : Memref sig .tc .vmem S4x128x512 .bf16) (q : Fin 4) {o : Fin 3 → ℕ} (ho : o = ![q.val, 0, 0]) {hb : ∀ a, o a + S1x128x512.size a ≤ S4x128x512.size a}
    (p : PosShare TreeShare) (X : Vec F S1x128x512 .bf16) {hl : M.view.LoadsAt (Rect.unit (s := S4x128x512) o S1x128x512.size hb).toLoadRect}
    {kk : Vec F S1x128x512 .bf16 → Prog (TpuEff nD τ sig (Elt F) Λ₀ .tc) α} :
    ow c (sl4 M q) p X ⊢ iprop((ow c (sl4 M q) p X -∗ WP c (kk X) Q) -∗ WP c (.op (.load M (Rect.unit (s := S4x128x512) o S1x128x512.size hb).toLoadRect hl) kk) Q) :=
  st_load c (s := S4x128x512) ho p X
theorem row4_st (M : Memref sig .tc .vmem S4x128x512 .bf16) (q : Fin 4) {o : Fin 3 → ℕ} (ho : o = ![q.val, 0, 0]) {hb : ∀ a, o a + S1x128x512.size a ≤ S4x128x512.size a}
    (X w w' : Vec F S1x128x512 .bf16) (hww : w' = w)
    {hx : (M.access (Rect.unit (s := S4x128x512) o S1x128x512.size hb)).Stores Finset.univ} {hm : Finset.univ = Finset.univ ∨ ∀ a, (Rect.unit (s := S4x128x512) o S1x128x512.size hb).stride a = 1}
    {kk : PUnit → Prog (TpuEff nD τ sig (Elt F) Λ₀ .tc) α} :
    ow c (sl4 M q) fullShare X ⊢ iprop((ow c (sl4 M q) fullShare w -∗ WP c (kk ⟨⟩) Q) -∗ WP c (.op (.store M (Rect.unit (s := S4x128x512) o S1x128x512.size hb) w' Finset.univ hx hm) kk) Q) :=
  st_store c (s := S4x128x512) ho X w w' hww
theorem row3_ld (M : Memref sig .tc .vmem S3x128x512 .bf16) (q : Fin 3) {o : Fin 3 → ℕ} (ho : o = ![q.val, 0, 0]) {hb : ∀ a, o a + S1x128x512.size a ≤ S3x128x512.size a}
    (p : PosShare TreeShare) (X : Vec F S1x128x512 .bf16) {hl : M.view.LoadsAt (Rect.unit (s := S3x128x512) o S1x128x512.size hb).toLoadRect}
    {kk : Vec F S1x128x512 .bf16 → Prog (TpuEff nD τ sig (Elt F) Λ₀ .tc) α} :
    ow c (sl3 M q) p X ⊢ iprop((ow c (sl3 M q) p X -∗ WP c (kk X) Q) -∗ WP c (.op (.load M (Rect.unit (s := S3x128x512) o S1x128x512.size hb).toLoadRect hl) kk) Q) :=
  st_load c (s := S3x128x512) ho p X
theorem half4_ld (M : Memref sig .tc .vmem S4x128x512 .bf16) (q : Fin 4) (h : Fin 2) {o : Fin 3 → ℕ} (ho : o = ![q.val, 0, 256 * h.val]) {hb : ∀ a, o a + S1x128x256.size a ≤ S4x128x512.size a}
    (p : PosShare TreeShare) (X : Vec F S1x128x256 .bf16) {hl : M.view.LoadsAt (Rect.unit (s := S4x128x512) o S1x128x256.size hb).toLoadRect}
    {kk : Vec F S1x128x256 .bf16 → Prog (TpuEff nD τ sig (Elt F) Λ₀ .tc) α} :
    ow c (hf4 M q h) p X ⊢ iprop((ow c (hf4 M q h) p X -∗ WP c (kk X) Q) -∗ WP c (.op (.load M (Rect.unit (s := S4x128x512) o S1x128x256.size hb).toLoadRect hl) kk) Q) :=
  st_load c (s := S4x128x512) ho p X
theorem half4_st (M : Memref sig .tc .vmem S4x128x512 .bf16) (q : Fin 4) (h : Fin 2) {o : Fin 3 → ℕ} (ho : o = ![q.val, 0, 256 * h.val]) {hb : ∀ a, o a + S1x128x256.size a ≤ S4x128x512.size a}
    (X w w' : Vec F S1x128x256 .bf16) (hww : w' = w)
    {hx : (M.access (Rect.unit (s := S4x128x512) o S1x128x256.size hb)).Stores Finset.univ} {hm : Finset.univ = Finset.univ ∨ ∀ a, (Rect.unit (s := S4x128x512) o S1x128x256.size hb).stride a = 1}
    {kk : PUnit → Prog (TpuEff nD τ sig (Elt F) Λ₀ .tc) α} :
    ow c (hf4 M q h) fullShare X ⊢ iprop((ow c (hf4 M q h) fullShare w -∗ WP c (kk ⟨⟩) Q) -∗ WP c (.op (.store M (Rect.unit (s := S4x128x512) o S1x128x256.size hb) w' Finset.univ hx hm) kk) Q) :=
  st_store c (s := S4x128x512) ho X w w' hww
theorem half3_ld (M : Memref sig .tc .vmem S3x128x512 .bf16) (q : Fin 3) (h : Fin 2) {o : Fin 3 → ℕ} (ho : o = ![q.val, 0, 256 * h.val]) {hb : ∀ a, o a + S1x128x256.size a ≤ S3x128x512.size a}
    (p : PosShare TreeShare) (X : Vec F S1x128x256 .bf16) {hl : M.view.LoadsAt (Rect.unit (s := S3x128x512) o S1x128x256.size hb).toLoadRect}
    {kk : Vec F S1x128x256 .bf16 → Prog (TpuEff nD τ sig (Elt F) Λ₀ .tc) α} :
    ow c (hf3 M q h) p X ⊢ iprop((ow c (hf3 M q h) p X -∗ WP c (kk X) Q) -∗ WP c (.op (.load M (Rect.unit (s := S3x128x512) o S1x128x256.size hb).toLoadRect hl) kk) Q) :=
  st_load c (s := S3x128x512) ho p X
theorem rowO_ld (M : Memref sig .tc .vmem S2x256x512 .f32) (q : Fin 4) {o : Fin 3 → ℕ} (ho : o = ![q.val / 2, q.val % 2 * 128, 0]) {hb : ∀ a, o a + S1x128x512.size a ≤ S2x256x512.size a}
    (p : PosShare TreeShare) (X : Vec F S1x128x512 .f32) {hl : M.view.LoadsAt (Rect.unit (s := S2x256x512) o S1x128x512.size hb).toLoadRect}
    {kk : Vec F S1x128x512 .f32 → Prog (TpuEff nD τ sig (Elt F) Λ₀ .tc) α} :
    ow c (M.slice (oRect q) fun _ => rfl) p X ⊢ iprop((ow c (M.slice (oRect q) fun _ => rfl) p X -∗ WP c (kk X) Q) -∗ WP c (.op (.load M (Rect.unit (s := S2x256x512) o S1x128x512.size hb).toLoadRect hl) kk) Q) :=
  st_load c (s := S2x256x512) ho p X
theorem rowO_st (M : Memref sig .tc .vmem S2x256x512 .f32) (q : Fin 4) {o : Fin 3 → ℕ} (ho : o = ![q.val / 2, q.val % 2 * 128, 0]) {hb : ∀ a, o a + S1x128x512.size a ≤ S2x256x512.size a}
    (X w w' : Vec F S1x128x512 .f32) (hww : w' = w)
    {hx : (M.access (Rect.unit (s := S2x256x512) o S1x128x512.size hb)).Stores Finset.univ} {hm : Finset.univ = Finset.univ ∨ ∀ a, (Rect.unit (s := S2x256x512) o S1x128x512.size hb).stride a = 1}
    {kk : PUnit → Prog (TpuEff nD τ sig (Elt F) Λ₀ .tc) α} :
    ow c (M.slice (oRect q) fun _ => rfl) fullShare X ⊢ iprop((ow c (M.slice (oRect q) fun _ => rfl) fullShare w -∗ WP c (kk ⟨⟩) Q) -∗ WP c (.op (.store M (Rect.unit (s := S2x256x512) o S1x128x512.size hb) w' Finset.univ hx hm) kk) Q) :=
  st_store c (s := S2x256x512) ho X w w' hww

end Cert.KProof

end
-- ==== Proof.Parts2.lean ====
/- The second stretch: the attention rows travel, their sum is formed, and the first residual's rows travel. -/
module

public import proofs.«01_k».proof.Proof.Sends

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 58 → ℕ) (c : Dev nD)

/-! ## Where the guarded transfers go -/

theorem cond1 (c : Dev nD) : k0_cond1 c = 1#1 ↔ c ≠ 0 := by revert c; decide
theorem cond2 (c : Dev nD) : k0_cond2 c = 1#1 ↔ c ≠ 1 := by revert c; decide
theorem cond3 (c : Dev nD) : k0_cond3 c = 1#1 ↔ c ≠ 2 := by revert c; decide
theorem cond4 (c : Dev nD) : k0_cond4 c = 1#1 ↔ c ≠ 3 := by revert c; decide

theorem off2 : ∀ c : Dev nD, k0_cond1 c = 1#1 → k0_off2 c = ![(rsJ c 0).val, 0, 0] := by decide
theorem off4 : ∀ c : Dev nD, k0_cond2 c = 1#1 → k0_off4 c = ![(rsJ c 1).val, 0, 0] := by decide
theorem off6 : ∀ c : Dev nD, k0_cond3 c = 1#1 → k0_off6 c = ![(rsJ c 2).val, 0, 0] := by decide
theorem off8 : ∀ c : Dev nD, k0_cond4 c = 1#1 → k0_off8 c = ![(rsJ c 3).val, 0, 0] := by decide

theorem off1 : ∀ c : Dev nD, k0_cond1 c = 1#1 → k0_off1 c = ![(0 + 3 - c.val) % 4] := by decide
theorem off3 : ∀ c : Dev nD, k0_cond2 c = 1#1 → k0_off3 c = ![(1 + 3 - c.val) % 4] := by decide
theorem off5 : ∀ c : Dev nD, k0_cond3 c = 1#1 → k0_off5 c = ![(2 + 3 - c.val) % 4] := by decide
theorem off7 : ∀ c : Dev nD, k0_cond4 c = 1#1 → k0_off7 c = ![(3 + 3 - c.val) % 4] := by decide

theorem inbS : ∀ n : Fin 24, ∀ a, ![n.val] a + S1.size a ≤ S24.size a := by decide
theorem sq1 : S1.Squeezes S_ := by decide
theorem sem16L : ∀ n : Fin 24, ((cc0_scratch16.slice (Rect.unit (s := S24) ![n.val] S1.size (inbS n))).squeeze S_ sq1).sem = (⟨10 + n.val, by omega⟩ : Fin 58) := by decide
theorem sem17L : ∀ n : Fin 24, ((cc0_scratch17.slice (Rect.unit (s := S24) ![n.val] S1.size (inbS n))).squeeze S_ sq1).sem = (⟨34 + n.val, by omega⟩ : Fin 58) := by decide

/-- A semaphore of the outgoing and of the incoming array, by its place. -/
theorem sem16 (n : ℕ) (hn : n < 24) (o : Fin 1 → ℕ) (ho : o = ![n]) (inb : ∀ a, o a + S1.size a ≤ S24.size a) (hsq : S1.Squeezes S_) :
    ((cc0_scratch16.slice (Rect.unit (s := S24) o S1.size inb)).squeeze S_ hsq).sem = (⟨10 + n, by omega⟩ : Fin 58) := by
  subst ho; exact sem16L ⟨n, hn⟩
theorem sem17 (n : ℕ) (hn : n < 24) (o : Fin 1 → ℕ) (ho : o = ![n]) (inb : ∀ a, o a + S1.size a ≤ S24.size a) (hsq : S1.Squeezes S_) :
    ((cc0_scratch17.slice (Rect.unit (s := S24) o S1.size inb)).squeeze S_ hsq).sem = (⟨34 + n, by omega⟩ : Fin 58) := by
  subst ho; exact sem17L ⟨n, hn⟩

/-- A row of the landing buffer, by its place. -/
theorem r1_at (j : Fin 3) (o : Fin 3 → ℕ) (ho : o = ![j.val, 0, 0]) (inb : ∀ a, o a + S1x128x512.size a ≤ S3x128x512.size a) :
    (r1M.slice (Rect.unit (s := S3x128x512) o S1x128x512.size inb) (fun _ => rfl) : Memref sig .tc .vmem S1x128x512 .bf16) = r1R j := by
  subst ho; rfl

theorem part6 (Φ : _ → sProp 𝕄) :
    records m K ⊢ iprop(Ow c 3 -∗ Clm c 7 -∗ owE (F := F) c (p1R 0) -∗ owE (F := F) c (p1R 1) -∗ RSo c 0
      -∗ (∀ w, (Ow c 4 ∗ pt c main_arg4 (A4 m c) ∗ pt c cc0_scratch4 (A4 m c) ∗ Zr c 7 ∗ RCo m c 0 ∗ ow c (p1R 1) fullShare (P1 m c 1))
          -∗ Φ ⟨V200 m c, V201 m c, w⟩)
      -∗ WP c (k0_part6 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) (V126 m c) (V143 m c) (V160 m c) (V177 m c) (V189 m c) (V190 m c)) Φ) := by
  rw [k0_part6_eq_skeleton]; unfold k0_part6_skel
  simp only [semSignalWord, semWaitWord, Prog.lift, Prog.bind_op, Prog.bind_ret, Prog.pure_eq_ret, wp_deviceId]
  iintro #HR HO L7 ⟨%X0, H0⟩ ⟨%X1, H1⟩ HS Hk
  iapply (st_wait m K c 7 3 _ rfl rfl (by decide) iprop(pt c main_arg4 (A4 m c) ∗ pt c cc0_scratch4 (A4 m c)) (Entails.refl _) rfl) $$ HR L7 HO; iintro ⟨HO, ⟨a, d⟩, Hz⟩
  iapply (st_loadW c (M := woM) _ (A4 m c) (V199 m c) rfl) $$ d; iintro d
  iapply (row4_ld c p1M 0 (o := ![0, 0, 0]) rfl _ X0) $$ H0; iintro H0
  iapply (row4_st c p1M 0 (o := ![0, 0, 0]) rfl _ (P1 m c 0) _ rfl) $$ H0; iintro H0
  iapply (st_rs m K c 0 3 4 rfl rfl (cond1 c) (fun h => ⟨k0_dev4, k0_dev4_lt c h⟩) (fun _ => rfl) rfl
    (fun h => r1M.slice (Rect.unit (s := S3x128x512) (k0_off2 c) S1x128x512.size (k0_off2_inb c h)) (fun _ => rfl)) (fun h => r1_at _ _ (off2 c h) _)
    (fun h => ((cc0_scratch16.slice (Rect.unit (s := S24) (k0_off1 c) S1.size (k0_off1_inb c h))).squeeze S_ sq1).sem)
    (fun h => ((cc0_scratch17.slice (Rect.unit (s := S24) (k0_off1 c) S1.size (k0_off1_inb c h))).squeeze S_ sq1).sem)
    (fun h => sem16 _ (by omega) _ (off1 c h) _ _) (fun h => sem17 _ (by omega) _ (off1 c h) _ _)) $$ HR H0 HS HO
  iintro ⟨HC, HO⟩
  iapply (row4_ld c p1M 1 (o := ![1, 0, 0]) rfl _ X1) $$ H1; iintro H1
  iapply (row4_st c p1M 1 (o := ![1, 0, 0]) rfl _ (P1 m c 1) _ rfl) $$ H1; iintro H1
  iapply (st_retE (Q := Φ) c _ ⟨V200 m c, V201 m c, _⟩ rfl)
  iapply Hk
  iframe

theorem part7 (w : BitVec 32) (Φ : _ → sProp 𝕄) :
    records m K ⊢ iprop(Ow c 4 -∗ ow c (p1R 1) fullShare (P1 m c 1) -∗ RSo c 1
      -∗ ((Ow c 5 ∗ RCo m c 1) -∗ Φ ⟨V236 m c, V238 m c, V240 m c, V257 m c, V266 m c⟩)
      -∗ WP c (k0_part7 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) (V79 m c) (V96 m c) (V97 m c) (V109 m c) (V111 m c) (V113 m c) w) Φ) := by
  rw [k0_part7_eq_skeleton]; unfold k0_part7_skel
  simp only [semSignalWord, semWaitWord, Prog.lift, Prog.bind_op, Prog.bind_ret, Prog.pure_eq_ret, wp_deviceId]
  iintro #HR HO H1 S1 Hk
  iapply (st_rs m K c 1 4 5 rfl rfl (cond2 c) (fun h => ⟨k0_dev5, k0_dev5_lt c h⟩) (fun _ => rfl) rfl
    (fun h => r1M.slice (Rect.unit (s := S3x128x512) (k0_off4 c) S1x128x512.size (k0_off4_inb c h)) (fun _ => rfl)) (fun h => r1_at _ _ (off4 c h) _)
    (fun h => ((cc0_scratch16.slice (Rect.unit (s := S24) (k0_off3 c) S1.size (k0_off3_inb c h))).squeeze S_ sq1).sem)
    (fun h => ((cc0_scratch17.slice (Rect.unit (s := S24) (k0_off3 c) S1.size (k0_off3_inb c h))).squeeze S_ sq1).sem)
    (fun h => sem16 _ (by omega) _ (off3 c h) _ _) (fun h => sem17 _ (by omega) _ (off3 c h) _ _)) $$ HR H1 S1 HO
  iintro ⟨C1, HO⟩
  iapply (st_retE (Q := Φ) c _ ⟨V236 m c, V238 m c, V240 m c, V257 m c, V266 m c⟩ rfl)
  iapply Hk
  iframe

theorem part9 (Φ : _ → sProp 𝕄) :
    records m K ⊢ iprop(Ow c 5 -∗ owE (F := F) c (p1R 2) -∗ owE (F := F) c (p1R 3) -∗ RSo c 2 -∗ RSo c 3
      -∗ (∀ w, (Ow c 7 ∗ RCo m c 2 ∗ RCo m c 3) -∗ Φ w)
      -∗ WP c (k0_part9 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) (V311 m c) (V313 m c)) Φ) := by
  rw [k0_part9_eq_skeleton]; unfold k0_part9_skel
  simp only [semSignalWord, semWaitWord, Prog.lift, Prog.bind_op, Prog.bind_ret, Prog.pure_eq_ret, wp_deviceId]
  iintro #HR HO ⟨%X2, H2⟩ ⟨%X3, H3⟩ S2 S3 Hk
  iapply (row4_ld c p1M 2 (o := ![2, 0, 0]) rfl _ X2) $$ H2; iintro H2
  iapply (row4_st c p1M 2 (o := ![2, 0, 0]) rfl _ (P1 m c 2) _ rfl) $$ H2; iintro H2
  iapply (st_rs m K c 2 5 6 rfl rfl (cond3 c) (fun h => ⟨k0_dev6, k0_dev6_lt c h⟩) (fun _ => rfl) rfl
    (fun h => r1M.slice (Rect.unit (s := S3x128x512) (k0_off6 c) S1x128x512.size (k0_off6_inb c h)) (fun _ => rfl)) (fun h => r1_at _ _ (off6 c h) _)
    (fun h => ((cc0_scratch16.slice (Rect.unit (s := S24) (k0_off5 c) S1.size (k0_off5_inb c h))).squeeze S_ sq1).sem)
    (fun h => ((cc0_scratch17.slice (Rect.unit (s := S24) (k0_off5 c) S1.size (k0_off5_inb c h))).squeeze S_ sq1).sem)
    (fun h => sem16 _ (by omega) _ (off5 c h) _ _) (fun h => sem17 _ (by omega) _ (off5 c h) _ _)) $$ HR H2 S2 HO
  iintro ⟨C2, HO⟩
  iapply (row4_ld c p1M 3 (o := ![3, 0, 0]) rfl _ X3) $$ H3; iintro H3
  iapply (row4_st c p1M 3 (o := ![3, 0, 0]) rfl _ (P1 m c 3) _ rfl) $$ H3; iintro H3
  iapply (st_rs m K c 3 6 7 rfl rfl (cond4 c) (fun h => ⟨k0_dev7, k0_dev7_lt c h⟩) (fun _ => rfl) rfl
    (fun h => r1M.slice (Rect.unit (s := S3x128x512) (k0_off8 c) S1x128x512.size (k0_off8_inb c h)) (fun _ => rfl)) (fun h => r1_at _ _ (off8 c h) _)
    (fun h => ((cc0_scratch16.slice (Rect.unit (s := S24) (k0_off7 c) S1.size (k0_off7_inb c h))).squeeze S_ sq1).sem)
    (fun h => ((cc0_scratch17.slice (Rect.unit (s := S24) (k0_off7 c) S1.size (k0_off7_inb c h))).squeeze S_ sq1).sem)
    (fun h => sem16 _ (by omega) _ (off7 c h) _ _) (fun h => sem17 _ (by omega) _ (off7 c h) _ _)) $$ HR H3 S3 HO
  iintro ⟨C3, HO⟩
  iapply (st_ret (Q := Φ) c)
  iapply Hk
  iframe

end Cert.KProof

end
-- ==== Proof.Parts3.lean ====
/- The third stretch: the attention sum, the first residual's rows travelling, and the feed-forward rows made for each device. -/
module

public import proofs.«01_k».proof.Proof.Parts2

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 58 → ℕ) (c : Dev nD)

/-! ## Places, as the program computes them -/

theorem off9 : ∀ c : Dev nD, k0_off9 c = ![c.val, 0, 0] := by decide
theorem off10 : ∀ c : Dev nD, k0_off10 c = ![c.val, 0, 0] := by decide
theorem off11_1 : ∀ c : Dev nD, k0_off11 c 1#32 = ![(sh c 3).val, 0, 0] := by decide
theorem off11_2 : ∀ c : Dev nD, k0_off11 c 2#32 = ![(sh c 2).val, 0, 0] := by decide
theorem off11_3 : ∀ c : Dev nD, k0_off11 c 3#32 = ![(sh c 1).val, 0, 0] := by decide
theorem off12_1 : ∀ c : Dev nD, k0_off12 c 1#32 = ![(sh c 3).val, 0, 256 * (0 : Fin 2).val] := by decide
theorem off12_2 : ∀ c : Dev nD, k0_off12 c 2#32 = ![(sh c 2).val, 0, 256 * (0 : Fin 2).val] := by decide
theorem off12_3 : ∀ c : Dev nD, k0_off12 c 3#32 = ![(sh c 1).val, 0, 256 * (0 : Fin 2).val] := by decide
theorem off13_1 : ∀ c : Dev nD, k0_off13 c 1#32 = ![(sh c 3).val, 0, 256 * (1 : Fin 2).val] := by decide
theorem off13_2 : ∀ c : Dev nD, k0_off13 c 2#32 = ![(sh c 2).val, 0, 256 * (1 : Fin 2).val] := by decide
theorem off13_3 : ∀ c : Dev nD, k0_off13 c 3#32 = ![(sh c 1).val, 0, 256 * (1 : Fin 2).val] := by decide

theorem dev8 : ∀ c : Dev nD, k0_dev8 c = (sh c 1).val := by decide
theorem dev9 : ∀ c : Dev nD, k0_dev9 c = (sh c 2).val := by decide
theorem dev10 : ∀ c : Dev nD, k0_dev10 c = (sh c 3).val := by decide
theorem dev11 : ∀ c : Dev nD, k0_dev11 c = (sh c 3).val := by decide
theorem dev12 : ∀ c : Dev nD, k0_dev12 c = (sh c 3).val := by decide
theorem dev13 : ∀ c : Dev nD, k0_dev13 c = (sh c 1).val := by decide
theorem dev14 : ∀ c : Dev nD, k0_dev14 c = (sh c 1).val := by decide
theorem dev15 : ∀ c : Dev nD, k0_dev15 c = (sh c 2).val := by decide
theorem dev16 : ∀ c : Dev nD, k0_dev16 c = (sh c 2).val := by decide

theorem sqR : S1x128x512.Squeezes S128x512 := by decide
theorem sqH : S1x128x256.Squeezes S128x256 := by decide

/-- A row or half row, by its place. -/
theorem sl4_at (M : Memref sig .tc .vmem S4x128x512 .bf16) (q : Fin 4) {o : Fin 3 → ℕ} (ho : o = ![q.val, 0, 0]) (inb : ∀ a, o a + S1x128x512.size a ≤ S4x128x512.size a) :
    (M.slice (Rect.unit (s := S4x128x512) o S1x128x512.size inb) (fun _ => rfl) : Memref sig .tc .vmem S1x128x512 .bf16) = sl4 M q := by
  subst ho; rfl
theorem hf4_at (M : Memref sig .tc .vmem S4x128x512 .bf16) (q : Fin 4) (h : Fin 2) {o : Fin 3 → ℕ} (ho : o = ![q.val, 0, 256 * h.val]) (inb : ∀ a, o a + S1x128x256.size a ≤ S4x128x512.size a) :
    (M.slice (Rect.unit (s := S4x128x512) o S1x128x256.size inb) (fun _ => rfl) : Memref sig .tc .vmem S1x128x256 .bf16) = hf4 M q h := by
  subst ho; rfl
theorem hf3_at (M : Memref sig .tc .vmem S3x128x512 .bf16) (q : Fin 3) (h : Fin 2) {o : Fin 3 → ℕ} (ho : o = ![q.val, 0, 256 * h.val]) (inb : ∀ a, o a + S1x128x256.size a ≤ S3x128x512.size a) :
    (M.slice (Rect.unit (s := S3x128x512) o S1x128x256.size inb) (fun _ => rfl) : Memref sig .tc .vmem S1x128x256 .bf16) = hf3 M q h := by
  subst ho; rfl

/-- What is handed over, under the sender's two names. -/
theorem pay_eq {e e' : Dev nD} (h : e' = e) (Φ : Dev nD → sProp 𝕄) : Φ e ⊢ Φ e' := by subst h; exact Entails.refl _

variable {α : Type} {Q : α → sProp (MT nD τ sig Unit (Elt F) ℕ UU ℕ)}

/-- A half of the feed-forward row made for `e` leaves for `e`. -/
theorem st_half (e : Dev nD) (k : ℕ) (n₁ n₂ : Fin 58) (j : Fin 3) (h : Fin 2) (q₁ q₂ : DmaSem sig) (hq₁ : q₁ = n₁) (hq₂ : q₂ = n₂)
    (X : Vec F S1x128x256 .bf16) (hp : (pays c)[k]? = some (dc e n₂, NH)) (ha₁ : act n₁ = true) (ha₂ : act n₂ = true) (h₁ : amt n₁.val = NH) (h₂ : amt n₂.val = NH)
    (hpay₁ : ow c (p2H e h) fullShare X ⊢ dPay m c n₁.val) (hpay₂ : ow e (r2H j h) fullShare X ⊢ dPay m e n₂.val)
    {o : Fin 3 → ℕ} (ho : o = ![e.val, 0, 256 * h.val]) {inb : ∀ a, o a + S1x128x256.size a ≤ S4x128x512.size a}
    {o' : Fin 3 → ℕ} (ho' : o' = ![j.val, 0, 256 * h.val]) {inb' : ∀ a, o' a + S1x128x256.size a ≤ S3x128x512.size a}
    {d : ℕ} (hd : d = e.val) {hlt : d < nD}
    {hsc : ((r2M.slice (Rect.unit (s := S3x128x512) o' S1x128x256.size inb') (fun _ => rfl) : Memref sig .tc .vmem S1x128x256 .bf16).squeeze S128x256 sqH).view.ref.isScScratch = false}
    {hsrc : ((p2M.slice (Rect.unit (s := S4x128x512) o S1x128x256.size inb) (fun _ => rfl) : Memref sig .tc .vmem S1x128x256 .bf16).squeeze S128x256 sqH).view.WordExact}
    {hdst : ((r2M.slice (Rect.unit (s := S3x128x512) o' S1x128x256.size inb') (fun _ => rfl) : Memref sig .tc .vmem S1x128x256 .bf16).squeeze S128x256 sqH).view.WordExact}
    {hsem : DmaTarget.Typed .vmem (.dma q₂) (.remote (Dev.tc (⟨d, hlt⟩ : Dev nD) : Thread nD τ) ((r2M.slice (Rect.unit (s := S3x128x512) o' S1x128x256.size inb') (fun _ => rfl) : Memref sig .tc .vmem S1x128x256 .bf16).squeeze S128x256 sqH) (.dma q₁) hsc)}
    {kk : PUnit → Prog (TpuEff nD τ sig (Elt F) Λ₀ .tc) α} :
    records m K ⊢ iprop(ow c (p2H e h) fullShare X -∗ owE (F := F) e (r2H j h) -∗ Ow c k -∗ SndB c n₁ e n₂ -∗
      ((Clm c n₁ ∗ Ow c (k + 1)) -∗ WP c (kk ⟨⟩) Q)
          -∗ WP c (.op (.enqueueDma ((p2M.slice (Rect.unit (s := S4x128x512) o S1x128x256.size inb) (fun _ => rfl) : Memref sig .tc .vmem S1x128x256 .bf16).squeeze S128x256 sqH)
            (.remote (Dev.tc (⟨d, hlt⟩ : Dev nD) : Thread nD τ) ((r2M.slice (Rect.unit (s := S3x128x512) o' S1x128x256.size inb') (fun _ => rfl) : Memref sig .tc .vmem S1x128x256 .bf16).squeeze S128x256 sqH) (.dma q₁) hsc) (.dma q₂) hsrc hdst hsem) kk) Q) :=
  st_send m K c e ⟨d, hlt⟩ (Fin.ext hd) k n₁ n₂ q₁ q₂ hq₁ hq₂ sqH (hf4_at p2M e h ho inb) (hf3_at r2M j h ho' inb') ha₁ ha₂ NH (by rfl) h₁ h₂ hp fullShare X hpay₁ hpay₂

/-- Device `c`'s row of the first residual leaves for `e`. -/
theorem st_ag (e : Dev nD) (k t : ℕ) (n₁ n₂ : Fin 58) (q₁ q₂ : DmaSem sig) (hq₁ : q₁ = n₁) (hq₂ : q₂ = n₂)
    (hp : (pays c)[k]? = some (dc e n₂, N1)) (ha₁ : act n₁ = true) (ha₂ : act n₂ = true) (h₁ : amt n₁.val = N1) (h₂ : amt n₂.val = N1)
    (hpay₁ : ow c (agR c) (third t) (X1 m c) ⊢ dPay m c n₁.val) (hpay₂ : ow e (agR c) fullShare (X1 m c) ⊢ dPay m e n₂.val)
    {o : Fin 3 → ℕ} (ho : o = ![c.val, 0, 0]) {inb : ∀ a, o a + S1x128x512.size a ≤ S4x128x512.size a}
    {d : ℕ} (hd : d = e.val) {hlt : d < nD}
    {hsc : ((agM.slice (Rect.unit (s := S4x128x512) o S1x128x512.size inb) (fun _ => rfl) : Memref sig .tc .vmem S1x128x512 .bf16).squeeze S128x512 sqR).view.ref.isScScratch = false}
    {hsrc hdst : ((agM.slice (Rect.unit (s := S4x128x512) o S1x128x512.size inb) (fun _ => rfl) : Memref sig .tc .vmem S1x128x512 .bf16).squeeze S128x512 sqR).view.WordExact}
    {hsem : DmaTarget.Typed .vmem (.dma q₂) (.remote (Dev.tc (⟨d, hlt⟩ : Dev nD) : Thread nD τ) ((agM.slice (Rect.unit (s := S4x128x512) o S1x128x512.size inb) (fun _ => rfl) : Memref sig .tc .vmem S1x128x512 .bf16).squeeze S128x512 sqR) (.dma q₁) hsc)}
    {kk : PUnit → Prog (TpuEff nD τ sig (Elt F) Λ₀ .tc) α} :
    records m K ⊢ iprop(ow c (agR c) (third t) (X1 m c) -∗ owE (F := F) e (agR c) -∗ Ow c k -∗ SndB c n₁ e n₂ -∗
      ((Clm c n₁ ∗ Ow c (k + 1)) -∗ WP c (kk ⟨⟩) Q)
          -∗ WP c (.op (.enqueueDma ((agM.slice (Rect.unit (s := S4x128x512) o S1x128x512.size inb) (fun _ => rfl) : Memref sig .tc .vmem S1x128x512 .bf16).squeeze S128x512 sqR)
            (.remote (Dev.tc (⟨d, hlt⟩ : Dev nD) : Thread nD τ) ((agM.slice (Rect.unit (s := S4x128x512) o S1x128x512.size inb) (fun _ => rfl) : Memref sig .tc .vmem S1x128x512 .bf16).squeeze S128x512 sqR) (.dma q₁) hsc) (.dma q₂) hsrc hdst hsem) kk) Q) :=
  st_send m K c e ⟨d, hlt⟩ (Fin.ext hd) k n₁ n₂ q₁ q₂ hq₁ hq₂ sqR (sl4_at agM c ho inb) (sl4_at agM c ho inb) ha₁ ha₂ N1 (by rfl) h₁ h₂ hp (third t) (X1 m c) hpay₁ hpay₂

/-! ## The parts -/

theorem part10 (w₁ w₂ w₃ : BitVec 32) (Φ : _ → sProp 𝕄) :
    records m K ⊢ iprop(Ow c 7 -∗ Clm c 34 -∗ Clm c 36 -∗ Clm c 35
      -∗ ((Ow c 7 ∗ ow c (r1R 0) fullShare (R1 m c 0) ∗ ow c (r1R 1) fullShare (R1 m c 1) ∗ ow c (r1R 2) fullShare (R1 m c 2) ∗ Zr c 34 ∗ Zr c 36 ∗ Zr c 35) -∗ Φ 2#32)
      -∗ WP c (k0_part10 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 w₁ w₂ w₃) Φ) := by
  rw [k0_part10_eq_skeleton]; unfold k0_part10_skel
  simp only [semSignalWord, semWaitWord, Prog.lift, Prog.bind_op, Prog.bind_ret, Prog.pure_eq_ret, wp_deviceId]
  iintro #HR HO L0 L2 L1 Hk
  iapply (st_wait m K c 34 7 _ rfl rfl (by decide) (ow c (r1R 0) fullShare (R1 m c 0)) (Entails.refl _) rfl) $$ HR L0 HO; iintro ⟨HO, H0, Z0⟩
  iapply (st_wait m K c 36 7 _ rfl rfl (by decide) (ow c (r1R 2) fullShare (R1 m c 2)) (Entails.refl _) rfl) $$ HR L2 HO; iintro ⟨HO, H2, Z2⟩
  iapply (st_wait m K c 35 7 _ rfl rfl (by decide) (ow c (r1R 1) fullShare (R1 m c 1)) (Entails.refl _) rfl) $$ HR L1 HO; iintro ⟨HO, H1, Z1⟩
  iapply (st_ret (Q := Φ) c)
  iapply Hk
  iframe

theorem part11 (Φ : _ → sProp 𝕄) :
    records m K ⊢ iprop(ow c (r1R 0) fullShare (R1 m c 0) -∗ ow c (r1R 1) fullShare (R1 m c 1) -∗ ow c (r1R 2) fullShare (R1 m c 2) -∗ owE (F := F) c (agR c)
      -∗ (∀ w, (ow c (r1R 0) fullShare (R1 m c 0) ∗ ow c (r1R 1) fullShare (R1 m c 1) ∗ ow c (r1R 2) fullShare (R1 m c 2) ∗ ow c (agR c) fullShare (X1 m c)) -∗ Φ ⟨V398 m c, w⟩)
      -∗ WP c (k0_part11 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) (V37 m c) (V39 m c) (V89 m c) (V98 m c) (V201 m c) (V311 m c) 2#32) Φ) := by
  rw [k0_part11_eq_skeleton]; unfold k0_part11_skel
  simp only [semSignalWord, semWaitWord, Prog.lift, Prog.bind_op, Prog.bind_ret, Prog.pure_eq_ret, wp_deviceId]
  iintro #HR H0 H1 H2 ⟨%X, Ha⟩ Hk
  iapply (row3_ld c r1M 0 (o := ![0, 0, 0]) rfl _ (R1 m c 0)) $$ H0; iintro H0
  iapply (row3_ld c r1M 1 (o := ![1, 0, 0]) rfl _ (R1 m c 1)) $$ H1; iintro H1
  iapply (row3_ld c r1M 2 (o := ![2, 0, 0]) rfl _ (R1 m c 2)) $$ H2; iintro H2
  iapply (row4_ld c agM c (off9 c) _ X) $$ Ha; iintro Ha
  iapply (row4_st c agM c (off9 c) _ (X1 m c) _ rfl) $$ Ha; iintro Ha
  iapply (st_retE (Q := Φ) c _ ⟨V398 m c, _⟩ rfl)
  iapply Hk
  iframe

theorem part12 (w : BitVec 32) (Φ : _ → sProp 𝕄) :
    records m K ⊢ iprop(Ow c 7 -∗ ow c (agR c) (third 1) (X1 m c) -∗ owE (F := F) (sh c 1) (agR c) -∗ SndB c 13 (sh c 1) 37
      -∗ ow c (agR c) (third 2) (X1 m c) -∗ owE (F := F) (sh c 2) (agR c) -∗ SndB c 14 (sh c 2) 38
      -∗ (∀ w, (Ow c 9 ∗ Clm c 13 ∗ Clm c 14) -∗ Φ w)
      -∗ WP c (k0_part12 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) w) Φ) := by
  rw [k0_part12_eq_skeleton]; unfold k0_part12_skel
  simp only [semSignalWord, semWaitWord, Prog.lift, Prog.bind_op, Prog.bind_ret, Prog.pure_eq_ret, wp_deviceId]
  iintro #HR HO H1 D1 S1 H2 D2 S2 Hk
  iapply (st_ag m K c (sh c 1) 7 1 13 37 _ _ rfl rfl rfl rfl rfl rfl rfl (Entails.refl _) (pay_eq (sh_back1 c) (fun e => ow (sh c 1) (agR e) fullShare (X1 m e))) (off10 c) (dev8 c)) $$ HR H1 D1 HO S1; iintro ⟨C1, HO⟩
  iapply (st_ag m K c (sh c 2) 8 2 14 38 _ _ rfl rfl rfl rfl rfl rfl rfl (Entails.refl _) (pay_eq (sh_back2 c) (fun e => ow (sh c 2) (agR e) fullShare (X1 m e))) (off10 c) (dev9 c)) $$ HR H2 D2 HO S2; iintro ⟨C2, HO⟩
  iapply (st_ret (Q := Φ) c)
  iapply Hk
  iframe

theorem part13 (Φ : _ → sProp 𝕄) :
    records m K ⊢ iprop(Ow c 9 -∗ ow c (agR c) (third 3) (X1 m c) -∗ owE (F := F) (sh c 3) (agR c) -∗ SndB c 15 (sh c 3) 39 -∗ Clm c 8 -∗ Clm c 9
      -∗ ((Ow c 10 ∗ Clm c 15 ∗ pt c main_arg7 (A7 m c) ∗ pt c cc0_scratch7 (A7 m c) ∗ Zr c 8 ∗ pt c main_arg8 (A8 m c) ∗ pt c cc0_scratch8 (A8 m c) ∗ Zr c 9)
          -∗ Φ ⟨V445 m c, V447 m c, V479 m c⟩)
      -∗ WP c (k0_part13 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) (V90 m c) (V91 m c) (V99 m c) (V100 m c) (V398 m c)) Φ) := by
  rw [k0_part13_eq_skeleton]; unfold k0_part13_skel
  simp only [semSignalWord, semWaitWord, Prog.lift, Prog.bind_op, Prog.bind_ret, Prog.pure_eq_ret, wp_deviceId]
  iintro #HR HO H3 D3 S3 L8 L9 Hk
  iapply (st_ag m K c (sh c 3) 9 3 15 39 _ _ rfl rfl rfl rfl rfl rfl rfl (Entails.refl _) (pay_eq (sh_back3 c) (fun e => ow (sh c 3) (agR e) fullShare (X1 m e))) (off10 c) (dev10 c)) $$ HR H3 D3 HO S3; iintro ⟨C3, HO⟩
  iapply (st_wait m K c 8 10 _ rfl rfl (by decide) iprop(pt c main_arg7 (A7 m c) ∗ pt c cc0_scratch7 (A7 m c)) (Entails.refl _) rfl) $$ HR L8 HO; iintro ⟨HO, ⟨a8, d8⟩, Z8⟩
  iapply (st_wait m K c 9 10 _ rfl rfl (by decide) iprop(pt c main_arg8 (A8 m c) ∗ pt c cc0_scratch8 (A8 m c)) (Entails.refl _) rfl) $$ HR L9 HO; iintro ⟨HO, ⟨a9, d9⟩, Z9⟩
  iapply (st_loadW c (M := f1M) _ (A7 m c) (V444 m c) rfl) $$ d8; iintro d8
  iapply (st_loadW c (M := f2M) _ (A8 m c) (V446 m c) rfl) $$ d9; iintro d9
  iapply (st_retE (Q := Φ) c _ ⟨V445 m c, V447 m c, V479 m c⟩ rfl)
  iapply Hk
  iframe

theorem part14 (w : BitVec 32) (Φ : _ → sProp 𝕄) :
    records m K ⊢ iprop(Ow c 10 -∗ Clm c 37
      -∗ (∀ w, (Ow c 10 ∗ ow c (agR (sh c 3)) fullShare (X1 m (sh c 3)) ∗ Zr c 37) -∗ Φ ⟨V487 m c, w, V502 m c, V504 m c, V506 m c, V510 m c, V517 m c⟩)
      -∗ WP c (k0_part14 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) (V90 m c) (V91 m c) (V99 m c) (V100 m c) w (V447 m c) (V479 m c)) Φ) := by
  rw [k0_part14_eq_skeleton]; unfold k0_part14_skel
  simp only [semSignalWord, semWaitWord, Prog.lift, Prog.bind_op, Prog.bind_ret, Prog.pure_eq_ret, wp_deviceId]
  iintro #HR HO L Hk
  iapply (st_wait m K c 37 10 _ rfl rfl (by decide) (ow c (agR (sh c 3)) fullShare (X1 m (sh c 3))) (Entails.refl _) rfl) $$ HR L HO; iintro ⟨HO, H, Z⟩
  iapply (row4_ld c agM (sh c 3) (off11_1 c) _ (X1 m (sh c 3))) $$ H; iintro H
  iapply (st_retE (Q := Φ) c _ ⟨V487 m c, _, V502 m c, V504 m c, V506 m c, V510 m c, V517 m c⟩ rfl)
  iapply Hk
  iframe

theorem part15 (w : BitVec 32) (Φ : _ → sProp 𝕄) :
    records m K ⊢ iprop(Ow c 10 -∗ owE (F := F) c (p2R (sh c 3)) -∗ owE (F := F) (sh c 3) (r2H 2 0) -∗ SndB c 26 (sh c 3) 50
      -∗ ((Ow c 11 ∗ Clm c 26 ∗ ow c (p2H (sh c 3) 1) fullShare (halfOf (P2 m c 3) 1)) -∗ Φ ⟨⟩)
      -∗ WP c (k0_part15 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (V445 m c) (V447 m c) w (V502 m c) (V504 m c) (V506 m c) (V510 m c) (V517 m c)) Φ) := by
  rw [k0_part15_eq_skeleton]; unfold k0_part15_skel
  simp only [semSignalWord, semWaitWord, Prog.lift, Prog.bind_op, Prog.bind_ret, Prog.pure_eq_ret, wp_deviceId]
  iintro #HR HO ⟨%X, H⟩ D S Hk
  iapply (row4_ld c p2M (sh c 3) (off11_1 c) _ X) $$ H; iintro H
  iapply (row4_st c p2M (sh c 3) (off11_1 c) _ (P2 m c 3) _ rfl) $$ H; iintro H
  ihave H := (row_halves c p2M (sh c 3) fullShare (P2 m c 3)) $$ H
  icases H with ⟨H0, H1⟩
  iapply (st_half m K c (sh c 3) 10 26 50 2 0 _ _ rfl rfl (halfOf (P2 m c 3) 0) rfl rfl rfl rfl rfl (Entails.refl _)
    (pay_eq (sh_back3 c) (fun e => ow (sh c 3) (r2H 2 0) fullShare (halfOf (P2 m e 3) 0))) (off12_1 c) rfl (dev11 c)) $$ HR H0 D HO S; iintro ⟨C, HO⟩
  iapply (st_ret (Q := Φ) c)
  iapply Hk
  iframe

theorem part16 (w w' : BitVec 32) (Φ : _ → sProp 𝕄) :
    records m K ⊢ iprop(Ow c 11 -∗ ow c (p2H (sh c 3) 1) fullShare (halfOf (P2 m c 3) 1) -∗ owE (F := F) (sh c 3) (r2H 2 1) -∗ SndB c 27 (sh c 3) 51 -∗ Clm c 39
      -∗ (∀ w, (Ow c 12 ∗ Clm c 27 ∗ ow c (agR (sh c 1)) fullShare (X1 m (sh c 1)) ∗ Zr c 39) -∗ Φ ⟨w, V582 m c, V584 m c, V586 m c, V588 m c, k0_pay65 (F := F)⟩)
      -∗ WP c (k0_part16 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) (V90 m c) (V91 m c) (V99 m c) (V100 m c) w w') Φ) := by
  rw [k0_part16_eq_skeleton]; unfold k0_part16_skel
  simp only [semSignalWord, semWaitWord, Prog.lift, Prog.bind_op, Prog.bind_ret, Prog.pure_eq_ret, wp_deviceId]
  iintro #HR HO H1 D S L Hk
  iapply (st_half m K c (sh c 3) 11 27 51 2 1 _ _ rfl rfl (halfOf (P2 m c 3) 1) rfl rfl rfl rfl rfl (Entails.refl _)
    (pay_eq (sh_back3 c) (fun e => ow (sh c 3) (r2H 2 1) fullShare (halfOf (P2 m e 3) 1))) (off13_1 c) rfl (dev12 c)) $$ HR H1 D HO S; iintro ⟨C, HO⟩
  iapply (st_wait m K c 39 12 _ rfl rfl (by decide) (ow c (agR (sh c 1)) fullShare (X1 m (sh c 1))) (Entails.refl _) rfl) $$ HR L HO; iintro ⟨HO, H, Z⟩
  iapply (row4_ld c agM (sh c 1) (off11_3 c) _ (X1 m (sh c 1))) $$ H; iintro H
  iapply (st_retE (Q := Φ) c _ ⟨_, V582 m c, V584 m c, V586 m c, V588 m c, k0_pay65 (F := F)⟩ rfl)
  iapply Hk
  iframe

theorem part17 (w : BitVec 32) (Φ : _ → sProp 𝕄) :
    owE (F := F) c (p2R (sh c 1)) ⊢ iprop((ow c (p2R (sh c 1)) fullShare (P2 m c 1) -∗ Φ ⟨⟩)
      -∗ WP c (k0_part17 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (V445 m c) (V447 m c) w (V582 m c) (V584 m c) (V586 m c) (V588 m c) (k0_pay65 (F := F))) Φ) := by
  rw [k0_part17_eq_skeleton]; unfold k0_part17_skel
  simp only [semSignalWord, semWaitWord, Prog.lift, Prog.bind_op, Prog.bind_ret, Prog.pure_eq_ret, wp_deviceId]
  iintro ⟨%X, H⟩ Hk
  iapply (row4_ld c p2M (sh c 1) (off11_3 c) _ X) $$ H; iintro H
  iapply (row4_st c p2M (sh c 1) (off11_3 c) _ (P2 m c 1) _ rfl) $$ H; iintro H
  iapply (st_ret (Q := Φ) c)
  iapply Hk
  iframe

theorem part18 (w w' : BitVec 32) (Φ : _ → sProp 𝕄) :
    records m K ⊢ iprop(Ow c 12 -∗ ow c (p2R (sh c 1)) fullShare (P2 m c 1) -∗ owE (F := F) (sh c 1) (r2H 0 0) -∗ owE (F := F) (sh c 1) (r2H 0 1)
      -∗ SndB c 22 (sh c 1) 46 -∗ SndB c 23 (sh c 1) 47 -∗ Clm c 38
      -∗ ((Ow c 14 ∗ Clm c 22 ∗ Clm c 23 ∗ ow c (agR (sh c 2)) fullShare (X1 m (sh c 2)) ∗ Zr c 38) -∗ Φ ⟨pl2 c, V662 m c, Scalar.cmpi .sge (pl2 c) 2#32⟩)
      -∗ WP c (k0_part18 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) w w') Φ) := by
  rw [k0_part18_eq_skeleton]; unfold k0_part18_skel
  simp only [semSignalWord, semWaitWord, Prog.lift, Prog.bind_op, Prog.bind_ret, Prog.pure_eq_ret, wp_deviceId]
  iintro #HR HO H D0 D1 S0 S1 L Hk
  ihave H := (row_halves c p2M (sh c 1) fullShare (P2 m c 1)) $$ H
  icases H with ⟨H0, H1⟩
  iapply (st_half m K c (sh c 1) 12 22 46 0 0 _ _ rfl rfl (halfOf (P2 m c 1) 0) rfl rfl rfl rfl rfl (Entails.refl _)
    (pay_eq (sh_back1 c) (fun e => ow (sh c 1) (r2H 0 0) fullShare (halfOf (P2 m e 1) 0))) (off12_3 c) rfl (dev13 c)) $$ HR H0 D0 HO S0; iintro ⟨C0, HO⟩
  iapply (st_half m K c (sh c 1) 13 23 47 0 1 _ _ rfl rfl (halfOf (P2 m c 1) 1) rfl rfl rfl rfl rfl (Entails.refl _)
    (pay_eq (sh_back1 c) (fun e => ow (sh c 1) (r2H 0 1) fullShare (halfOf (P2 m e 1) 1))) (off13_3 c) rfl (dev14 c)) $$ HR H1 D1 HO S1; iintro ⟨C1, HO⟩
  iapply (st_wait m K c 38 14 _ rfl rfl (by decide) (ow c (agR (sh c 2)) fullShare (X1 m (sh c 2))) (Entails.refl _) rfl) $$ HR L HO; iintro ⟨HO, H, Z⟩
  iapply (row4_ld c agM (sh c 2) (off11_2 c) _ (X1 m (sh c 2))) $$ H; iintro H
  iapply (st_retE (Q := Φ) c _ ⟨pl2 c, V662 m c, Scalar.cmpi .sge (pl2 c) 2#32⟩ rfl)
  iapply Hk
  iframe

theorem part19 (Φ : _ → sProp 𝕄) :
    owE (F := F) c (p2R (sh c 2)) ⊢ iprop((ow c (p2R (sh c 2)) fullShare (P2 m c 2) -∗ Φ ⟨⟩)
      -∗ WP c (k0_part19 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (V90 m c) (V91 m c) (V99 m c) (V100 m c) (V445 m c) (V447 m c) (pl2 c) (V662 m c) (Scalar.cmpi .sge (pl2 c) 2#32)) Φ) := by
  rw [k0_part19_eq_skeleton]; unfold k0_part19_skel
  simp only [semSignalWord, semWaitWord, Prog.lift, Prog.bind_op, Prog.bind_ret, Prog.pure_eq_ret, wp_deviceId]
  iintro ⟨%X, H⟩ Hk
  iapply (row4_ld c p2M (sh c 2) (off11_2 c) _ X) $$ H; iintro H
  iapply (row4_st c p2M (sh c 2) (off11_2 c) _ (P2 m c 2) _ rfl) $$ H; iintro H
  iapply (st_ret (Q := Φ) c)
  iapply Hk
  iframe

theorem part20 (w w' : BitVec 32) (Φ : _ → sProp 𝕄) :
    records m K ⊢ iprop(Ow c 14 -∗ ow c (p2R (sh c 2)) fullShare (P2 m c 2) -∗ owE (F := F) (sh c 2) (r2H 1 0) -∗ owE (F := F) (sh c 2) (r2H 1 1)
      -∗ SndB c 24 (sh c 2) 48 -∗ SndB c 25 (sh c 2) 49 -∗ Clm c 50
      -∗ ((Ow c 16 ∗ Clm c 24 ∗ Clm c 25 ∗ ow c (r2H 2 0) fullShare (R2 m c 2 0) ∗ Zr c 50) -∗ Φ 1#32)
      -∗ WP c (k0_part20 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c w w') Φ) := by
  rw [k0_part20_eq_skeleton]; unfold k0_part20_skel
  simp only [semSignalWord, semWaitWord, Prog.lift, Prog.bind_op, Prog.bind_ret, Prog.pure_eq_ret, wp_deviceId]
  iintro #HR HO H D0 D1 S0 S1 L Hk
  ihave H := (row_halves c p2M (sh c 2) fullShare (P2 m c 2)) $$ H
  icases H with ⟨H0, H1⟩
  iapply (st_half m K c (sh c 2) 14 24 48 1 0 _ _ rfl rfl (halfOf (P2 m c 2) 0) rfl rfl rfl rfl rfl (Entails.refl _)
    (pay_eq (sh_back2 c) (fun e => ow (sh c 2) (r2H 1 0) fullShare (halfOf (P2 m e 2) 0))) (off12_2 c) rfl (dev15 c)) $$ HR H0 D0 HO S0; iintro ⟨C0, HO⟩
  iapply (st_half m K c (sh c 2) 15 25 49 1 1 _ _ rfl rfl (halfOf (P2 m c 2) 1) rfl rfl rfl rfl rfl (Entails.refl _)
    (pay_eq (sh_back2 c) (fun e => ow (sh c 2) (r2H 1 1) fullShare (halfOf (P2 m e 2) 1))) (off13_2 c) rfl (dev16 c)) $$ HR H1 D1 HO S1; iintro ⟨C1, HO⟩
  iapply (st_wait m K c 50 16 _ rfl rfl (by decide) (ow c (r2H 2 0) fullShare (R2 m c 2 0)) (Entails.refl _) rfl) $$ HR L HO; iintro ⟨HO, H, Z⟩
  iapply (st_ret (Q := Φ) c)
  iapply Hk
  iframe

end Cert.KProof

end
-- ==== Proof.Parts4.lean ====
/- The fourth stretch: the feed-forward sum, the result's rows travelling, and the waits for what was sent. -/
module

public import proofs.«01_k».proof.Proof.Parts3

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 58 → ℕ) (c : Dev nD)

/-! ## Places -/

theorem off14 : ∀ c : Dev nD, k0_off14 c = ![c.val, 0, 256 * (0 : Fin 2).val] := by decide
theorem off15 : ∀ c : Dev nD, k0_off15 c = ![c.val, 0, 256 * (0 : Fin 2).val] := by decide
theorem off16 : ∀ c : Dev nD, k0_off16 c = ![c.val, 0, 256 * (1 : Fin 2).val] := by decide
theorem off17 : ∀ c : Dev nD, k0_off17 c = ![c.val, 0, 256 * (1 : Fin 2).val] := by decide
theorem off18 : ∀ c : Dev nD, k0_off18 c = ![c.val / 2, c.val % 2 * 128, 0] := by decide
theorem off19_1 : ∀ c : Dev nD, k0_off19 c 1#32 = ![(sh c 3).val / 2, (sh c 3).val % 2 * 128, 0] := by decide
theorem off19_2 : ∀ c : Dev nD, k0_off19 c 2#32 = ![(sh c 2).val / 2, (sh c 2).val % 2 * 128, 0] := by decide
theorem off19_3 : ∀ c : Dev nD, k0_off19 c 3#32 = ![(sh c 1).val / 2, (sh c 1).val % 2 * 128, 0] := by decide

theorem off20 : ∀ c : Dev nD, k0_cond5 c = 1#1 → k0_off20 c = ![(0 + 3 - c.val) % 4] := by decide
theorem off22 : ∀ c : Dev nD, k0_cond6 c = 1#1 → k0_off22 c = ![(1 + 3 - c.val) % 4] := by decide
theorem off24 : ∀ c : Dev nD, k0_cond7 c = 1#1 → k0_off24 c = ![(2 + 3 - c.val) % 4] := by decide
theorem off26 : ∀ c : Dev nD, k0_cond8 c = 1#1 → k0_off26 c = ![(3 + 3 - c.val) % 4] := by decide

theorem cond5 (c : Dev nD) : k0_cond5 c = 1#1 ↔ c ≠ 0 := by revert c; decide
theorem cond6 (c : Dev nD) : k0_cond6 c = 1#1 ↔ c ≠ 1 := by revert c; decide
theorem cond7 (c : Dev nD) : k0_cond7 c = 1#1 ↔ c ≠ 2 := by revert c; decide
theorem cond8 (c : Dev nD) : k0_cond8 c = 1#1 ↔ c ≠ 3 := by revert c; decide

theorem dev17 : ∀ c : Dev nD, k0_dev17 c = (sh c 1).val := by decide
theorem dev18 : ∀ c : Dev nD, k0_dev18 c = (sh c 2).val := by decide
theorem dev19 : ∀ c : Dev nD, k0_dev19 c = (sh c 3).val := by decide
theorem dev20 : ∀ c : Dev nD, k0_dev20 c = (sh c 1).val := by decide
theorem dev21 : ∀ c : Dev nD, k0_dev21 c = (sh c 2).val := by decide
theorem dev22 : ∀ c : Dev nD, k0_dev22 c = (sh c 3).val := by decide

theorem outRow_own : outRow m c c = k0_pay76 (V771 m c) (V856 m c) := if_pos rfl
theorem outRow_ne (q : Fin 4) (h : q ≠ c) : outRow m c q = k0_pay77 (RW m q) := if_neg h

variable {α : Type} {Q : α → sProp (MT nD τ sig Unit (Elt F) ℕ UU ℕ)}

/-- A half of device `c`'s row of the result leaves for `e`. -/
theorem st_rd (e : Dev nD) (k t : ℕ) (h : Fin 2) (n₁ n₂ : Fin 58) (q₁ q₂ : DmaSem sig) (hq₁ : q₁ = n₁) (hq₂ : q₂ = n₂)
    (hp : (pays c)[k]? = some (dc e n₂, NH)) (ha₁ : act n₁ = true) (ha₂ : act n₂ = true) (h₁ : amt n₁.val = NH) (h₂ : amt n₂.val = NH)
    (hpay₁ : ow c (rdH c h) (third t) (RD m c h) ⊢ dPay m c n₁.val) (hpay₂ : ow e (rdH c h) fullShare (RD m c h) ⊢ dPay m e n₂.val)
    {o : Fin 3 → ℕ} (ho : o = ![c.val, 0, 256 * h.val]) {inb : ∀ a, o a + S1x128x256.size a ≤ S4x128x512.size a}
    {d : ℕ} (hd : d = e.val) {hlt : d < nD}
    {hsc : ((rdM.slice (Rect.unit (s := S4x128x512) o S1x128x256.size inb) (fun _ => rfl) : Memref sig .tc .vmem S1x128x256 .bf16).squeeze S128x256 sqH).view.ref.isScScratch = false}
    {hsrc hdst : ((rdM.slice (Rect.unit (s := S4x128x512) o S1x128x256.size inb) (fun _ => rfl) : Memref sig .tc .vmem S1x128x256 .bf16).squeeze S128x256 sqH).view.WordExact}
    {hsem : DmaTarget.Typed .vmem (.dma q₂) (.remote (Dev.tc (⟨d, hlt⟩ : Dev nD) : Thread nD τ) ((rdM.slice (Rect.unit (s := S4x128x512) o S1x128x256.size inb) (fun _ => rfl) : Memref sig .tc .vmem S1x128x256 .bf16).squeeze S128x256 sqH) (.dma q₁) hsc)}
    {kk : PUnit → Prog (TpuEff nD τ sig (Elt F) Λ₀ .tc) α} :
    records m K ⊢ iprop(ow c (rdH c h) (third t) (RD m c h) -∗ owE (F := F) e (rdH c h) -∗ Ow c k -∗ SndB c n₁ e n₂ -∗
      ((Clm c n₁ ∗ Ow c (k + 1)) -∗ WP c (kk ⟨⟩) Q)
          -∗ WP c (.op (.enqueueDma ((rdM.slice (Rect.unit (s := S4x128x512) o S1x128x256.size inb) (fun _ => rfl) : Memref sig .tc .vmem S1x128x256 .bf16).squeeze S128x256 sqH)
            (.remote (Dev.tc (⟨d, hlt⟩ : Dev nD) : Thread nD τ) ((rdM.slice (Rect.unit (s := S4x128x512) o S1x128x256.size inb) (fun _ => rfl) : Memref sig .tc .vmem S1x128x256 .bf16).squeeze S128x256 sqH) (.dma q₁) hsc) (.dma q₂) hsrc hdst hsem) kk) Q) :=
  st_send m K c e ⟨d, hlt⟩ (Fin.ext hd) k n₁ n₂ q₁ q₂ hq₁ hq₂ sqH (hf4_at rdM c h ho inb) (hf4_at rdM c h ho inb) ha₁ ha₂ NH (by rfl) h₁ h₂ hp (third t) (RD m c h) hpay₁ hpay₂

/-- Two halves of another device's row, as they came, are that row. -/
theorem rd_row (q : Fin 4) : iprop(ow c (rdH q 0) fullShare (RD m q 0) ∗ ow c (rdH q 1) fullShare (RD m q 1)) ⊢ ow c (rdR q) fullShare (RW m q) :=
  halves_row c rdM q fullShare (RD m q 0) (RD m q 1)

/-! ## The parts -/

theorem part21 (w w' w'' : BitVec 32) (Φ : _ → sProp 𝕄) :
    records m K ⊢ iprop(Ow c 16 -∗ Clm c 46 -∗ Clm c 48 -∗ ow c (r2H 2 0) fullShare (R2 m c 2 0)
      -∗ ((Ow c 16 ∗ ow c (r2H 0 0) fullShare (R2 m c 0 0) ∗ ow c (r2H 1 0) fullShare (R2 m c 1 0) ∗ ow c (r2H 2 0) fullShare (R2 m c 2 0) ∗ Zr c 46 ∗ Zr c 48) -∗ Φ ⟨V764 m c, V765 m c, V769 m c⟩)
      -∗ WP c (k0_part21 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) (V92 m c) (V101 m c) (V398 m c) (V487 m c) w w' w'') Φ) := by
  rw [k0_part21_eq_skeleton]; unfold k0_part21_skel
  simp only [semSignalWord, semWaitWord, Prog.lift, Prog.bind_op, Prog.bind_ret, Prog.pure_eq_ret, wp_deviceId]
  iintro #HR HO L0 L1 H2 Hk
  iapply (st_wait m K c 46 16 _ rfl rfl (by decide) (ow c (r2H 0 0) fullShare (R2 m c 0 0)) (Entails.refl _) rfl) $$ HR L0 HO; iintro ⟨HO, H0, Z0⟩
  iapply (st_wait m K c 48 16 _ rfl rfl (by decide) (ow c (r2H 1 0) fullShare (R2 m c 1 0)) (Entails.refl _) rfl) $$ HR L1 HO; iintro ⟨HO, H1, Z1⟩
  iapply (half3_ld c r2M 0 0 (o := ![0, 0, 0]) rfl _ (R2 m c 0 0)) $$ H0; iintro H0
  iapply (half3_ld c r2M 1 0 (o := ![1, 0, 0]) rfl _ (R2 m c 1 0)) $$ H1; iintro H1
  iapply (half3_ld c r2M 2 0 (o := ![2, 0, 0]) rfl _ (R2 m c 2 0)) $$ H2; iintro H2
  iapply (st_retE (Q := Φ) c _ ⟨V764 m c, V765 m c, V769 m c⟩ rfl)
  iapply Hk
  iframe

/-- Three thirds of a half row. -/
theorem thirds3 (h : Fin 2) : ow c (rdH c h) fullShare (RD m c h) ⊢ iprop(ow c (rdH c h) (third 1) (RD m c h) ∗ ow c (rdH c h) (third 2) (RD m c h) ∗ ow c (rdH c h) (third 3) (RD m c h)) :=
  (thirds c (rdH c h) (RD m c h)).1

theorem part22 (Φ : _ → sProp 𝕄) :
    records m K ⊢ iprop(Ow c 16 -∗ owE (F := F) c (rdH c 0) -∗ owE (F := F) (sh c 1) (rdH c 0) -∗ SndB c 28 (sh c 1) 52 -∗ owE (F := F) (sh c 2) (rdH c 0) -∗ SndB c 30 (sh c 2) 54
      -∗ (∀ w w' w'', (Ow c 18 ∗ Clm c 28 ∗ Clm c 30 ∗ ow c (rdH c 0) (third 3) (RD m c 0)) -∗ Φ ⟨V771 m c, w, w', w''⟩)
      -∗ WP c (k0_part22 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) (V764 m c) (V765 m c) (V769 m c)) Φ) := by
  rw [k0_part22_eq_skeleton]; unfold k0_part22_skel
  simp only [semSignalWord, semWaitWord, Prog.lift, Prog.bind_op, Prog.bind_ret, Prog.pure_eq_ret, wp_deviceId]
  iintro #HR HO ⟨%X, H⟩ D1 S1 D2 S2 Hk
  iapply (half4_ld c rdM c 0 (off14 c) _ X) $$ H; iintro H
  iapply (half4_st c rdM c 0 (off14 c) _ (RD m c 0) _ rfl) $$ H; iintro H
  ihave H := (thirds3 m c 0) $$ H
  icases H with ⟨H1, H2, H3⟩
  iapply (st_rd m K c (sh c 1) 16 1 0 28 52 _ _ rfl rfl rfl rfl rfl rfl rfl (Entails.refl _) (pay_eq (sh_back1 c) (fun e => ow (sh c 1) (rdH e 0) fullShare (RD m e 0))) (off15 c) (dev17 c)) $$ HR H1 D1 HO S1; iintro ⟨C1, HO⟩
  iapply (st_rd m K c (sh c 2) 17 2 0 30 54 _ _ rfl rfl rfl rfl rfl rfl rfl (Entails.refl _) (pay_eq (sh_back2 c) (fun e => ow (sh c 2) (rdH e 0) fullShare (RD m e 0))) (off15 c) (dev18 c)) $$ HR H2 D2 HO S2; iintro ⟨C2, HO⟩
  iapply (st_retE (Q := Φ) c _ ⟨V771 m c, _, _, _⟩ rfl)
  iapply Hk
  iframe

theorem part23 (w w' w'' w''' : BitVec 32) (Φ : _ → sProp 𝕄) :
    records m K ⊢ iprop(Ow c 18 -∗ ow c (rdH c 0) (third 3) (RD m c 0) -∗ owE (F := F) (sh c 3) (rdH c 0) -∗ SndB c 32 (sh c 3) 56 -∗ Clm c 51 -∗ Clm c 47
      -∗ (∀ w, (Ow c 19 ∗ Clm c 32 ∗ ow c (r2H 2 1) fullShare (R2 m c 2 1) ∗ ow c (r2H 0 1) fullShare (R2 m c 0 1) ∗ Zr c 51 ∗ Zr c 47) -∗ Φ w)
      -∗ WP c (k0_part23 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c w w' w'' w''') Φ) := by
  rw [k0_part23_eq_skeleton]; unfold k0_part23_skel
  simp only [semSignalWord, semWaitWord, Prog.lift, Prog.bind_op, Prog.bind_ret, Prog.pure_eq_ret, wp_deviceId]
  iintro #HR HO H3 D3 S3 L2 L0 Hk
  iapply (st_rd m K c (sh c 3) 18 3 0 32 56 _ _ rfl rfl rfl rfl rfl rfl rfl (Entails.refl _) (pay_eq (sh_back3 c) (fun e => ow (sh c 3) (rdH e 0) fullShare (RD m e 0))) (off15 c) (dev19 c)) $$ HR H3 D3 HO S3; iintro ⟨C3, HO⟩
  iapply (st_wait m K c 51 19 _ rfl rfl (by decide) (ow c (r2H 2 1) fullShare (R2 m c 2 1)) (Entails.refl _) rfl) $$ HR L2 HO; iintro ⟨HO, H2, Z2⟩
  iapply (st_wait m K c 47 19 _ rfl rfl (by decide) (ow c (r2H 0 1) fullShare (R2 m c 0 1)) (Entails.refl _) rfl) $$ HR L0 HO; iintro ⟨HO, H0, Z0⟩
  iapply (st_ret (Q := Φ) c)
  iapply Hk
  iframe

theorem part24 (w : BitVec 32) (Φ : _ → sProp 𝕄) :
    records m K ⊢ iprop(Ow c 19 -∗ Clm c 49 -∗ ow c (r2H 2 1) fullShare (R2 m c 2 1) -∗ ow c (r2H 0 1) fullShare (R2 m c 0 1) -∗ owE (F := F) c (rdH c 1)
      -∗ (∀ w w' w'', (Ow c 19 ∗ ow c (r2H 0 1) fullShare (R2 m c 0 1) ∗ ow c (r2H 1 1) fullShare (R2 m c 1 1) ∗ ow c (r2H 2 1) fullShare (R2 m c 2 1) ∗ Zr c 49 ∗ ow c (rdH c 1) fullShare (RD m c 1)) -∗ Φ ⟨V856 m c, w, w', w''⟩)
      -∗ WP c (k0_part24 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) (V92 m c) (V101 m c) (V398 m c) (V487 m c) w) Φ) := by
  rw [k0_part24_eq_skeleton]; unfold k0_part24_skel
  simp only [semSignalWord, semWaitWord, Prog.lift, Prog.bind_op, Prog.bind_ret, Prog.pure_eq_ret, wp_deviceId]
  iintro #HR HO L1 H2 H0 ⟨%X, H⟩ Hk
  iapply (st_wait m K c 49 19 _ rfl rfl (by decide) (ow c (r2H 1 1) fullShare (R2 m c 1 1)) (Entails.refl _) rfl) $$ HR L1 HO; iintro ⟨HO, H1, Z1⟩
  iapply (half3_ld c r2M 0 1 (o := ![0, 0, 256]) rfl _ (R2 m c 0 1)) $$ H0; iintro H0
  iapply (half3_ld c r2M 1 1 (o := ![1, 0, 256]) rfl _ (R2 m c 1 1)) $$ H1; iintro H1
  iapply (half3_ld c r2M 2 1 (o := ![2, 0, 256]) rfl _ (R2 m c 2 1)) $$ H2; iintro H2
  iapply (half4_ld c rdM c 1 (off16 c) _ X) $$ H; iintro H
  iapply (half4_st c rdM c 1 (off16 c) _ (RD m c 1) _ rfl) $$ H; iintro H
  iapply (st_retE (Q := Φ) c _ ⟨V856 m c, _, _, _⟩ rfl)
  iapply Hk
  iframe

theorem part25 (w w' : BitVec 32) (Φ : _ → sProp 𝕄) :
    records m K ⊢ iprop(Ow c 19 -∗ ow c (rdH c 1) fullShare (RD m c 1) -∗ owE (F := F) (sh c 1) (rdH c 1) -∗ SndB c 29 (sh c 1) 53 -∗ owE (F := F) (sh c 2) (rdH c 1) -∗ SndB c 31 (sh c 2) 55 -∗ owE (F := F) (sh c 3) (rdH c 1) -∗ SndB c 33 (sh c 3) 57
      -∗ (∀ w, (Ow c 22 ∗ Clm c 29 ∗ Clm c 31 ∗ Clm c 33) -∗ Φ w)
      -∗ WP c (k0_part25 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) w w') Φ) := by
  rw [k0_part25_eq_skeleton]; unfold k0_part25_skel
  simp only [semSignalWord, semWaitWord, Prog.lift, Prog.bind_op, Prog.bind_ret, Prog.pure_eq_ret, wp_deviceId]
  iintro #HR HO H D1 S1 D2 S2 D3 S3 Hk
  ihave H := (thirds3 m c 1) $$ H
  icases H with ⟨H1, H2, H3⟩
  iapply (st_rd m K c (sh c 1) 19 1 1 29 53 _ _ rfl rfl rfl rfl rfl rfl rfl (Entails.refl _) (pay_eq (sh_back1 c) (fun e => ow (sh c 1) (rdH e 1) fullShare (RD m e 1))) (off17 c) (dev20 c)) $$ HR H1 D1 HO S1; iintro ⟨C1, HO⟩
  iapply (st_rd m K c (sh c 2) 20 2 1 31 55 _ _ rfl rfl rfl rfl rfl rfl rfl (Entails.refl _) (pay_eq (sh_back2 c) (fun e => ow (sh c 2) (rdH e 1) fullShare (RD m e 1))) (off17 c) (dev21 c)) $$ HR H2 D2 HO S2; iintro ⟨C2, HO⟩
  iapply (st_rd m K c (sh c 3) 21 3 1 33 57 _ _ rfl rfl rfl rfl rfl rfl rfl (Entails.refl _) (pay_eq (sh_back3 c) (fun e => ow (sh c 3) (rdH e 1) fullShare (RD m e 1))) (off17 c) (dev22 c)) $$ HR H3 D3 HO S3; iintro ⟨C3, HO⟩
  iapply (st_ret (Q := Φ) c)
  iapply Hk
  iframe

theorem part26 (w w' : BitVec 32) (Φ : _ → sProp 𝕄) :
    records m K ⊢ iprop(Ow c 22 -∗ owE (F := F) c (oR c) -∗ Clm c 52
      -∗ ((Ow c 22 ∗ ow c (oR c) fullShare (outRow m c c) ∗ ow c (rdH (sh c 3) 0) fullShare (RD m (sh c 3) 0) ∗ Zr c 52) -∗ Φ ⟨⟩)
      -∗ WP c (k0_part26 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) (V771 m c) w (V856 m c) w') Φ) := by
  rw [k0_part26_eq_skeleton]; unfold k0_part26_skel
  simp only [semSignalWord, semWaitWord, Prog.lift, Prog.bind_op, Prog.bind_ret, Prog.pure_eq_ret, wp_deviceId]
  iintro #HR HO ⟨%X, H⟩ L Hk
  iapply (rowO_ld c oM c (off18 c) _ X) $$ H; iintro H
  iapply (rowO_st c oM c (off18 c) _ (outRow m c c) _ (outRow_own m c).symm) $$ H; iintro H
  iapply (st_wait m K c 52 22 _ rfl rfl (by decide) (ow c (rdH (sh c 3) 0) fullShare (RD m (sh c 3) 0)) (Entails.refl _) rfl) $$ HR L HO; iintro ⟨HO, Hr, Z⟩
  iapply (st_ret (Q := Φ) c)
  iapply Hk
  iframe

theorem part27 (Φ : _ → sProp 𝕄) :
    records m K ⊢ iprop(Ow c 22 -∗ ow c (rdH (sh c 3) 0) fullShare (RD m (sh c 3) 0) -∗ Clm c 53 -∗ owE (F := F) c (oR (sh c 3))
      -∗ ((Ow c 22 ∗ ow c (rdR (sh c 3)) fullShare (RW m (sh c 3)) ∗ ow c (oR (sh c 3)) fullShare (outRow m c (sh c 3)) ∗ Zr c 53) -∗ Φ 1#32)
      -∗ WP c (k0_part27 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c)) Φ) := by
  rw [k0_part27_eq_skeleton]; unfold k0_part27_skel
  simp only [semSignalWord, semWaitWord, Prog.lift, Prog.bind_op, Prog.bind_ret, Prog.pure_eq_ret, wp_deviceId]
  iintro #HR HO H0 L ⟨%X, H⟩ Hk
  iapply (st_wait m K c 53 22 _ rfl rfl (by decide) (ow c (rdH (sh c 3) 1) fullShare (RD m (sh c 3) 1)) (Entails.refl _) rfl) $$ HR L HO; iintro ⟨HO, H1, Z⟩
  ihave Hr := (rd_row m c (sh c 3)) $$ [H0 H1]
  · iframe
  iapply (row4_ld c rdM (sh c 3) (off11_1 c) _ (RW m (sh c 3))) $$ Hr; iintro Hr
  iapply (rowO_ld c oM (sh c 3) (off19_1 c) _ X) $$ H; iintro H
  iapply (rowO_st c oM (sh c 3) (off19_1 c) _ (outRow m c (sh c 3)) _ (outRow_ne m c (sh c 3) (rs3 c).2.2.2).symm) $$ H; iintro H
  iapply (st_ret (Q := Φ) c)
  iapply Hk
  iframe

theorem part28 (w w' w'' : BitVec 32) (Φ : _ → sProp 𝕄) :
    records m K ⊢ iprop(Ow c 22 -∗ Clm c 56 -∗ Clm c 57
      -∗ (∀ w₁ w₂ w₃ w₄, (Ow c 22 ∗ ow c (rdR (sh c 1)) fullShare (RW m (sh c 1)) ∗ Zr c 56 ∗ Zr c 57) -∗ Φ ⟨w₁, k0_pay78 (RW m (sh c 1)), w₂, w₃, w₄⟩)
      -∗ WP c (k0_part28 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) w w' w'') Φ) := by
  rw [k0_part28_eq_skeleton]; unfold k0_part28_skel
  simp only [semSignalWord, semWaitWord, Prog.lift, Prog.bind_op, Prog.bind_ret, Prog.pure_eq_ret, wp_deviceId]
  iintro #HR HO L0 L1 Hk
  iapply (st_wait m K c 56 22 _ rfl rfl (by decide) (ow c (rdH (sh c 1) 0) fullShare (RD m (sh c 1) 0)) (Entails.refl _) rfl) $$ HR L0 HO; iintro ⟨HO, H0, Z0⟩
  iapply (st_wait m K c 57 22 _ rfl rfl (by decide) (ow c (rdH (sh c 1) 1) fullShare (RD m (sh c 1) 1)) (Entails.refl _) rfl) $$ HR L1 HO; iintro ⟨HO, H1, Z1⟩
  ihave Hr := (rd_row m c (sh c 1)) $$ [H0 H1]
  · iframe
  iapply (row4_ld c rdM (sh c 1) (off11_3 c) _ (RW m (sh c 1))) $$ Hr; iintro Hr
  iapply (st_retE (Q := Φ) c _ ⟨_, k0_pay78 (RW m (sh c 1)), _, _, _⟩ rfl)
  iapply Hk
  iframe

theorem part29 (w w' w₁ w₂ w₃ : BitVec 32) (w₄ : BitVec 1) (Φ : _ → sProp 𝕄) :
    records m K ⊢ iprop(Ow c 22 -∗ owE (F := F) c (oR (sh c 1)) -∗ Clm c 54 -∗ Clm c 55
      -∗ (∀ w, (Ow c 22 ∗ ow c (oR (sh c 1)) fullShare (outRow m c (sh c 1)) ∗ ow c (rdR (sh c 2)) fullShare (RW m (sh c 2)) ∗ Zr c 54 ∗ Zr c 55) -∗ Φ w)
      -∗ WP c (k0_part29 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) w w' w₁ (k0_pay78 (RW m (sh c 1))) w₂ w₃ w₄) Φ) := by
  rw [k0_part29_eq_skeleton]; unfold k0_part29_skel
  simp only [semSignalWord, semWaitWord, Prog.lift, Prog.bind_op, Prog.bind_ret, Prog.pure_eq_ret, wp_deviceId]
  iintro #HR HO ⟨%X, H⟩ L0 L1 Hk
  iapply (rowO_ld c oM (sh c 1) (off19_3 c) _ X) $$ H; iintro H
  iapply (rowO_st c oM (sh c 1) (off19_3 c) _ (outRow m c (sh c 1)) _ (outRow_ne m c (sh c 1) (rs1 c).2.2.2).symm) $$ H; iintro H
  iapply (st_wait m K c 54 22 _ rfl rfl (by decide) (ow c (rdH (sh c 2) 0) fullShare (RD m (sh c 2) 0)) (Entails.refl _) rfl) $$ HR L0 HO; iintro ⟨HO, H0, Z0⟩
  iapply (st_wait m K c 55 22 _ rfl rfl (by decide) (ow c (rdH (sh c 2) 1) fullShare (RD m (sh c 2) 1)) (Entails.refl _) rfl) $$ HR L1 HO; iintro ⟨HO, H1, Z1⟩
  ihave Hr := (rd_row m c (sh c 2)) $$ [H0 H1]
  · iframe
  iapply (st_ret (Q := Φ) c)
  iapply Hk
  iframe

theorem part30 (w : BitVec 32) (Φ : _ → sProp 𝕄) :
    records m K ⊢ iprop(Ow c 22 -∗ ow c (rdR (sh c 2)) fullShare (RW m (sh c 2)) -∗ owE (F := F) c (oR (sh c 2)) -∗ RCo m c 0 -∗ RCo m c 1 -∗ RCo m c 2
      -∗ ((Ow c 22 ∗ ow c (rdR (sh c 2)) fullShare (RW m (sh c 2)) ∗ ow c (oR (sh c 2)) fullShare (outRow m c (sh c 2)) ∗ ow c (p1R 0) fullShare (P1 m c 0) ∗ ow c (p1R 1) fullShare (P1 m c 1) ∗ ow c (p1R 2) fullShare (P1 m c 2) ∗ ZRo c 0 ∗ ZRo c 1 ∗ ZRo c 2) -∗ Φ ⟨⟩)
      -∗ WP c (k0_part30 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c) w) Φ) := by
  rw [k0_part30_eq_skeleton]; unfold k0_part30_skel
  simp only [semSignalWord, semWaitWord, Prog.lift, Prog.bind_op, Prog.bind_ret, Prog.pure_eq_ret, wp_deviceId]
  iintro #HR HO Hr ⟨%X, H⟩ C0 C1 C2 Hk
  iapply (row4_ld c rdM (sh c 2) (off11_2 c) _ (RW m (sh c 2))) $$ Hr; iintro Hr
  iapply (rowO_ld c oM (sh c 2) (off19_2 c) _ X) $$ H; iintro H
  iapply (rowO_st c oM (sh c 2) (off19_2 c) _ (outRow m c (sh c 2)) _ (outRow_ne m c (sh c 2) (rs2 c).2.2.2).symm) $$ H; iintro H
  iapply (st_rsWait m K c 0 (cond5 c) (fun h => (r1M.slice (Rect.unit (s := S3x128x512) (k0_off21 c) S1x128x512.size (k0_off21_inb c h)) (fun _ => rfl) : Memref sig .tc .vmem S1x128x512 .bf16).squeeze S128x512 sqR)
    (fun h => (p1M.slice (Rect.unit (s := S4x128x512) ![0, 0, 0] S1x128x512.size inb_S4x128x512_S1x128x512_0_0_0) (fun _ => rfl) : Memref sig .tc .vmem S1x128x512 .bf16).squeeze S128x512 sqR) (fun _ => rfl)
    (fun h => ((cc0_scratch16.slice (Rect.unit (s := S24) (k0_off20 c) S1.size (k0_off20_inb c h))).squeeze S_ sq1).sem) (fun h => sem16 _ (by omega) _ (off20 c h) _ _)) $$ HR C0 HO
  iintro ⟨P0, HO, Z0⟩
  iapply (st_rsWait m K c 1 (cond6 c) (fun h => (r1M.slice (Rect.unit (s := S3x128x512) (k0_off23 c) S1x128x512.size (k0_off23_inb c h)) (fun _ => rfl) : Memref sig .tc .vmem S1x128x512 .bf16).squeeze S128x512 sqR)
    (fun h => (p1M.slice (Rect.unit (s := S4x128x512) ![1, 0, 0] S1x128x512.size inb_S4x128x512_S1x128x512_1_0_0) (fun _ => rfl) : Memref sig .tc .vmem S1x128x512 .bf16).squeeze S128x512 sqR) (fun _ => rfl)
    (fun h => ((cc0_scratch16.slice (Rect.unit (s := S24) (k0_off22 c) S1.size (k0_off22_inb c h))).squeeze S_ sq1).sem) (fun h => sem16 _ (by omega) _ (off22 c h) _ _)) $$ HR C1 HO
  iintro ⟨P1, HO, Z1⟩
  iapply (st_rsWait m K c 2 (cond7 c) (fun h => (r1M.slice (Rect.unit (s := S3x128x512) (k0_off25 c) S1x128x512.size (k0_off25_inb c h)) (fun _ => rfl) : Memref sig .tc .vmem S1x128x512 .bf16).squeeze S128x512 sqR)
    (fun h => (p1M.slice (Rect.unit (s := S4x128x512) ![2, 0, 0] S1x128x512.size inb_S4x128x512_S1x128x512_2_0_0) (fun _ => rfl) : Memref sig .tc .vmem S1x128x512 .bf16).squeeze S128x512 sqR) (fun _ => rfl)
    (fun h => ((cc0_scratch16.slice (Rect.unit (s := S24) (k0_off24 c) S1.size (k0_off24_inb c h))).squeeze S_ sq1).sem) (fun h => sem16 _ (by omega) _ (off24 c h) _ _)) $$ HR C2 HO
  iintro ⟨P2, HO, Z2⟩
  iapply (st_ret (Q := Φ) c)
  iapply Hk
  iframe

theorem part31 (Φ : _ → sProp 𝕄) :
    records m K ⊢ iprop(Ow c 22 -∗ RCo m c 3 -∗ Clm c 13 -∗ Clm c 14 -∗ Clm c 15
      -∗ ((Ow c 22 ∗ ow c (p1R 3) fullShare (P1 m c 3) ∗ ZRo c 3 ∗ ow c (agR c) (third 1) (X1 m c) ∗ ow c (agR c) (third 2) (X1 m c) ∗ ow c (agR c) (third 3) (X1 m c) ∗ Zr c 13 ∗ Zr c 14 ∗ Zr c 15) -∗ Φ ⟨⟩)
      -∗ WP c (k0_part31 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c (pl c)) Φ) := by
  rw [k0_part31_eq_skeleton]; unfold k0_part31_skel
  simp only [semSignalWord, semWaitWord, Prog.lift, Prog.bind_op, Prog.bind_ret, Prog.pure_eq_ret, wp_deviceId]
  iintro #HR HO C3 L1 L2 L3 Hk
  iapply (st_rsWait m K c 3 (cond8 c) (fun h => (r1M.slice (Rect.unit (s := S3x128x512) (k0_off27 c) S1x128x512.size (k0_off27_inb c h)) (fun _ => rfl) : Memref sig .tc .vmem S1x128x512 .bf16).squeeze S128x512 sqR)
    (fun h => (p1M.slice (Rect.unit (s := S4x128x512) ![3, 0, 0] S1x128x512.size inb_S4x128x512_S1x128x512_3_0_0) (fun _ => rfl) : Memref sig .tc .vmem S1x128x512 .bf16).squeeze S128x512 sqR) (fun _ => rfl)
    (fun h => ((cc0_scratch16.slice (Rect.unit (s := S24) (k0_off26 c) S1.size (k0_off26_inb c h))).squeeze S_ sq1).sem) (fun h => sem16 _ (by omega) _ (off26 c h) _ _)) $$ HR C3 HO
  iintro ⟨P3, HO, Z3⟩
  iapply (st_wait m K c 13 22 _ rfl rfl (by decide) (ow c (agR c) (third 1) (X1 m c)) (Entails.refl _) rfl) $$ HR L1 HO; iintro ⟨HO, H1, Y1⟩
  iapply (st_wait m K c 14 22 _ rfl rfl (by decide) (ow c (agR c) (third 2) (X1 m c)) (Entails.refl _) rfl) $$ HR L2 HO; iintro ⟨HO, H2, Y2⟩
  iapply (st_wait m K c 15 22 _ rfl rfl (by decide) (ow c (agR c) (third 3) (X1 m c)) (Entails.refl _) rfl) $$ HR L3 HO; iintro ⟨HO, H3, Y3⟩
  iapply (st_ret (Q := Φ) c)
  iapply Hk
  iframe

theorem part32 (Φ : _ → sProp 𝕄) :
    records m K ⊢ iprop(Ow c 22 -∗ Clm c 26 -∗ Clm c 27 -∗ Clm c 22 -∗ Clm c 23
      -∗ ((Ow c 22 ∗ ow c (p2H (sh c 3) 0) fullShare (halfOf (P2 m c 3) 0) ∗ ow c (p2H (sh c 3) 1) fullShare (halfOf (P2 m c 3) 1) ∗ ow c (p2H (sh c 1) 0) fullShare (halfOf (P2 m c 1) 0) ∗ ow c (p2H (sh c 1) 1) fullShare (halfOf (P2 m c 1) 1) ∗ Zr c 26 ∗ Zr c 27 ∗ Zr c 22 ∗ Zr c 23) -∗ Φ ⟨⟩)
      -∗ WP c (k0_part32 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c) Φ) := by
  rw [k0_part32_eq_skeleton]; unfold k0_part32_skel
  simp only [semSignalWord, semWaitWord, Prog.lift, Prog.bind_op, Prog.bind_ret, Prog.pure_eq_ret, wp_deviceId]
  iintro #HR HO L1 L2 L3 L4 Hk
  iapply (st_wait m K c 26 22 _ rfl rfl (by decide) (ow c (p2H (sh c 3) 0) fullShare (halfOf (P2 m c 3) 0)) (Entails.refl _) rfl) $$ HR L1 HO; iintro ⟨HO, H1, Y1⟩
  iapply (st_wait m K c 27 22 _ rfl rfl (by decide) (ow c (p2H (sh c 3) 1) fullShare (halfOf (P2 m c 3) 1)) (Entails.refl _) rfl) $$ HR L2 HO; iintro ⟨HO, H2, Y2⟩
  iapply (st_wait m K c 22 22 _ rfl rfl (by decide) (ow c (p2H (sh c 1) 0) fullShare (halfOf (P2 m c 1) 0)) (Entails.refl _) rfl) $$ HR L3 HO; iintro ⟨HO, H3, Y3⟩
  iapply (st_wait m K c 23 22 _ rfl rfl (by decide) (ow c (p2H (sh c 1) 1) fullShare (halfOf (P2 m c 1) 1)) (Entails.refl _) rfl) $$ HR L4 HO; iintro ⟨HO, H4, Y4⟩
  iapply (st_ret (Q := Φ) c)
  iapply Hk
  iframe

theorem part33 (Φ : _ → sProp 𝕄) :
    records m K ⊢ iprop(Ow c 22 -∗ Clm c 24 -∗ Clm c 25 -∗ Clm c 28 -∗ Clm c 30
      -∗ ((Ow c 22 ∗ ow c (p2H (sh c 2) 0) fullShare (halfOf (P2 m c 2) 0) ∗ ow c (p2H (sh c 2) 1) fullShare (halfOf (P2 m c 2) 1) ∗ ow c (rdH c 0) (third 1) (RD m c 0) ∗ ow c (rdH c 0) (third 2) (RD m c 0) ∗ Zr c 24 ∗ Zr c 25 ∗ Zr c 28 ∗ Zr c 30) -∗ Φ ⟨⟩)
      -∗ WP c (k0_part33 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 c) Φ) := by
  rw [k0_part33_eq_skeleton]; unfold k0_part33_skel
  simp only [semSignalWord, semWaitWord, Prog.lift, Prog.bind_op, Prog.bind_ret, Prog.pure_eq_ret, wp_deviceId]
  iintro #HR HO L1 L2 L3 L4 Hk
  iapply (st_wait m K c 24 22 _ rfl rfl (by decide) (ow c (p2H (sh c 2) 0) fullShare (halfOf (P2 m c 2) 0)) (Entails.refl _) rfl) $$ HR L1 HO; iintro ⟨HO, H1, Y1⟩
  iapply (st_wait m K c 25 22 _ rfl rfl (by decide) (ow c (p2H (sh c 2) 1) fullShare (halfOf (P2 m c 2) 1)) (Entails.refl _) rfl) $$ HR L2 HO; iintro ⟨HO, H2, Y2⟩
  iapply (st_wait m K c 28 22 _ rfl rfl (by decide) (ow c (rdH c 0) (third 1) (RD m c 0)) (Entails.refl _) rfl) $$ HR L3 HO; iintro ⟨HO, H3, Y3⟩
  iapply (st_wait m K c 30 22 _ rfl rfl (by decide) (ow c (rdH c 0) (third 2) (RD m c 0)) (Entails.refl _) rfl) $$ HR L4 HO; iintro ⟨HO, H4, Y4⟩
  iapply (st_ret (Q := Φ) c)
  iapply Hk
  iframe

end Cert.KProof

end
-- ==== Proof.Body.lean ====
/- The whole body of a device, put together from its stretches: what it starts from, what it ends with, and the run between. -/
module

public import proofs.«01_k».proof.Proof.Parts1
public import proofs.«01_k».proof.Proof.Parts4

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Fin 58 → ℕ) (c : Dev nD)

/-! ## What a device starts from -/

/-- The transfers in. -/
def PLoad : sProp 𝕄 :=
  iprop(LdIn c 1 main_arg0 cc0_scratch0 (A0 m c) ∗ LdIn c 2 main_arg5 cc0_scratch5 (A5 m c) ∗ LdIn c 3 main_arg6 cc0_scratch6 (A6 m c)
    ∗ LdIn c 4 main_arg1 cc0_scratch1 (A1 m c) ∗ LdIn c 5 main_arg2 cc0_scratch2 (A2 m c) ∗ LdIn c 6 main_arg3 cc0_scratch3 (A3 m c)
    ∗ LdIn c 7 main_arg4 cc0_scratch4 (A4 m c) ∗ LdIn c 8 main_arg7 cc0_scratch7 (A7 m c) ∗ LdIn c 9 main_arg8 cc0_scratch8 (A8 m c))
/-- The barrier. -/
def PBar : sProp 𝕄 :=
  iprop(dutyTok ER (bc (sh c 1)) 0 1 ∗ dutyTok ER (bc (sh c 2)) 0 2 ∗ dutyTok ER (bc (sh c 3)) 0 3 ∗ cred (tallyAt (bc c) () 3) ∗ atPos ER (bc c) 0 ∅ 0)
/-- The exchange of the attention's partial products. -/
def PRs : sProp 𝕄 :=
  iprop(SndB (F := F) c 10 (sh c 1) 34 ∗ SndB (F := F) c 11 (sh c 2) 35 ∗ SndB (F := F) c 12 (sh c 3) 36 ∗ Clm (F := F) c 34 ∗ Clm (F := F) c 35 ∗ Clm (F := F) c 36)
/-- The exchange of the rows between the two layers. -/
def PAg : sProp 𝕄 :=
  iprop(SndB (F := F) c 13 (sh c 1) 37 ∗ SndB (F := F) c 14 (sh c 2) 38 ∗ SndB (F := F) c 15 (sh c 3) 39 ∗ Clm (F := F) c 37 ∗ Clm (F := F) c 38 ∗ Clm (F := F) c 39)
/-- The exchange of the second layer's partial products, by halves. -/
def PR2 : sProp 𝕄 :=
  iprop(SndB (F := F) c 22 (sh c 1) 46 ∗ SndB (F := F) c 23 (sh c 1) 47 ∗ SndB (F := F) c 24 (sh c 2) 48 ∗ SndB (F := F) c 25 (sh c 2) 49
    ∗ SndB (F := F) c 26 (sh c 3) 50 ∗ SndB (F := F) c 27 (sh c 3) 51
    ∗ Clm (F := F) c 46 ∗ Clm (F := F) c 47 ∗ Clm (F := F) c 48 ∗ Clm (F := F) c 49 ∗ Clm (F := F) c 50 ∗ Clm (F := F) c 51)
/-- The exchange of the result's rows, by halves. -/
def PRd : sProp 𝕄 :=
  iprop(SndB (F := F) c 28 (sh c 1) 52 ∗ SndB (F := F) c 29 (sh c 1) 53 ∗ SndB (F := F) c 30 (sh c 2) 54 ∗ SndB (F := F) c 31 (sh c 2) 55
    ∗ SndB (F := F) c 32 (sh c 3) 56 ∗ SndB (F := F) c 33 (sh c 3) 57
    ∗ Clm (F := F) c 52 ∗ Clm (F := F) c 53 ∗ Clm (F := F) c 54 ∗ Clm (F := F) c 55 ∗ Clm (F := F) c 56 ∗ Clm (F := F) c 57)
/-- The exchanged buffers, at some contents. -/
def Bufs : sProp 𝕄 :=
  iprop(owE (F := F) c p1M ∗ owE (F := F) c r1M ∗ owE (F := F) c agM ∗ owE (F := F) c p2M ∗ owE (F := F) c r2M ∗ owE (F := F) c rdM)

/-! ## What it ends with -/

/-- The arguments, and the buffers they were transferred to. -/
def Args : sProp 𝕄 :=
  iprop(pt c main_arg0 (A0 m c) ∗ pt c main_arg1 (A1 m c) ∗ pt c main_arg2 (A2 m c) ∗ pt c main_arg3 (A3 m c) ∗ pt c main_arg4 (A4 m c)
    ∗ pt c main_arg5 (A5 m c) ∗ pt c main_arg6 (A6 m c) ∗ pt c main_arg7 (A7 m c) ∗ pt c main_arg8 (A8 m c))
def Copies : sProp 𝕄 :=
  iprop(pt c cc0_scratch0 (A0 m c) ∗ pt c cc0_scratch1 (A1 m c) ∗ pt c cc0_scratch2 (A2 m c) ∗ pt c cc0_scratch3 (A3 m c) ∗ pt c cc0_scratch4 (A4 m c)
    ∗ pt c cc0_scratch5 (A5 m c) ∗ pt c cc0_scratch6 (A6 m c) ∗ pt c cc0_scratch7 (A7 m c) ∗ pt c cc0_scratch8 (A8 m c))
/-- The used semaphores at zero. -/
def Zs : sProp 𝕄 :=
  iprop((Zr (F := F) c 1 ∗ Zr (F := F) c 2 ∗ Zr (F := F) c 3 ∗ Zr (F := F) c 4 ∗ Zr (F := F) c 5 ∗ Zr (F := F) c 6 ∗ Zr (F := F) c 7 ∗ Zr (F := F) c 8 ∗ Zr (F := F) c 9)
    ∗ (Zr (F := F) c 10 ∗ Zr (F := F) c 11 ∗ Zr (F := F) c 12 ∗ Zr (F := F) c 13 ∗ Zr (F := F) c 14 ∗ Zr (F := F) c 15)
    ∗ (Zr (F := F) c 22 ∗ Zr (F := F) c 23 ∗ Zr (F := F) c 24 ∗ Zr (F := F) c 25 ∗ Zr (F := F) c 26 ∗ Zr (F := F) c 27)
    ∗ (Zr (F := F) c 28 ∗ Zr (F := F) c 29 ∗ Zr (F := F) c 30 ∗ Zr (F := F) c 31 ∗ Zr (F := F) c 32 ∗ Zr (F := F) c 33)
    ∗ (Zr (F := F) c 34 ∗ Zr (F := F) c 35 ∗ Zr (F := F) c 36 ∗ Zr (F := F) c 37 ∗ Zr (F := F) c 38 ∗ Zr (F := F) c 39)
    ∗ (Zr (F := F) c 46 ∗ Zr (F := F) c 47 ∗ Zr (F := F) c 48 ∗ Zr (F := F) c 49 ∗ Zr (F := F) c 50 ∗ Zr (F := F) c 51)
    ∗ (Zr (F := F) c 52 ∗ Zr (F := F) c 53 ∗ Zr (F := F) c 54 ∗ Zr (F := F) c 55 ∗ Zr (F := F) c 56 ∗ Zr (F := F) c 57))
def BPost : sProp 𝕄 :=
  iprop(Args m c ∗ Copies m c ∗ Bufs (F := F) c ∗ ow c oM fullShare (outF m c) ∗ Zs (F := F) c ∗ semVal (bc c) 0 ∗ Ow (F := F) c 22)

/-! ## Handing out the places that others write, and taking theirs -/

theorem lands_out : iprop(owE (F := F) c r1M ∗ owE (F := F) c agM ∗ owE (F := F) c r2M ∗ owE (F := F) c rdM)
    ⊢ iprop((Land (F := F) (sh c 1) 3 ∗ Land (F := F) (sh c 2) 2 ∗ Land (F := F) (sh c 3) 1)
      ∗ owE (F := F) c (agR c) ∗ owE (F := F) c (rdH c 0) ∗ owE (F := F) c (rdH c 1)) := by
  rw [show Land (F := F) (sh c 1) 3 = LandAt (F := F) (sh c 1) (sh (sh c 1) 3) 2 from rfl, show Land (F := F) (sh c 2) 2 = LandAt (F := F) (sh c 2) (sh (sh c 2) 2) 1 from rfl,
    show Land (F := F) (sh c 3) 1 = LandAt (F := F) (sh c 3) (sh (sh c 3) 1) 0 from rfl, sh_back1, sh_back2, sh_back3]
  unfold LandAt
  iintro ⟨H1, Ha, H2, Hd⟩
  ihave H1 := (rows3 c r1M) $$ H1; icases H1 with ⟨R0, R1, R2⟩
  ihave Ha := (rows4 c agM) $$ Ha; icases Ha with ⟨Gc, G1, G2, G3⟩
  ihave H2 := (rows3 c r2M) $$ H2; icases H2 with ⟨Q0, Q1, Q2⟩
  ihave Q0 := (row_halves3_ex c r2M 0) $$ Q0; icases Q0 with ⟨Q00, Q01⟩
  ihave Q1 := (row_halves3_ex c r2M 1) $$ Q1; icases Q1 with ⟨Q10, Q11⟩
  ihave Q2 := (row_halves3_ex c r2M 2) $$ Q2; icases Q2 with ⟨Q20, Q21⟩
  ihave Hd := (rows4 c rdM) $$ Hd; icases Hd with ⟨Dc, D1, D2, D3⟩
  ihave Dc := (row_halves_ex c rdM c) $$ Dc; icases Dc with ⟨Dc0, Dc1⟩
  ihave D1 := (row_halves_ex c rdM (sh c 1)) $$ D1; icases D1 with ⟨D10, D11⟩
  ihave D2 := (row_halves_ex c rdM (sh c 2)) $$ D2; icases D2 with ⟨D20, D21⟩
  ihave D3 := (row_halves_ex c rdM (sh c 3)) $$ D3; icases D3 with ⟨D30, D31⟩
  isplitl [R0 R1 R2 G1 G2 G3 Q00 Q01 Q10 Q11 Q20 Q21 D10 D11 D20 D21 D30 D31]
  · isplitl [R2 G1 Q20 Q21 D10 D11]; · iframe
    isplitl [R1 G2 Q10 Q11 D20 D21]; · iframe
    iframe
  iframe

theorem land_in1 : Land (F := F) c 1 ⊢ iprop(owE (F := F) (sh c 1) (r1R 0) ∗ owE (F := F) (sh c 1) (agR c) ∗ owE (F := F) (sh c 1) (r2H 0 0)
    ∗ owE (F := F) (sh c 1) (r2H 0 1) ∗ owE (F := F) (sh c 1) (rdH c 0) ∗ owE (F := F) (sh c 1) (rdH c 1)) := Entails.refl _
theorem land_in2 : Land (F := F) c 2 ⊢ iprop(owE (F := F) (sh c 2) (r1R 1) ∗ owE (F := F) (sh c 2) (agR c) ∗ owE (F := F) (sh c 2) (r2H 1 0)
    ∗ owE (F := F) (sh c 2) (r2H 1 1) ∗ owE (F := F) (sh c 2) (rdH c 0) ∗ owE (F := F) (sh c 2) (rdH c 1)) := Entails.refl _
theorem land_in3 : Land (F := F) c 3 ⊢ iprop(owE (F := F) (sh c 3) (r1R 2) ∗ owE (F := F) (sh c 3) (agR c) ∗ owE (F := F) (sh c 3) (r2H 2 0)
    ∗ owE (F := F) (sh c 3) (r2H 2 1) ∗ owE (F := F) (sh c 3) (rdH c 0) ∗ owE (F := F) (sh c 3) (rdH c 1)) := Entails.refl _

theorem rows_lit (M : Memref sig .tc .vmem S4x128x512 .bf16) : owE (F := F) c M ⊢ iprop(owE (F := F) c (sl4 M 0)
    ∗ owE (F := F) c (sl4 M 1) ∗ owE (F := F) c (sl4 M 2) ∗ owE (F := F) c (sl4 M 3)) :=
  (split_ex c M row4 (fun _ _ => rfl) row4_disj row4_cov).trans (Entails.of_eq (four_lit fun q => owE (F := F) c (sl4 M q)))

/-! ## The buffers whole again -/

theorem p1_back (X0 X1 X2 X3 : Vec F S1x128x512 .bf16) : iprop(ow c (p1R 0) fullShare X0 ∗ ow c (p1R 1) fullShare X1 ∗ ow c (p1R 2) fullShare X2 ∗ ow c (p1R 3) fullShare X3)
    ⊢ owE (F := F) c p1M := by
  refine .trans ?_ ((Entails.of_eq (four_lit fun q => owE (F := F) c (sl4 p1M q)).symm).trans (join_ex c p1M row4 (fun _ _ => rfl) row4_disj row4_cov))
  iintro ⟨H0, H1, H2, H3⟩
  isplitl [H0]; · iexists _; iexact H0
  isplitl [H1]; · iexists _; iexact H1
  isplitl [H2]; · iexists _; iexact H2
  iexists _; iexact H3
theorem r1_back (X0 X1 X2 : Vec F S1x128x512 .bf16) : iprop(ow c (r1R 0) fullShare X0 ∗ ow c (r1R 1) fullShare X1 ∗ ow c (r1R 2) fullShare X2)
    ⊢ owE (F := F) c r1M := by
  refine .trans ?_ (unrows3 c r1M)
  iintro ⟨H0, H1, H2⟩
  isplitl [H0]; · iexists _; iexact H0
  isplitl [H1]; · iexists _; iexact H1
  iexists _; iexact H2
theorem ag_back (X X1 X2 X3 : Vec F S1x128x512 .bf16) : iprop((ow c (agR c) (third 1) X ∗ ow c (agR c) (third 2) X ∗ ow c (agR c) (third 3) X)
    ∗ ow c (agR (sh c 1)) fullShare X1 ∗ ow c (agR (sh c 2)) fullShare X2 ∗ ow c (agR (sh c 3)) fullShare X3)
    ⊢ owE (F := F) c agM := by
  refine .trans ?_ (unrows4 c agM)
  iintro ⟨H0, H1, H2, H3⟩
  ihave H0 := (thirds c (agR c) X).2 $$ H0
  isplitl [H0]; · iexists _; iexact H0
  isplitl [H1]; · iexists _; iexact H1
  isplitl [H2]; · iexists _; iexact H2
  iexists _; iexact H3
theorem halves_ex (M : Memref sig .tc .vmem S4x128x512 .bf16) (q : Fin 4) (A B : Vec F S1x128x256 .bf16) :
    iprop(ow c (hf4 M q 0) fullShare A ∗ ow c (hf4 M q 1) fullShare B) ⊢ owE (F := F) c (sl4 M q) := (halves_row c M q fullShare A B).trans (ow_owE c _ _)
theorem halves_ex3 (M : Memref sig .tc .vmem S3x128x512 .bf16) (q : Fin 3) (A B : Vec F S1x128x256 .bf16) :
    iprop(ow c (hf3 M q 0) fullShare A ∗ ow c (hf3 M q 1) fullShare B) ⊢ owE (F := F) c (sl3 M q) := (halves_row3 c M q fullShare A B).trans (ow_owE c _ _)
theorem p2_back (A1 B1 A2 B2 A3 B3 : Vec F S1x128x256 .bf16) : iprop(owE (F := F) c (p2R c) ∗ (ow c (p2H (sh c 1) 0) fullShare A1 ∗ ow c (p2H (sh c 1) 1) fullShare B1)
    ∗ (ow c (p2H (sh c 2) 0) fullShare A2 ∗ ow c (p2H (sh c 2) 1) fullShare B2) ∗ (ow c (p2H (sh c 3) 0) fullShare A3 ∗ ow c (p2H (sh c 3) 1) fullShare B3))
    ⊢ owE (F := F) c p2M := by
  refine .trans ?_ (unrows4 c p2M)
  iintro ⟨H0, H1, H2, H3⟩
  ihave H1 := (halves_ex c p2M (sh c 1) A1 B1) $$ H1
  ihave H2 := (halves_ex c p2M (sh c 2) A2 B2) $$ H2
  ihave H3 := (halves_ex c p2M (sh c 3) A3 B3) $$ H3
  iframe
theorem r2_back (A1 B1 A2 B2 A3 B3 : Vec F S1x128x256 .bf16) : iprop((ow c (r2H 0 0) fullShare A1 ∗ ow c (r2H 0 1) fullShare B1)
    ∗ (ow c (r2H 1 0) fullShare A2 ∗ ow c (r2H 1 1) fullShare B2) ∗ (ow c (r2H 2 0) fullShare A3 ∗ ow c (r2H 2 1) fullShare B3))
    ⊢ owE (F := F) c r2M := by
  refine .trans ?_ (unrows3 c r2M)
  iintro ⟨H1, H2, H3⟩
  ihave H1 := (halves_ex3 c r2M 0 A1 B1) $$ H1
  ihave H2 := (halves_ex3 c r2M 1 A2 B2) $$ H2
  ihave H3 := (halves_ex3 c r2M 2 A3 B3) $$ H3
  iframe
theorem rd_back (A B : Vec F S1x128x256 .bf16) (X1 X2 X3 : Vec F S1x128x512 .bf16) : iprop((ow c (rdH c 0) (third 1) A ∗ ow c (rdH c 0) (third 2) A ∗ ow c (rdH c 0) (third 3) A)
    ∗ (ow c (rdH c 1) (third 1) B ∗ ow c (rdH c 1) (third 2) B ∗ ow c (rdH c 1) (third 3) B)
    ∗ ow c (rdR (sh c 1)) fullShare X1 ∗ ow c (rdR (sh c 2)) fullShare X2 ∗ ow c (rdR (sh c 3)) fullShare X3)
    ⊢ owE (F := F) c rdM := by
  refine .trans ?_ (unrows4 c rdM)
  iintro ⟨HA, HB, H1, H2, H3⟩
  ihave HA := (thirds c (rdH c 0) A).2 $$ HA
  ihave HB := (thirds c (rdH c 1) B).2 $$ HB
  isplitl [HA HB]
  · iapply (halves_ex c rdM c A B); isplitl [HA] <;> iassumption
  isplitl [H1]; · iexists _; iexact H1
  isplitl [H2]; · iexists _; iexact H2
  iexists _; iexact H3

/-- Running one stretch before the rest. -/
theorem st_bind {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := Entails.of_eq (by unfold WP; rw [wp_bind])

/-! ## The run -/

set_option maxHeartbeats 16000000 in
/-- The whole body: the stretches one after the other, and the last waits. -/
theorem body (Q : PUnit → sProp 𝕄) :
    records m K ⊢ iprop(PLoad m c -∗ PBar (F := F) c -∗ PRs (F := F) c -∗ PAg (F := F) c -∗ PR2 (F := F) c -∗ PRd (F := F) c -∗ Bufs (F := F) c
      -∗ owE (F := F) c oM -∗ Ow (F := F) c 0 -∗ (BPost m c -∗ Q ⟨⟩) -∗ WP c (cc0_body (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17) Q) := by
  rw [cc0_body_eq_skeleton]; unfold cc0_body_skel
  unfold PLoad PBar PRs PAg PR2 PRd
  rw [show Bufs (F := F) c = iprop(owE (F := F) c p1M ∗ owE (F := F) c r1M ∗ owE (F := F) c agM ∗ owE (F := F) c p2M ∗ owE (F := F) c r2M ∗ owE (F := F) c rdM) from rfl]
  iintro #HR ⟨L1, L2, L3, L4, L5, L6, L7, L8, L9⟩ ⟨T1, T2, T3, Hcr, Hat⟩ PRs PAg PR2 PRd ⟨B1, Br1, Bag, Bp2, Br2, Brd⟩ Bo HO Hk
  iapply (st_bind c)
  rw [k0_part34_eq_skeleton]; unfold k0_part34_skel
  ihave X := (lands_out c) $$ [Br1 Bag Br2 Brd]; · iframe
  icases X with ⟨⟨O1, O2, O3⟩, Eag, Erd0, Erd1⟩
  iapply (st_bind c); iapply (part1 m K c _) $$ HR L1 L2 L3 L4 L5 L6 L7 L8 L9 HO T1 O1
  iintro %w ⟨L1, L2, L3, L4, L5, L6, L7, L8, L9, HO⟩; try dsimp only
  iapply (st_bind c); iapply (part2 m K c _ _) $$ HR HO T2 O2 T3 O3 Hcr Hat L1
  iintro ⟨HO, N3, N2, N1, ZB, a0, d0, Z1⟩; try dsimp only
  iapply (st_bind c); iapply (part3 m K c _) $$ HR HO L2 L3 L4
  iintro ⟨HO, a5, d5, Z2, a6, d6, Z3, a1, d1, Z4⟩; try dsimp only
  iapply (st_bind c); iapply (part4 m K c _) $$ HR HO L5 L6 d1
  iintro ⟨HO, d1, a2, d2, Z5, a3, d3, Z6⟩; try dsimp only
  iapply (st_bind c); iapply (part5 m c _)
  try dsimp only
  ihave N1 := (land_in1 c) $$ N1; icases N1 with ⟨N11, N12, N13, N14, N15, N16⟩
  ihave N2 := (land_in2 c) $$ N2; icases N2 with ⟨N21, N22, N23, N24, N25, N26⟩
  ihave N3 := (land_in3 c) $$ N3; icases N3 with ⟨N31, N32, N33, N34, N35, N36⟩
  icases PRs with ⟨S10, S11, S12, L34, L35, L36⟩
  ihave X := (RSo_all c) $$ [S10 S11 S12 N11 N21 N31]
  · isplitl [S10 N11]; · isplitl [S10] <;> iassumption
    isplitl [S11 N21]; · isplitl [S11] <;> iassumption
    isplitl [S12] <;> iassumption
  icases X with ⟨RS0, RS1, RS2, RS3⟩
  ihave X := (rows_lit c p1M) $$ B1; icases X with ⟨P0, P1, P2, P3⟩
  iapply (st_bind c); iapply (part6 m K c _) $$ HR HO L7 P0 P1 RS0
  iintro %w6 ⟨HO, a4, d4, Z7, RC0, P1⟩; try dsimp only
  iapply (st_bind c); iapply (part7 m K c _ _) $$ HR HO P1 RS1
  iintro ⟨HO, RC1⟩; try dsimp only
  iapply (st_bind c); iapply (part8 m c _)
  try dsimp only
  iapply (st_bind c); iapply (part9 m K c _) $$ HR HO P2 P3 RS2 RS3
  iintro %w9 ⟨HO, RC2, RC3⟩; try dsimp only
  iapply (st_bind c); iapply (part10 m K c _ _ _ _) $$ HR HO L34 L36 L35
  iintro ⟨HO, q0, q1, q2, Z34, Z36, Z35⟩; try dsimp only
  iapply (st_bind c); iapply (part11 m K c _) $$ HR q0 q1 q2 Eag
  iintro %w11 ⟨q0, q1, q2, Eag⟩; try dsimp only
  ihave Br1 := (r1_back c _ _ _) $$ [q0 q1 q2]; · iframe
  ihave X := (thirds c (agR c) (X1 m c)).1 $$ Eag; icases X with ⟨G1, G2, G3⟩
  icases PAg with ⟨S13, S14, S15, L37, L38, L39⟩
  iapply (st_bind c); iapply (part12 m K c _ _) $$ HR HO G1 N12 S13 G2 N22 S14
  iintro %w12 ⟨HO, C13, C14⟩; try dsimp only
  iapply (st_bind c); iapply (part13 m K c _) $$ HR HO G3 N32 S15 L8 L9
  iintro ⟨HO, C15, a7, d7, Z8, a8, d8, Z9⟩; try dsimp only
  iapply (st_bind c); iapply (part14 m K c _ _) $$ HR HO L37
  iintro %w14 ⟨HO, Ag3, Z37⟩; try dsimp only
  ihave X := (rows4 c p2M) $$ Bp2; icases X with ⟨Ec, E1, E2, E3⟩
  icases PR2 with ⟨S22, S23, S24, S25, S26, S27, L46, L47, L48, L49, L50, L51⟩
  iapply (st_bind c); iapply (part15 m K c _ _) $$ HR HO E3 N33 S26
  iintro ⟨HO, C26, E3⟩; try dsimp only
  iapply (st_bind c); iapply (part16 m K c _ _ _) $$ HR HO E3 N34 S27 L39
  iintro %w16 ⟨HO, C27, Ag1, Z39⟩; try dsimp only
  iapply (st_bind c); iapply (part17 m c _ _) $$ E1
  iintro E1; try dsimp only
  iapply (st_bind c); iapply (part18 m K c _ _ _) $$ HR HO E1 N13 N14 S22 S23 L38
  iintro ⟨HO, C22, C23, Ag2, Z38⟩; try dsimp only
  iapply (st_bind c); iapply (part19 m c _) $$ E2
  iintro E2; try dsimp only
  iapply (st_bind c); iapply (part20 m K c _ _ _) $$ HR HO E2 N23 N24 S24 S25 L50
  iintro ⟨HO, C24, C25, q20, Z50⟩; try dsimp only
  iapply (st_bind c); iapply (part21 m K c _ _ _ _) $$ HR HO L46 L48 q20
  iintro ⟨HO, q00, q10, q20, Z46, Z48⟩; try dsimp only
  icases PRd with ⟨S28, S29, S30, S31, S32, S33, L52, L53, L54, L55, L56, L57⟩
  iapply (st_bind c); iapply (part22 m K c _) $$ HR HO Erd0 N15 S28 N25 S30
  iintro %w22 %w22' %w22'' ⟨HO, C28, C30, Erd0⟩; try dsimp only
  iapply (st_bind c); iapply (part23 m K c _ _ _ _ _) $$ HR HO Erd0 N35 S32 L51 L47
  iintro %w23 ⟨HO, C32, q21, q01, Z51, Z47⟩; try dsimp only
  iapply (st_bind c); iapply (part24 m K c _ _) $$ HR HO L49 q21 q01 Erd1
  iintro %w24 %w24' %w24'' ⟨HO, q01, q11, q21, Z49, Erd1⟩; try dsimp only
  iapply (st_bind c); iapply (part25 m K c _ _ _) $$ HR HO Erd1 N16 S29 N26 S31 N36 S33
  iintro %w25 ⟨HO, C29, C31, C33⟩; try dsimp only
  ihave Br2 := (r2_back c _ _ _ _ _ _) $$ [q00 q01 q10 q11 q20 q21]
  · isplitl [q00 q01]; · iframe
    isplitl [q10 q11] <;> iframe
  ihave X := (rowsO c) $$ Bo; icases X with ⟨Oc, O1, O2, O3⟩
  iapply (st_bind c); iapply (part26 m K c _ _ _) $$ HR HO Oc L52
  iintro ⟨HO, Oc, D3, Z52⟩; try dsimp only
  iapply (st_bind c); iapply (part27 m K c _) $$ HR HO D3 L53 O3
  iintro ⟨HO, D3, O3, Z53⟩; try dsimp only
  iapply (st_bind c); iapply (part28 m K c _ _ _ _) $$ HR HO L56 L57
  iintro %w28 %x28 %y28 %z28 ⟨HO, D1, Z56, Z57⟩; try dsimp only
  iapply (st_bind c); iapply (part29 m K c _ _ _ _ _ _ _) $$ HR HO O1 L54 L55
  iintro %w29 ⟨HO, O1, D2, Z54, Z55⟩; try dsimp only
  iapply (st_bind c); iapply (part30 m K c _ _) $$ HR HO D2 O2 RC0 RC1 RC2
  iintro ⟨HO, D2, O2, P0, P1, P2, ZR0, ZR1, ZR2⟩; try dsimp only
  iapply (st_bind c); iapply (part31 m K c _) $$ HR HO RC3 C13 C14 C15
  iintro ⟨HO, P3, ZR3, G1, G2, G3, Z13, Z14, Z15⟩; try dsimp only
  iapply (st_bind c); iapply (part32 m K c _) $$ HR HO C26 C27 C22 C23
  iintro ⟨HO, E30, E31, E10, E11, Z26, Z27, Z22, Z23⟩; try dsimp only
  iapply (st_bind c); iapply (part33 m K c _) $$ HR HO C24 C25 C28 C30
  iintro ⟨HO, E20, E21, T01, T02, Z24, Z25, Z28, Z30⟩; try dsimp only
  simp only [Prog.lift, Prog.bind_op, Prog.bind_ret, Prog.pure_eq_ret]
  iapply (st_wait m K c 32 22 _ rfl rfl (by decide) (ow c (rdH c 0) (third 3) (RD m c 0)) (Entails.refl _) rfl) $$ HR C32 HO; iintro ⟨HO, T03, Z32⟩
  iapply (st_wait m K c 29 22 _ rfl rfl (by decide) (ow c (rdH c 1) (third 1) (RD m c 1)) (Entails.refl _) rfl) $$ HR C29 HO; iintro ⟨HO, T11, Z29⟩
  iapply (st_ret c)
  iapply (st_wait m K c 31 22 _ rfl rfl (by decide) (ow c (rdH c 1) (third 2) (RD m c 1)) (Entails.refl _) rfl) $$ HR C31 HO; iintro ⟨HO, T12, Z31⟩
  iapply (st_wait m K c 33 22 _ rfl rfl (by decide) (ow c (rdH c 1) (third 3) (RD m c 1)) (Entails.refl _) rfl) $$ HR C33 HO; iintro ⟨HO, T13, Z33⟩
  iapply (st_ret c)
  iapply Hk
  unfold BPost
  ihave B1 := (p1_back c _ _ _ _) $$ [P0 P1 P2 P3]; · iframe
  ihave Bag := (ag_back c _ _ _ _) $$ [G1 G2 G3 Ag1 Ag2 Ag3]
  · isplitl [G1 G2 G3] <;> iframe
  ihave Bp2 := (p2_back c _ _ _ _ _ _) $$ [Ec E10 E11 E20 E21 E30 E31]
  · isplitl [Ec]; · iexact Ec
    isplitl [E10 E11]; · iframe
    isplitl [E20 E21] <;> iframe
  ihave Brd := (rd_back c _ _ _ _ _) $$ [T01 T02 T03 T11 T12 T13 D1 D2 D3]
  · isplitl [T01 T02 T03]; · iframe
    isplitl [T11 T12 T13] <;> iframe
  ihave Bo := (unrowsO m c) $$ [Oc O1 O2 O3]; · iframe
  ihave X := (ZRo_all c) $$ [ZR0 ZR1 ZR2 ZR3]; · iframe
  icases X with ⟨Z10, Z11, Z12⟩
  isplitl [a0 a1 a2 a3 a4 a5 a6 a7 a8]; · unfold Args; iframe
  isplitl [d0 d1 d2 d3 d4 d5 d6 d7 d8]; · unfold Copies; iframe
  isplitl [B1 Br1 Bag Bp2 Br2 Brd]; · unfold Bufs; iframe
  isplitl [Bo]; · iexact Bo
  isplitr [ZB HO]
  · unfold Zs
    isplitl [Z1 Z2 Z3 Z4 Z5 Z6 Z7 Z8 Z9]; · iframe
    isplitl [Z10 Z11 Z12 Z13 Z14 Z15]; · iframe
    isplitl [Z22 Z23 Z24 Z25 Z26 Z27]; · iframe
    isplitl [Z28 Z29 Z30 Z31 Z32 Z33]; · iframe
    isplitl [Z34 Z35 Z36 Z37 Z38 Z39]; · iframe
    isplitl [Z46 Z47 Z48 Z49 Z50 Z51]; · iframe
    iframe
  isplitl [ZB] <;> iassumption

end Cert.KProof

end
-- ==== Proof.Launch.lean ====
/- The launch: how the semaphores, their tokens and the first debts are dealt to the devices, and the run of the whole program. -/
module

public import proofs.«01_k».proof.Proof.Body
public import proofs.«01_k».proof.Proof.Gen.KernelIdeal.Points
public import Idealize.ShloMosaic.Lib.Pipeline.CollectiveSegs

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

/-! ## Lists of cells and tokens -/

section Lists
variable (c : Dev nD)

/-- The proof's cells of a device one by one. -/
theorem list58 (Φ : GSem nD τ sig → Fin 58 → sProp 𝕄) : (bigSep Finset.univ fun n : Fin 58 => Φ (kcell (c, n)) n) = iprop(
    Φ (bc c) 0 ∗ Φ (dc c 1) 1 ∗ Φ (dc c 2) 2 ∗ Φ (dc c 3) 3 ∗ Φ (dc c 4) 4 ∗ Φ (dc c 5) 5 ∗ Φ (dc c 6) 6 ∗ Φ (dc c 7) 7 ∗ Φ (dc c 8) 8 ∗ Φ (dc c 9) 9 ∗ Φ (dc c 10) 10
    ∗ Φ (dc c 11) 11 ∗ Φ (dc c 12) 12 ∗ Φ (dc c 13) 13 ∗ Φ (dc c 14) 14 ∗ Φ (dc c 15) 15 ∗ Φ (dc c 16) 16 ∗ Φ (dc c 17) 17 ∗ Φ (dc c 18) 18 ∗ Φ (dc c 19) 19
    ∗ Φ (dc c 20) 20 ∗ Φ (dc c 21) 21 ∗ Φ (dc c 22) 22 ∗ Φ (dc c 23) 23 ∗ Φ (dc c 24) 24 ∗ Φ (dc c 25) 25 ∗ Φ (dc c 26) 26 ∗ Φ (dc c 27) 27 ∗ Φ (dc c 28) 28
    ∗ Φ (dc c 29) 29 ∗ Φ (dc c 30) 30 ∗ Φ (dc c 31) 31 ∗ Φ (dc c 32) 32 ∗ Φ (dc c 33) 33 ∗ Φ (dc c 34) 34 ∗ Φ (dc c 35) 35 ∗ Φ (dc c 36) 36 ∗ Φ (dc c 37) 37
    ∗ Φ (dc c 38) 38 ∗ Φ (dc c 39) 39 ∗ Φ (dc c 40) 40 ∗ Φ (dc c 41) 41 ∗ Φ (dc c 42) 42 ∗ Φ (dc c 43) 43 ∗ Φ (dc c 44) 44 ∗ Φ (dc c 45) 45 ∗ Φ (dc c 46) 46
    ∗ Φ (dc c 47) 47 ∗ Φ (dc c 48) 48 ∗ Φ (dc c 49) 49 ∗ Φ (dc c 50) 50 ∗ Φ (dc c 51) 51 ∗ Φ (dc c 52) 52 ∗ Φ (dc c 53) 53 ∗ Φ (dc c 54) 54 ∗ Φ (dc c 55) 55
    ∗ Φ (dc c 56) 56 ∗ Φ (dc c 57) 57) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57] (by decide) (by decide)]; rfl

/-- A token's cell and duty on the device whose cell it is: a transfer's, the barrier's of the device one place on, then two and three. -/
def tk (j : Fin 60) : Fin 58 × Fin 4 := if h : j.val < 58 then (⟨j.val, h⟩, if j.val = 0 then 1 else 0) else (0, if j.val = 58 then 2 else 3)
/-- How many places on the cell lies from the device that pays it. -/
def ds (j : Fin 60) : ℕ :=
  if j.val = 0 then 1 else if j.val < 34 then 0 else if j.val < 40 then (j.val - 34) % 3 + 1 else if j.val < 46 then 0
  else if j.val < 52 then (j.val - 46) / 2 + 1 else if j.val < 58 then (j.val - 52) / 2 + 1 else j.val - 56
/-- The device whose cell it is. -/
def dto (c : Dev nD) (j : Fin 60) : Dev nD := if ds j = 0 then c else sh c (ds j)
def dfrom (c : Dev nD) (j : Fin 60) : Dev nD := if ds j = 0 then c else sh c (4 - ds j)

theorem dfrom_dto : ∀ (c : Dev nD) (j : Fin 60), dfrom (dto c j) j = c := by decide
theorem dto_dfrom : ∀ (c : Dev nD) (j : Fin 60), dto (dfrom c j) j = c := by decide

/-- From a payer and a duty to the cell's device and the duty. -/
def deal : Dev nD × Fin 60 ≃ Dev nD × Fin 60 where
  toFun x := (dto x.1 x.2, x.2)
  invFun x := (dfrom x.1 x.2, x.2)
  left_inv x := by show (dfrom (dto x.1 x.2) x.2, x.2) = x; rw [dfrom_dto]
  right_inv x := by show (dto (dfrom x.1 x.2) x.2, x.2) = x; rw [dto_dfrom]

/-- The tokens one by one. -/
theorem list60 (Ψ : GSem nD τ sig → Fin 4 → sProp 𝕄) : (bigSep Finset.univ fun j : Fin 60 => Ψ (kcell (dto c j, (tk j).1)) (tk j).2) = iprop(
    Ψ (bc (sh c 1)) 1 ∗ Ψ (dc c 1) 0 ∗ Ψ (dc c 2) 0 ∗ Ψ (dc c 3) 0 ∗ Ψ (dc c 4) 0 ∗ Ψ (dc c 5) 0 ∗ Ψ (dc c 6) 0 ∗ Ψ (dc c 7) 0 ∗ Ψ (dc c 8) 0 ∗ Ψ (dc c 9) 0
    ∗ Ψ (dc c 10) 0 ∗ Ψ (dc c 11) 0 ∗ Ψ (dc c 12) 0 ∗ Ψ (dc c 13) 0 ∗ Ψ (dc c 14) 0 ∗ Ψ (dc c 15) 0 ∗ Ψ (dc c 16) 0 ∗ Ψ (dc c 17) 0 ∗ Ψ (dc c 18) 0 ∗ Ψ (dc c 19) 0
    ∗ Ψ (dc c 20) 0 ∗ Ψ (dc c 21) 0 ∗ Ψ (dc c 22) 0 ∗ Ψ (dc c 23) 0 ∗ Ψ (dc c 24) 0 ∗ Ψ (dc c 25) 0 ∗ Ψ (dc c 26) 0 ∗ Ψ (dc c 27) 0 ∗ Ψ (dc c 28) 0 ∗ Ψ (dc c 29) 0
    ∗ Ψ (dc c 30) 0 ∗ Ψ (dc c 31) 0 ∗ Ψ (dc c 32) 0 ∗ Ψ (dc c 33) 0 ∗ Ψ (dc (sh c 1) 34) 0 ∗ Ψ (dc (sh c 2) 35) 0 ∗ Ψ (dc (sh c 3) 36) 0 ∗ Ψ (dc (sh c 1) 37) 0
    ∗ Ψ (dc (sh c 2) 38) 0 ∗ Ψ (dc (sh c 3) 39) 0 ∗ Ψ (dc c 40) 0 ∗ Ψ (dc c 41) 0 ∗ Ψ (dc c 42) 0 ∗ Ψ (dc c 43) 0 ∗ Ψ (dc c 44) 0 ∗ Ψ (dc c 45) 0 ∗ Ψ (dc (sh c 1) 46) 0
    ∗ Ψ (dc (sh c 1) 47) 0 ∗ Ψ (dc (sh c 2) 48) 0 ∗ Ψ (dc (sh c 2) 49) 0 ∗ Ψ (dc (sh c 3) 50) 0 ∗ Ψ (dc (sh c 3) 51) 0 ∗ Ψ (dc (sh c 1) 52) 0 ∗ Ψ (dc (sh c 1) 53) 0
    ∗ Ψ (dc (sh c 2) 54) 0 ∗ Ψ (dc (sh c 2) 55) 0 ∗ Ψ (dc (sh c 3) 56) 0 ∗ Ψ (dc (sh c 3) 57) 0 ∗ Ψ (bc (sh c 2)) 2 ∗ Ψ (bc (sh c 3)) 3) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59] (by decide) (by decide)]; rfl

end Lists

/-! ## Minting -/

theorem kcell_injective : Function.Injective (kcell : Dev nD × Fin 58 → GSem nD τ sig) := by
  rintro ⟨c, k⟩ ⟨c', k'⟩ h
  have h1 : c = c' := congrArg (fun g : GSem nD τ sig => g.1.1) h
  have h2 : csem k = csem k' := congrArg Prod.snd h
  rw [h1, csem_inj k k' h2]

theorem tk_inj : ∀ j j' : Fin 60, tk j = tk j' → j = j' := by decide

abbrev tokOf (x : Dev nD × Fin 60) : GSem nD τ sig × ℕ × Fin 4 := (kcell (x.1, (tk x.2).1), 0, (tk x.2).2)
theorem tokOf_injective : Function.Injective (tokOf : Dev nD × Fin 60 → GSem nD τ sig × ℕ × Fin 4) := by
  rintro ⟨c, j⟩ ⟨c', j'⟩ h
  have h1 := kcell_injective (congrArg Prod.fst h)
  have h2 : (tk j).2 = (tk j').2 := congrArg (fun x : GSem nD τ sig × ℕ × Fin 4 => x.2.2) h
  have h3 : (tk j).1 = (tk j').1 := congrArg Prod.snd h1
  rw [show c = c' from congrArg Prod.fst h1, tk_inj j j' (Prod.ext h3 h2)]

def meshCells : Finset (GSem nD τ sig) := Finset.univ.map ⟨kcell, kcell_injective⟩
def meshToks : Finset (GSem nD τ sig × ℕ × Fin 4) := Finset.univ.map ⟨tokOf, tokOf_injective⟩

def u₀ : UU :=
  (initOf (Pipeline.cells cfgs cellOf_inj) (Pipeline.launchToks cfgs cellOf_inj), initOf meshCells meshToks)

/-- The tokens of a device's own cells, and those of the duties that it pays. -/
def toks (c : Dev nD) : sProp 𝕄 := bigSep Finset.univ fun j : Fin 60 => dutyTok ER (kcell (c, (tk j).1)) 0 (tk j).2
def payToks (c : Dev nD) : sProp 𝕄 := bigSep Finset.univ fun j : Fin 60 => dutyTok ER (kcell (dto c j, (tk j).1)) 0 (tk j).2

theorem toks_around : (bigSep Finset.univ fun c : Dev nD => (toks (F := F) c)) = bigSep Finset.univ fun c : Dev nD => payToks (F := F) c := by
  have h1 := bigSep_univ_prod (fun x : Dev nD × Fin 60 => (dutyTok ER (kcell (x.1, (tk x.2).1)) 0 (tk x.2).2 : sProp 𝕄))
  have h2 := bigSep_univ_prod (fun x : Dev nD × Fin 60 => (dutyTok ER (kcell (dto x.1 x.2, (tk x.2).1)) 0 (tk x.2).2 : sProp 𝕄))
  have h3 := bigSep_univ_equiv deal (fun x : Dev nD × Fin 60 => (dutyTok ER (kcell (x.1, (tk x.2).1)) 0 (tk x.2).2 : sProp 𝕄))
  exact h1.symm.trans (h3.trans h2)

def G (c : Dev nD) : sProp 𝕄 :=
  iprop((bigSep Finset.univ fun k : Fin 58 => roundState ER (Rd m) (kcell (c, k)) 0)
    ∗ (bigSep Finset.univ fun k : Fin 58 => atPos ER (kcell (c, k)) 0 ∅ 0) ∗ (bigSep Finset.univ fun k : Fin 58 => reached ER (kcell (c, k)) 0) ∗ toks c)

/-- The cells' invariants and rounds, without the levels. -/
def recs (K : Dev nD × Fin 58 → ℕ) : sProp 𝕄 :=
  iprop((bigSep Finset.univ fun ck : Dev nD × Fin 58 => cellInv ER (Rd m) (K ck) (kcell ck))
    ∗ (bigSep Finset.univ fun ck : Dev nD × Fin 58 => reached ER (kcell ck) 0))
instance recs_persistent (K : Dev nD × Fin 58 → ℕ) : BI.Persistent (recs m K) := by unfold recs; infer_instance

/-- What stays with device `c`. -/
def linear (c : Dev nD) : sProp 𝕄 := iprop((bigSep Finset.univ fun k : Fin 58 => atPos ER (kcell (c, k)) 0 ∅ 0) ∗ payToks (F := F) c)
def G' (c : Dev nD) : sProp 𝕄 := iprop(∃ K, recs m K ∗ linear (F := F) c)

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : Fin 58 => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]; rfl
  iintro HX
  imod (Rounds.fund ER (Rd m) meshCells meshToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe

/-! ## The semaphores -/

abbrev osem : Fin 57 → SemLoc sig := fun i => .dma ⟨i.val + 1, Nat.succ_lt_succ i.isLt⟩

theorem ownSemFacts : Pipeline.OwnSemFacts cfg0.spec osem := by decide

theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 58 => semVal (kcell (c, k)) 0 : sProp 𝕄) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56] (by decide) (by decide), list58 c fun g _ => semVal g 0]
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 58 => iprop(∃ κ : ℕ, cellInv ER (Rd m) κ (kcell (c, k))))
          ∗ (bigSep Finset.univ fun k : Fin 58 => atPos ER (kcell (c, k)) 0 ∅ 0) ∗ (bigSep Finset.univ fun k : Fin 58 => reached ER (kcell (c, k)) 0) ∗ toks c) := by
  unfold G
  iintro ⟨Hos, Hus, Hst, Hat, Hr, Htok⟩
  ihave Hv := (Entails.of_eq (sems0_eq (F := F) c)) $$ [Hos Hus]
  · isplitl [Hus] <;> iassumption
  imod (show iprop((bigSep Finset.univ fun k : Fin 58 => semVal (kcell (c, k)) 0) ∗ bigSep Finset.univ fun k : Fin 58 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  iframe

theorem regroup :
    (bigSep Finset.univ fun c : Dev nD => iprop((bigSep Finset.univ fun k : Fin 58 => iprop(∃ κ : ℕ, cellInv ER (Rd m) κ (kcell (c, k))))
          ∗ (bigSep Finset.univ fun k : Fin 58 => atPos ER (kcell (c, k)) 0 ∅ 0) ∗ (bigSep Finset.univ fun k : Fin 58 => reached ER (kcell (c, k)) 0) ∗ toks (F := F) c) : sProp 𝕄)
      ⊢ bigSep Finset.univ (G' m) := by
  rw [bigSep_sep', bigSep_sep', bigSep_sep', ← bigSep_univ_prod (fun ck : Dev nD × Fin 58 => iprop(∃ κ : ℕ, cellInv ER (Rd m) κ (kcell ck))),
    ← bigSep_univ_prod (fun ck : Dev nD × Fin 58 => (reached ER (kcell ck) 0 : sProp 𝕄)), toks_around]
  iintro ⟨HI, Hat, #HR, Htok⟩
  ihave HK := (BI.bigSep_exists_pi Finset.univ (fun (ck : Dev nD × Fin 58) (κ : ℕ) => (cellInv ER (Rd m) κ (kcell ck) : sProp 𝕄))) $$ HI
  icases HK with ⟨%K, #HI⟩
  have h : iprop(recs m K ∗ bigSep Finset.univ fun c : Dev nD => linear (F := F) c) ⊢ bigSep Finset.univ (G' m) :=
    (sep_mono_left (BI.bigSep_of_persistent Finset.univ (recs m K))).trans (by
      rw [← bigSep_sep']
      refine bigSep_mono fun c _ => ?_
      exact (show iprop(recs m K ∗ linear (F := F) c) ⊢ G' m c from by
        unfold G'
        iintro H
        iexists K
        iexact H))
  iapply h
  isplitr
  · unfold recs; isplitl; · iexact HI
    iexact HR
  · unfold linear; rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- What a list of payments gives a cell. -/
def owedN (l : List (GSem nD τ sig × ℕ)) (g : GSem nD τ sig) : ℕ := (l.map fun p => if g = p.1 then p.2 else 0).sum

theorem owedL_eq (l : List (GSem nD τ sig × ℕ)) (g : GSem nD τ sig) : owedL l g () = owedN l g := by
  induction l with
  | nil => rfl
  | cons p l ih =>
    unfold owedL owedN
    rw [Pi.add_apply, Finsupp.add_apply, tallyAt_apply, ih, List.map_cons, List.sum_cons, Nat.add_comm]
    simp only [and_true]; rfl

/-- What the devices together pay a cell. -/
def camt (n : Fin 58) : ℕ := if n.val = 0 then 3 else if n.val < 34 then 0 else if n.val < 40 then N1 else if n.val < 46 then 0 else NH

theorem paid : ∀ (c : Dev nD) (n : Fin 58), (∑ d : Dev nD, owedN (pays d) (kcell (c, n))) = camt n := by decide +kernel

theorem launch_at (c : Dev nD) (n : Fin 58) :
    tallyOn (kcell (c, n)) (launchCredit (Pipeline.owing fun d => owed d 0) 0 (kcell (c, n))) = (tallyAt (kcell (c, n)) () (camt n) : CellTallies nD τ sig Unit) := by
  unfold tallyAt; refine congrArg _ (Finsupp.ext fun u => ?_); cases u
  rw [Pipeline.launchCredit_owing, Finsupp.single_eq_same, ← paid c n]
  exact Finset.sum_congr rfl fun d _ => owedL_eq _ _

theorem creds (c : Dev nD) :
    (Pipeline.launchCred (fun d => owed d 0) c : sProp 𝕄) ⊢ bigSep Finset.univ fun n : Fin 58 => cred (tallyAt (kcell (c, n)) () (camt n)) := by
  unfold Pipeline.launchCred
  refine (bigSep_subset (Finset.subset_univ (Finset.univ.map ⟨csem, csem_inj⟩))).trans ?_
  rw [bigSep_map]
  exact bigSep_mono fun n _ => Entails.of_eq (congrArg cred (launch_at c n))

/-! ## What the body starts from and ends with -/

/-- The transfers' semaphores that nothing uses. -/
def Idle (c : Dev nD) : sProp 𝕄 :=
  iprop((atPos ER (dc c 16) 0 ∅ 0 ∗ atPos ER (dc c 17) 0 ∅ 0 ∗ atPos ER (dc c 18) 0 ∅ 0 ∗ atPos ER (dc c 19) 0 ∅ 0 ∗ atPos ER (dc c 20) 0 ∅ 0 ∗ atPos ER (dc c 21) 0 ∅ 0)
    ∗ (atPos ER (dc c 40) 0 ∅ 0 ∗ atPos ER (dc c 41) 0 ∅ 0 ∗ atPos ER (dc c 42) 0 ∅ 0 ∗ atPos ER (dc c 43) 0 ∅ 0 ∗ atPos ER (dc c 44) 0 ∅ 0 ∗ atPos ER (dc c 45) 0 ∅ 0))
def IdleZ (c : Dev nD) : sProp 𝕄 :=
  iprop((Zr (F := F) c 16 ∗ Zr (F := F) c 17 ∗ Zr (F := F) c 18 ∗ Zr (F := F) c 19 ∗ Zr (F := F) c 20 ∗ Zr (F := F) c 21)
    ∗ (Zr (F := F) c 40 ∗ Zr (F := F) c 41 ∗ Zr (F := F) c 42 ∗ Zr (F := F) c 43 ∗ Zr (F := F) c 44 ∗ Zr (F := F) c 45))

theorem idle_close (K : Dev nD × Fin 58 → ℕ) (c : Dev nD) (n : Fin 58) (h : act n = false) (hn : n ≠ 0) :
    iprop(records m K ∗ atPos ER (dc c n) 0 ∅ 0) ⊢ |={Set.univ}=> Zr (F := F) c n := by
  iintro ⟨#HR, H⟩
  ihave HI := (records_dma m K c n hn) $$ HR
  icases HI with ⟨#HI, -⟩
  imod (Rounds.cell_close ER (Rd m) (Set.mem_univ (K (c, n))) (fun h => h) (R := 0) (fun r _ => duties_idle m c n h r)) $$ [H] with Hz
  · isplitr; · iexact HI
    iexact H
  imodintro; unfold Zr; iexact Hz

theorem idles_close (K : Dev nD × Fin 58 → ℕ) (c : Dev nD) : iprop(records m K ∗ Idle (F := F) c) ⊢ |={Set.univ}=> IdleZ (F := F) c := by
  unfold Idle IdleZ
  iintro ⟨#HR, ⟨H1, H2, H3, H4, H5, H6⟩, H7, H8, H9, H10, H11, H12⟩
  imod (idle_close m K c 16 rfl (by decide)) $$ [H1] with H1; · isplitr <;> iassumption
  imod (idle_close m K c 17 rfl (by decide)) $$ [H2] with H2; · isplitr <;> iassumption
  imod (idle_close m K c 18 rfl (by decide)) $$ [H3] with H3; · isplitr <;> iassumption
  imod (idle_close m K c 19 rfl (by decide)) $$ [H4] with H4; · isplitr <;> iassumption
  imod (idle_close m K c 20 rfl (by decide)) $$ [H5] with H5; · isplitr <;> iassumption
  imod (idle_close m K c 21 rfl (by decide)) $$ [H6] with H6; · isplitr <;> iassumption
  imod (idle_close m K c 40 rfl (by decide)) $$ [H7] with H7; · isplitr <;> iassumption
  imod (idle_close m K c 41 rfl (by decide)) $$ [H8] with H8; · isplitr <;> iassumption
  imod (idle_close m K c 42 rfl (by decide)) $$ [H9] with H9; · isplitr <;> iassumption
  imod (idle_close m K c 43 rfl (by decide)) $$ [H10] with H10; · isplitr <;> iassumption
  imod (idle_close m K c 44 rfl (by decide)) $$ [H11] with H11; · isplitr <;> iassumption
  imod (idle_close m K c 45 rfl (by decide)) $$ [H12] with H12; · isplitr <;> iassumption
  imodintro
  iframe

/-- What device `c` has before the body, the debts and the staging buffer apart. -/
def start (c : Dev nD) : sProp 𝕄 :=
  iprop(∃ K, records m K ∗ linear (F := F) c ∗ (bigSep Finset.univ fun n : Fin 58 => cred (tallyAt (kcell (c, n)) () (camt n))) ∗ Args m c)

/-- The credits one by one. -/
theorem list_creds (c : Dev nD) : (bigSep Finset.univ fun n : Fin 58 => cred (tallyAt (kcell (c, n)) () (camt n)) : sProp 𝕄) = iprop(
    cred (tallyAt (bc c) () 3) ∗ cred (tallyAt (dc c 1) () 0) ∗ cred (tallyAt (dc c 2) () 0) ∗ cred (tallyAt (dc c 3) () 0) ∗ cred (tallyAt (dc c 4) () 0)
    ∗ cred (tallyAt (dc c 5) () 0) ∗ cred (tallyAt (dc c 6) () 0) ∗ cred (tallyAt (dc c 7) () 0) ∗ cred (tallyAt (dc c 8) () 0) ∗ cred (tallyAt (dc c 9) () 0)
    ∗ cred (tallyAt (dc c 10) () 0) ∗ cred (tallyAt (dc c 11) () 0) ∗ cred (tallyAt (dc c 12) () 0) ∗ cred (tallyAt (dc c 13) () 0) ∗ cred (tallyAt (dc c 14) () 0)
    ∗ cred (tallyAt (dc c 15) () 0) ∗ cred (tallyAt (dc c 16) () 0) ∗ cred (tallyAt (dc c 17) () 0) ∗ cred (tallyAt (dc c 18) () 0) ∗ cred (tallyAt (dc c 19) () 0)
    ∗ cred (tallyAt (dc c 20) () 0) ∗ cred (tallyAt (dc c 21) () 0) ∗ cred (tallyAt (dc c 22) () 0) ∗ cred (tallyAt (dc c 23) () 0) ∗ cred (tallyAt (dc c 24) () 0)
    ∗ cred (tallyAt (dc c 25) () 0) ∗ cred (tallyAt (dc c 26) () 0) ∗ cred (tallyAt (dc c 27) () 0) ∗ cred (tallyAt (dc c 28) () 0) ∗ cred (tallyAt (dc c 29) () 0)
    ∗ cred (tallyAt (dc c 30) () 0) ∗ cred (tallyAt (dc c 31) () 0) ∗ cred (tallyAt (dc c 32) () 0) ∗ cred (tallyAt (dc c 33) () 0)
    ∗ cred (tallyAt (dc c 34) () (amt ((34 : Fin 58).val))) ∗ cred (tallyAt (dc c 35) () (amt ((35 : Fin 58).val)))
    ∗ cred (tallyAt (dc c 36) () (amt ((36 : Fin 58).val))) ∗ cred (tallyAt (dc c 37) () (amt ((37 : Fin 58).val)))
    ∗ cred (tallyAt (dc c 38) () (amt ((38 : Fin 58).val))) ∗ cred (tallyAt (dc c 39) () (amt ((39 : Fin 58).val))) ∗ cred (tallyAt (dc c 40) () 0)
    ∗ cred (tallyAt (dc c 41) () 0) ∗ cred (tallyAt (dc c 42) () 0) ∗ cred (tallyAt (dc c 43) () 0) ∗ cred (tallyAt (dc c 44) () 0) ∗ cred (tallyAt (dc c 45) () 0)
    ∗ cred (tallyAt (dc c 46) () (amt ((46 : Fin 58).val))) ∗ cred (tallyAt (dc c 47) () (amt ((47 : Fin 58).val)))
    ∗ cred (tallyAt (dc c 48) () (amt ((48 : Fin 58).val))) ∗ cred (tallyAt (dc c 49) () (amt ((49 : Fin 58).val)))
    ∗ cred (tallyAt (dc c 50) () (amt ((50 : Fin 58).val))) ∗ cred (tallyAt (dc c 51) () (amt ((51 : Fin 58).val)))
    ∗ cred (tallyAt (dc c 52) () (amt ((52 : Fin 58).val))) ∗ cred (tallyAt (dc c 53) () (amt ((53 : Fin 58).val)))
    ∗ cred (tallyAt (dc c 54) () (amt ((54 : Fin 58).val))) ∗ cred (tallyAt (dc c 55) () (amt ((55 : Fin 58).val)))
    ∗ cred (tallyAt (dc c 56) () (amt ((56 : Fin 58).val))) ∗ cred (tallyAt (dc c 57) () (amt ((57 : Fin 58).val)))) := by
  rw [list58 c fun g n => cred (tallyAt g () (camt n))]; rfl

set_option maxHeartbeats 8000000 in
/-- The parts' shares out of what the launch deals. -/
theorem unpack (c : Dev nD) :
    iprop(linear (F := F) c ∗ (bigSep Finset.univ fun n : Fin 58 => cred (tallyAt (kcell (c, n)) () (camt n))) ∗ Args m c ∗ Pipeline.scopedRest cfg0.spec c)
      ⊢ iprop(PLoad m c ∗ PBar (F := F) c ∗ PRs (F := F) c ∗ PAg (F := F) c ∗ PR2 (F := F) c ∗ PRd (F := F) c ∗ Bufs (F := F) c ∗ Idle (F := F) c) := by
  unfold linear payToks Args
  rw [scopedRest0_eq, list58 c fun g _ => atPos ER g 0 ∅ 0, list_creds, list60 c fun g d => dutyTok ER g 0 d]
  iintro ⟨⟨⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57⟩, T0, T1, T2, T3, T4, T5, T6, T7, T8, T9, T10, T11, T12, T13, T14, T15, T16, T17, T18, T19, T20, T21, T22, T23, T24, T25, T26, T27, T28, T29, T30, T31, T32, T33, T34, T35, T36, T37, T38, T39, T40, T41, T42, T43, T44, T45, T46, T47, T48, T49, T50, T51, T52, T53, T54, T55, T56, T57, T58, T59⟩, ⟨C0, C1, C2, C3, C4, C5, C6, C7, C8, C9, C10, C11, C12, C13, C14, C15, C16, C17, C18, C19, C20, C21, C22, C23, C24, C25, C26, C27, C28, C29, C30, C31, C32, C33, C34, C35, C36, C37, C38, C39, C40, C41, C42, C43, C44, C45, C46, C47, C48, C49, C50, C51, C52, C53, C54, C55, C56, C57⟩, ⟨a0, a1, a2, a3, a4, a5, a6, a7, a8⟩, d0, d1, d2, d3, d4, d5, d6, d7, d8, b1, b2, b3, b4, b5, b6⟩
  isplitl [H1 T1 H2 T2 H3 T3 H4 T4 H5 T5 H6 T6 H7 T7 H8 T8 H9 T9 a0 d0 a1 d1 a2 d2 a3 d3 a4 d4 a5 d5 a6 d6 a7 d7 a8 d8]
  · unfold PLoad LdIn LdB
    isplitl [H1 T1 a0 d0]; · iframe
    isplitl [H2 T2 a5 d5]; · iframe
    isplitl [H3 T3 a6 d6]; · iframe
    isplitl [H4 T4 a1 d1]; · iframe
    isplitl [H5 T5 a2 d2]; · iframe
    isplitl [H6 T6 a3 d3]; · iframe
    isplitl [H7 T7 a4 d4]; · iframe
    isplitl [H8 T8 a7 d7]; · iframe
    iframe
  isplitl [T0 T58 T59 C0 H0]; · unfold PBar; iframe
  isplitl [H10 T10 H11 T11 H12 T12 T34 C34 H34 T35 C35 H35 T36 C36 H36]; · unfold PRs SndB Clm; iframe
  isplitl [H13 T13 H14 T14 H15 T15 T37 C37 H37 T38 C38 H38 T39 C39 H39]; · unfold PAg SndB Clm; iframe
  isplitl [H22 T22 H23 T23 H24 T24 H25 T25 H26 T26 H27 T27 T46 C46 H46 T47 C47 H47 T48 C48 H48 T49 C49 H49 T50 C50 H50 T51 C51 H51]; · unfold PR2 SndB Clm; iframe
  isplitl [H28 T28 H29 T29 H30 T30 H31 T31 H32 T32 H33 T33 T52 C52 H52 T53 C53 H53 T54 C54 H54 T55 C55 H55 T56 C56 H56 T57 C57 H57]; · unfold PRd SndB Clm; iframe
  isplitl [b1 b2 b3 b4 b5 b6]
  · unfold Bufs
    isplitl [b1]; · iapply (whole_ow c cc0_scratch9); iexact b1
    isplitl [b2]; · iapply (whole_ow c cc0_scratch10); iexact b2
    isplitl [b3]; · iapply (whole_ow c cc0_scratch11); iexact b3
    isplitl [b4]; · iapply (whole_ow c cc0_scratch12); iexact b4
    isplitl [b5]; · iapply (whole_ow c cc0_scratch13); iexact b5
    iapply (whole_ow c cc0_scratch14); iexact b6
  unfold Idle; iframe

end Cert.KProof

end
-- ==== Proof.Run.lean ====
/- The run of the whole program on the four devices. -/
module

public import proofs.«01_k».proof.Proof.Launch

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat BodyObligation)
variable (ρ : Dev nD → PrngReg)

/-- What a device has after the body, its result and debts apart. -/
def finish (c : Dev nD) : sProp 𝕄 :=
  iprop((unscopedSems0 c ∗ Args m c) ∗ Pipeline.ownSems0 (Ix := Unit) (Name := ℕ) (U := UU) (Lvl := ℕ) (Val := Elt F) (τ := τ) osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outF m c
  Φ t := match t with
    | ⟨0, _⟩ => iprop(start m c ∗ Pipeline.scopedRest cfg0.spec c)
    | ⟨_ + 1, _⟩ => finish m c
  q _ := fullShare
  owed t := match t with
    | ⟨0, _⟩ => owed c 0
    | ⟨_ + 1, _⟩ => 0

theorem owed_end (c : Dev nD) : owed c 22 = 0 := by
  unfold owed; rw [List.drop_eq_nil_of_le (by rw [pays_len])]; rfl

/-- The semaphores' zeros put together again. -/
theorem zeros (c : Dev nD) : iprop(semVal (bc c) 0 ∗ Zs (F := F) c ∗ IdleZ (F := F) c)
    ⊢ iprop(unscopedSems0 c ∗ Pipeline.ownSems0 (Ix := Unit) (Name := ℕ) (U := UU) (Lvl := ℕ) (Val := Elt F) (τ := τ) osem c) := by
  rw [sems0_eq, list58 c fun g _ => semVal g 0]
  unfold Zs IdleZ Zr
  iintro ⟨Z0, ⟨⟨Z1, Z2, Z3, Z4, Z5, Z6, Z7, Z8, Z9⟩, ⟨Z10, Z11, Z12, Z13, Z14, Z15⟩, ⟨Z22, Z23, Z24, Z25, Z26, Z27⟩, ⟨Z28, Z29, Z30, Z31, Z32, Z33⟩, ⟨Z34, Z35, Z36, Z37, Z38, Z39⟩, ⟨Z46, Z47, Z48, Z49, Z50, Z51⟩, Z52, Z53, Z54, Z55, Z56, Z57⟩, ⟨Z16, Z17, Z18, Z19, Z20, Z21⟩, Z40, Z41, Z42, Z43, Z44, Z45⟩
  iframe

theorem rest_back (c : Dev nD) : iprop(Copies m c ∗ Bufs (F := F) c) ⊢ Pipeline.scopedRest cfg0.spec c := by
  rw [scopedRest0_eq]
  unfold Copies Bufs
  iintro ⟨⟨d0, d1, d2, d3, d4, d5, d6, d7, d8⟩, b1, b2, b3, b4, b5, b6⟩
  isplitl [d0]; · iexists _; iexact d0
  isplitl [d1]; · iexists _; iexact d1
  isplitl [d2]; · iexists _; iexact d2
  isplitl [d3]; · iexists _; iexact d3
  isplitl [d4]; · iexists _; iexact d4
  isplitl [d5]; · iexists _; iexact d5
  isplitl [d6]; · iexists _; iexact d6
  isplitl [d7]; · iexists _; iexact d7
  isplitl [d8]; · iexists _; iexact d8
  isplitl [b1]; · iapply (ow_whole c cc0_scratch9); iexact b1
  isplitl [b2]; · iapply (ow_whole c cc0_scratch10); iexact b2
  isplitl [b3]; · iapply (ow_whole c cc0_scratch11); iexact b3
  isplitl [b4]; · iapply (ow_whole c cc0_scratch12); iexact b4
  isplitl [b5]; · iapply (ow_whole c cc0_scratch13); iexact b5
  iapply (ow_whole c cc0_scratch14); iexact b6

def bodyPre (c : Dev nD) : sProp 𝕄 :=
  iprop((start m c ∗ Pipeline.scopedRest cfg0.spec c) ∗ (dats m ρ 0 c).owesAt () t0_0.castSucc
    ∗ (∃ d, ow c oM fullShare ((dats m ρ 0 c).before (0 : Fin 1) t0_0 d)))
def bodyPost (c : Dev nD) : sProp 𝕄 :=
  iprop(finish m c ∗ (dats m ρ 0 c).owesAt () t0_0.succ ∗ ow c oM fullShare (outF m c))

theorem wp_upd {α : Type} (c : Dev nD) (p : Prog (TpuEff nD τ sig (Elt F) Λ₀ .tc) α) (Q Q' : α → sProp 𝕄) (h : ∀ a, Q a ⊢ |={Set.univ}=> Q' a) :
    WP c p Q ⊢ WP c p Q' := (wp_mono _ _ _ h).trans (wp_fupd _ _ _ p Q')

theorem body_full (c : Dev nD) : bodyPre m ρ c ⊢ WP c (cc0_body (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17) (fun _ => bodyPost m ρ c) := by
  refine .trans ?_ (wp_upd c _ (fun _ => iprop(∃ K, records m K ∗ Idle (F := F) c ∗ BPost m c)) _ fun _ => ?_)
  · unfold bodyPre start Dat.owesAt Pipeline.owesWithin
    iintro ⟨⟨⟨%K, #HR, Hlin, Hcr, Ha⟩, Hs⟩, ⟨%W, -, HO⟩, ⟨%d, Ho⟩⟩
    ihave H := (unpack m c) $$ [Hlin Hcr Ha Hs]; · iframe
    icases H with ⟨H1, H2, H3, H4, H5, H6, H7, HI⟩
    ihave HB := (body m K c fun _ => iprop(∃ K, records m K ∗ Idle (F := F) c ∗ BPost m c)) $$ HR
    iapply HB $$ H1 H2 H3 H4 H5 H6 H7 [Ho] [HO] [HI]
    · iexists _; iexact Ho
    · unfold Ow; iexists W; iexact HO
    · iintro HP; iexists K; iframe; iexact HR
  · unfold bodyPost finish BPost
    iintro ⟨%K, #HR, HI, Ha, Hc, Hb, Ho, HZ, Hz, HO⟩
    imod (idles_close m K c) $$ [HI] with HI; · isplitr; · iexact HR
                                                iexact HI
    imodintro
    ihave HS := (zeros c) $$ [Hz HZ HI]; · iframe
    icases HS with ⟨Hu, Hw⟩
    isplitl [Ha Hc Hb Hu Hw]
    · isplitl [Ha Hu]; · iframe
      isplitl [Hw]; · iexact Hw
      iapply (rest_back m c); iframe
    isplitl [HO]
    · unfold Ow; icases HO with ⟨%W, HO⟩
      unfold Dat.owesAt Pipeline.owesWithin
      rw [owed_end]
      iexists W
      isplitr; · ipureintro; exact fun _ _ => Or.inl trivial
      iexact HO
    iexact Ho

/-- The body's obligation on device `c`. -/
theorem body_obligation (c : Dev nD) : BodyObligation (dats (F := F) m ρ 0 c) (defs₀ (F := F)) 𝒱₀ () Set.univ := fun t => by
  rw [fin_N0 t]
  rw [bigSep_W0, bigSep_W0]
  exact body_full m ρ c

/-! ## The run -/

theorem share_eq (c : Dev nD) (w : Fin cfg0.W) : (dats m ρ 0 c).share w = fullShare := by unfold Dat.share; split <;> rfl

theorem args_list (c : Dev nD) : Args m c
    = (bigSepL [main_arg0, main_arg1, main_arg2, main_arg3, main_arg4, main_arg5, main_arg6, main_arg7, main_arg8]
        fun b : Ref sig .tc => (((c : Thread nD τ).loc b) ↦{fullShare} m ((c : Thread nD τ).loc b)) : sProp 𝕄) := rfl

set_option maxRecDepth 8000 in
theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(start m c ∗ emp) := by
  rw [Pipeline.unscopedRestP_eq_of_list cfg0.spec c Pipeline.Prefetch.none (fun b => m ((c : Thread nD τ).loc b))
    [main_arg0, main_arg1, main_arg2, main_arg3, main_arg4, main_arg5, main_arg6, main_arg7, main_arg8] (by decide) (by decide)]
  unfold start G' records recs
  iintro ⟨Ha, Hlev, Hcr, -, ⟨%K, ⟨HI, HR⟩, Hlin⟩⟩
  ihave Hc := (creds (F := F) c) $$ Hcr
  imodintro
  isplitl
  · iexists K
    isplitl [HI HR Hlev]; · iframe
    isplitl [Hlin]; · iexact Hlin
    isplitl [Hc]; · iexact Hc
    ihave Ha := (Entails.of_eq (args_list m c).symm) $$ Ha
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ Pipeline.scopedRest cfg0.spec c) from rfl]
  iintro ⟨Hs, -, Hr⟩
  isplitl [Hs] <;> iassumption

set_option maxRecDepth 8000 in
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_cut c _ 0 fun _ => (by fin_cases w; fin_cases s; exact (by decide : lvN 0 < cut 0))
    · show _ ⊢ MayWait _ _ _ 0
      rw [MayWait_zero]; iintro -; iempintro

/-- The arguments as they were, on device `c`. -/
def Kept (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
  ∧ s.mem ((c : Thread nD τ).loc main_arg4) = m ((c : Thread nD τ).loc main_arg4) ∧ s.mem ((c : Thread nD τ).loc main_arg5) = m ((c : Thread nD τ).loc main_arg5)
  ∧ s.mem ((c : Thread nD τ).loc main_arg6) = m ((c : Thread nD τ).loc main_arg6) ∧ s.mem ((c : Thread nD τ).loc main_arg7) = m ((c : Thread nD τ).loc main_arg7)
  ∧ s.mem ((c : Thread nD τ).loc main_arg8) = m ((c : Thread nD τ).loc main_arg8)

theorem args_eq (c : Dev nD) : Args m c
    = (bigSep ([main_arg0, main_arg1, main_arg2, main_arg3, main_arg4, main_arg5, main_arg6, main_arg7, main_arg8].toFinset)
        fun b : Ref sig .tc => (((c : Thread nD τ).loc b) ↦{fullShare} m ((c : Thread nD τ).loc b)) : sProp 𝕄) := by
  rw [bigSep_eq_bigSepL_of_eq [main_arg0, main_arg1, main_arg2, main_arg3, main_arg4, main_arg5, main_arg6, main_arg7, main_arg8] rfl (by decide)]; rfl

theorem read_args (c : Dev nD) (s : Phys nD τ sig (Elt F)) :
    iprop(Args m c ∗ SI s) ⊢ (iprop(⌜Kept m c s.mem⌝ ∗ SI s) : sProp 𝕄) := by
  rw [args_eq]
  refine (pointsTo_read_all _ _ _ s).trans ?_
  iintro ⟨%h, HS⟩
  isplitr
  · ipureintro
    exact ⟨h main_arg0 (by decide), h main_arg1 (by decide), h main_arg2 (by decide), h main_arg3 (by decide), h main_arg4 (by decide), h main_arg5 (by decide),
      h main_arg6 (by decide), h main_arg7 (by decide), h main_arg8 (by decide)⟩
  iexact HS

/-- The result array after the run, on device `c`. -/
def finalA (c : Dev nD) (w : Fin cfg0.W) : Buf (Elt F) ((cfg0.win w).arr.view.loc (c : Thread nD τ)) := (dats m ρ 0 c).arrAt w cfg0.N

set_option maxRecDepth 8000 in
/-- From any memory with zero counters every run on the four devices ends, with the result array at the computed contents on every device,
    the arguments as they were and every counter at zero. -/
theorem run_main : θ_run defs (onTc (τ := τ) (main (F := F))) (s₀ m ρ)
    (fun r => (∀ c : Dev nD, r.2.mem ((cfg0.win 0).arr.view.loc (c : Thread nD τ)) = finalA m ρ c 0 ∧ Kept m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => iprop(unscopedSems0 c ∗ Args m c)) (Z := fun _ => iprop(emp))
    (hX := start_intro m ρ) (hin := phi0_intro m ρ) (hout := fun c => Entails.refl _)
    (QY := fun c s => Kept m c s ∧ ∀ sm : SemLoc sig, sm.isScoped .tc = false → s.sem ((c.tc : Thread nD τ), sm) = 0)
    (hY := fun c s' => by
      iintro ⟨⟨Hu, Ha⟩, -, HSI⟩
      ihave H := (read_args m c s') $$ [Ha HSI]
      · isplitl [Ha] <;> iassumption
      icases H with ⟨%hk, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hk, hs⟩
      iexact HSI)
    (hQ := fun _ h hs => ⟨fun c => ⟨(h c).1 0, (h c).2.2.1⟩, sem_eq_zero hs fun c => (h c).2.2.2⟩)

end Cert.KProof

end
-- ==== Proof.Spec.lean ====
/- The transformer block over the extended reals, index by index: what both programs compute. -/
module

public import Idealize.ShloMosaic.PureOps.Ideal
public import Idealize.ShloMosaic.PureOps.Ideal.Laws
public import Idealize.ShloMosaic.Lib.IdealHost

@[expose] public section

noncomputable section

namespace Cert.Spec

open Idealize.ShloMosaic
open scoped BigOperators

/-- The width of a row, the term under the root, and the scale of a score, as the programs write them. -/
abbrev width : EReal := Ideal.ofBits .f32 0x44000000#32
abbrev eps : EReal := Ideal.ofBits .f32 0x3727C5AC#32
abbrev scale : EReal := Ideal.ofBits .f32 0x3E000000#32
abbrev low : EReal := Ideal.ofBits .f32 0xFF800000#32

/-! ## A normed row -/

def mean (r : Fin 512 → EReal) : EReal := Ideal.div (∑ k, r k) width
def var (r : Fin 512 → EReal) : EReal := Ideal.div (∑ k, (r k - mean r) * (r k - mean r)) width
def norm (r : Fin 512 → EReal) (k : Fin 512) : EReal := (r k - mean r) * Ideal.rsqrt (var r + eps)
/-- The normed row, scaled and shifted. -/
def modu (r sc sf : Fin 512 → EReal) (k : Fin 512) : EReal := norm r k * (1 + sc k) + sf k

/-! ## The arrays, whole -/

structure Arrs where
  x : Fin 2 → Fin 256 → Fin 512 → EReal
  wq : Fin 512 → Fin 1024 → EReal
  wk : Fin 512 → Fin 1024 → EReal
  wv : Fin 512 → Fin 1024 → EReal
  wo : Fin 1024 → Fin 512 → EReal
  te : Fin 2 → Fin 128 → EReal
  wm : Fin 128 → Fin 3072 → EReal
  f1 : Fin 512 → Fin 2048 → EReal
  f2 : Fin 2048 → Fin 512 → EReal

variable (a : Arrs)

/-- Modulation `s` of batch `b`. -/
def md (s : Fin 6) (b : Fin 2) (k : Fin 512) : EReal :=
  ∑ t, a.te b t * a.wm t ⟨512 * s.val + k.val, by omega⟩

def xm (b : Fin 2) (i : Fin 256) : Fin 512 → EReal := modu (a.x b i) (md a 0 b) (md a 1 b)

/-- Column `n` of a projection. -/
def proj (w : Fin 512 → Fin 1024 → EReal) (b : Fin 2) (i : Fin 256) (n : Fin 1024) : EReal :=
  ∑ k, xm a b i k * w k n

/-- Column `d` of head `h`. -/
def hd (h : Fin 16) (d : Fin 64) : Fin 1024 := ⟨h.val * 64 + d.val, by omega⟩
def headOf (n : Fin 1024) : Fin 16 := ⟨n.val / 64, by omega⟩

def score (b : Fin 2) (h : Fin 16) (i j : Fin 256) : EReal :=
  (∑ d, proj a a.wq b i (hd h d) * proj a a.wk b j (hd h d)) * scale
def top (b : Fin 2) (h : Fin 16) (i : Fin 256) : EReal := Finset.univ.fold max low fun j => score a b h i j
def wt (b : Fin 2) (h : Fin 16) (i j : Fin 256) : EReal := Ideal.exp (score a b h i j - top a b h i)
def attn (b : Fin 2) (i : Fin 256) (n : Fin 1024) : EReal :=
  Ideal.div (∑ j, wt a b (headOf n) i j * proj a a.wv b j n) (∑ j, wt a b (headOf n) i j)

/-- One column's share of the attention's product with the output weights. -/
def outT (b : Fin 2) (i : Fin 256) (l : Fin 512) (n : Fin 1024) : EReal := attn a b i n * a.wo n l
/-- The first residual. -/
def x1 (b : Fin 2) (i : Fin 256) (l : Fin 512) : EReal := a.x b i l + md a 2 b l * ∑ n, outT a b i l n

def hid (b : Fin 2) (i : Fin 256) (n : Fin 2048) : EReal :=
  ∑ k, modu (x1 a b i) (md a 3 b) (md a 4 b) k * a.f1 k n
def gate (z : EReal) : EReal := Ideal.div z (1 + Ideal.exp (-z))
def ffT (b : Fin 2) (i : Fin 256) (l : Fin 512) (n : Fin 2048) : EReal := gate (hid a b i n) * a.f2 n l
/-- The block's result. -/
def res (b : Fin 2) (i : Fin 256) (l : Fin 512) : EReal := x1 a b i l + md a 5 b l * ∑ n, ffT a b i l n

/-! ## Constants -/

theorem width_eq : width = ((512 : ℝ) : EReal) := by
  simp [width, Ideal.ofBits, Ideal.ieee, -EReal.coe_mul]; norm_num

theorem low_eq : low = ⊥ := by simp [low, Ideal.ofBits, Ideal.ieee]

theorem eps_pos : 0 < eps := by
  have h : ∃ r : ℝ, 0 < r ∧ eps = (r : EReal) := by
    refine ⟨_, ?_, by simp [eps, Ideal.ofBits, Ideal.ieee]; rfl⟩
    positivity
  obtain ⟨r, hr, h⟩ := h
  rw [h]; exact_mod_cast hr

/-! ## The reciprocal root -/

theorem sqrt_top : Ideal.sqrt ⊤ = ⊤ := rfl
theorem rsqrt_top : Ideal.rsqrt ⊤ = 0 := rfl
theorem sqrt_coe (r : ℝ) : Ideal.sqrt (r : EReal) = if r < 0 then ⊥ else (Real.sqrt r : EReal) := rfl
theorem rsqrt_coe (r : ℝ) :
    Ideal.rsqrt (r : EReal) = if r < 0 then (⊥ : EReal) else if r = 0 then (⊤ : EReal) else (((Real.sqrt r)⁻¹ : ℝ) : EReal) := rfl

theorem mul_rsqrt {y : EReal} (hy : 0 < y) (x : EReal) : x * Ideal.rsqrt y = Ideal.div x (Ideal.sqrt y) := by
  induction y with
  | bot => simp at hy
  | top => simp [rsqrt_top, sqrt_top, Ideal.div]
  | coe r =>
    have hr : 0 < r := by exact_mod_cast hy
    have hs : 0 < Real.sqrt r := Real.sqrt_pos.2 hr
    have h0 : ((Real.sqrt r : ℝ) : EReal) ≠ 0 := by exact_mod_cast hs.ne'
    rw [rsqrt_coe, sqrt_coe, if_neg hr.not_gt, if_neg hr.ne', if_neg hr.not_gt, Ideal.div, if_neg h0, EReal.coe_inv]

theorem sq_nonneg' (x : EReal) : 0 ≤ x * x := by
  rcases le_total 0 x with h | h
  · exact mul_nonneg h h
  · rw [← neg_mul_neg]; exact mul_nonneg (EReal.neg_nonneg.2 h) (EReal.neg_nonneg.2 h)

theorem var_nonneg (r : Fin 512 → EReal) : 0 ≤ var r := by
  have h0 : width ≠ 0 := by rw [width_eq]; norm_num
  unfold var Ideal.div
  rw [if_neg h0, width_eq, ← EReal.coe_inv]
  exact mul_nonneg (Finset.sum_nonneg fun k _ => sq_nonneg' _) (by norm_num)

theorem norm_eq (r : Fin 512 → EReal) (k : Fin 512) :
    Ideal.div (r k - mean r) (Ideal.sqrt (var r + eps)) = norm r k :=
  (mul_rsqrt (lt_of_lt_of_le eps_pos (le_add_of_nonneg_left (var_nonneg r))) _).symm

/-! ## Sums cut over the devices -/

/-- Place `n` of part `d`, of four parts of `N`. -/
def cut {N : ℕ} (d : Fin 4) (n : Fin N) : Fin (4 * N) :=
  ⟨N * d.val + n.val, by
    have h1 := n.isLt
    have h2 : N * (d.val + 1) ≤ N * 4 := Nat.mul_le_mul_left _ (by omega)
    rw [Nat.mul_comm 4]; rw [Nat.mul_add] at h2; omega⟩

theorem sum_cut {N : ℕ} (f : Fin (4 * N) → EReal) : (∑ n, f n) = ∑ d : Fin 4, ∑ n : Fin N, f (cut d n) := by
  rw [← Equiv.sum_comp finProdFinEquiv f, Fintype.sum_prod_type]
  refine Finset.sum_congr rfl fun d _ => Finset.sum_congr rfl fun n _ => congrArg f (Fin.ext ?_)
  show n.val + N * d.val = N * d.val + n.val
  exact Nat.add_comm _ _

/-- The four parts in the order in which a device takes them: its own, then those of the devices one, two and three
    before it. -/
theorem sum_from {N : ℕ} (f : Fin (4 * N) → EReal) (c : Fin 4) (p : Fin 4 → EReal) (hp : ∀ d, p d = ∑ n : Fin N, f (cut d n)) :
    p c + p (c + 3) + p (c + 2) + p (c + 1) = ∑ n, f n := by
  rw [sum_cut, Fin.sum_univ_four, ← hp, ← hp, ← hp, ← hp]
  have key : ∀ w x y z : EReal, (w + z + y + x = w + x + y + z) ∧ (x + w + z + y = w + x + y + z) ∧
      (y + x + w + z = w + x + y + z) ∧ (z + y + x + w = w + x + y + z) := fun w x y z =>
    ⟨by ac_rfl, by ac_rfl, by ac_rfl, by ac_rfl⟩
  match c with
  | 0 => exact (key _ _ _ _).1
  | 1 => exact (key _ _ _ _).2.1
  | 2 => exact (key _ _ _ _).2.2.1
  | 3 => exact (key _ _ _ _).2.2.2

end Cert.Spec

end
-- ==== Proof.KVals1.lean ====
/- The kernel's values read at an index, where the devices' arrays are the cuts of whole ones: norms, modulations,
   projections and the heads of each device. -/
module

public import proofs.«01_k».proof.Proof.Vals
public import proofs.«01_k».proof.Proof.Spec
public import Idealize.ShloMosaic.Lib.Pointwise

@[expose] public section

set_option maxRecDepth 16384

noncomputable section

namespace Cert.KProof

open Cert.KernelIdeal Cert.KernelIdeal.Gen Cert.Spec
open Idealize.ShloMosaic Idealize.ShloMosaic.TcCoe
open scoped BigOperators

/-- Column `n` of device `c`'s quarter of 1024. -/
def colA (c : Dev nD) (n : Fin 256) : Fin 1024 := cut (N := 256) c n
/-- Column `n` of device `c`'s quarter of 2048. -/
def colF (c : Dev nD) (n : Fin 512) : Fin 2048 := cut (N := 512) c n
/-- Head `j` of device `c`, of all the heads. -/
def hN (c : Dev nD) (j : Fin 4) : Fin 16 := ⟨4 * c.val + j.val, by have : c.val < 4 := c.isLt; omega⟩

theorem colA_eq (c : Dev nD) (j : Fin 4) (d : Fin 64) (n : ℕ) (h : n < 256) (e : n = 64 * j.val + d.val) :
    colA c ⟨n, h⟩ = hd (hN c j) d := by
  apply Fin.ext
  show 256 * c.val + n = (4 * c.val + j.val) * 64 + d.val
  omega

/-! ## One head -/

section Head

variable (q k v : Fin 256 → Fin 64 → EReal)

def scoreL (i j : Fin 256) : EReal := (∑ d, q i d * k j d) * scale
def topL (i : Fin 256) : EReal := Finset.univ.fold max low fun j => scoreL q k i j
def wtL (i j : Fin 256) : EReal := Ideal.exp (scoreL q k i j - topL q k i)
def headL (i : Fin 256) (d : Fin 64) : EReal := Ideal.div (∑ j, wtL q k i j * v j d) (∑ j, wtL q k i j)

end Head

theorem headOf_hd (h : Fin 16) (d : Fin 64) : headOf (hd h d) = h := by
  apply Fin.ext
  show (h.val * 64 + d.val) / 64 = h.val
  omega

theorem attn_hd (a : Arrs) (b : Fin 2) (i : Fin 256) (h : Fin 16) (d : Fin 64) :
    attn a b i (hd h d) = headL (fun i d => proj a a.wq b i (hd h d)) (fun i d => proj a a.wk b i (hd h d))
      (fun i d => proj a a.wv b i (hd h d)) i d := by
  unfold attn
  rw [headOf_hd]
  rfl

/-! ## What the devices hold -/

variable (m : (ℓ : Loc nD τ sig) → Buf (Elt Ideal) ℓ) (c : Dev nD)

/-- Every device holds its cut of the arrays `a`. -/
structure Agree (a : Arrs) : Prop where
  x : ∀ (c : Dev nD) (b : Fin 2) (i : Fin 256) (k : Fin 512), @Eq EReal (A0 m c (ix3 b i k)) (a.x b i k)
  wq : ∀ (c : Dev nD) (k : Fin 512) (n : Fin 256), @Eq EReal (A1 m c (ix2 k n)) (a.wq k (colA c n))
  wk : ∀ (c : Dev nD) (k : Fin 512) (n : Fin 256), @Eq EReal (A2 m c (ix2 k n)) (a.wk k (colA c n))
  wv : ∀ (c : Dev nD) (k : Fin 512) (n : Fin 256), @Eq EReal (A3 m c (ix2 k n)) (a.wv k (colA c n))
  wo : ∀ (c : Dev nD) (n : Fin 256) (l : Fin 512), @Eq EReal (A4 m c (ix2 n l)) (a.wo (colA c n) l)
  te : ∀ (c : Dev nD) (b : Fin 2) (t : Fin 128), @Eq EReal (A5 m c (ix2 b t)) (a.te b t)
  wm : ∀ (c : Dev nD) (t : Fin 128) (n : Fin 3072), @Eq EReal (A6 m c (ix2 t n)) (a.wm t n)
  f1 : ∀ (c : Dev nD) (k : Fin 512) (n : Fin 512), @Eq EReal (A7 m c (ix2 k n)) (a.f1 k (colF c n))
  f2 : ∀ (c : Dev nD) (n : Fin 512) (l : Fin 512), @Eq EReal (A8 m c (ix2 n l)) (a.f2 (colF c n) l)

theorem ix3_of {p q r : ℕ} (j : (⟨3, ![p, q, r]⟩ : Shape).Idx) (i0 : Fin p) (i1 : Fin q) (i2 : Fin r)
    (h0 : (j 0).val = i0.val) (h1 : (j 1).val = i1.val) (h2 : (j 2).val = i2.val) : j = ix3 i0 i1 i2 := by
  rw [eq_ix3 j, show j 0 = i0 from Fin.ext h0, show j 1 = i1 from Fin.ext h1, show j 2 = i2 from Fin.ext h2]

theorem ix2_of {p q : ℕ} (j : (⟨2, ![p, q]⟩ : Shape).Idx) (i0 : Fin p) (i1 : Fin q)
    (h0 : (j 0).val = i0.val) (h1 : (j 1).val = i1.val) : j = ix2 i0 i1 := by
  rw [eq_ix2 j, show j 0 = i0 from Fin.ext h0, show j 1 = i1 from Fin.ext h1]

variable {a : Arrs} (ha : Agree m a)

section Reads

theorem V36_at (i : Fin 256) (k : Fin 512) : V36 m c (ix3 0 i k) = A0 m c (ix3 0 i k) :=
  congrArg (A0 m c) (ix3_of _ _ _ _ (by rfl) (by show 0 + 1 * i.val = i.val; omega) (by show 0 + 1 * k.val = k.val; omega))
theorem V38_at (i : Fin 256) (k : Fin 512) : V38 m c (ix3 0 i k) = A0 m c (ix3 1 i k) :=
  congrArg (A0 m c) (ix3_of _ _ _ _ (by rfl) (by show 0 + 1 * i.val = i.val; omega) (by show 0 + 1 * k.val = k.val; omega))
theorem V84_at (t : Fin 128) : V84 m c (ix2 0 t) = A5 m c (ix2 0 t) :=
  congrArg (A5 m c) (ix2_of _ _ _ (by rfl) (by show 0 + 1 * t.val = t.val; omega))
theorem V93_at (t : Fin 128) : V93 m c (ix2 0 t) = A5 m c (ix2 1 t) :=
  congrArg (A5 m c) (ix2_of _ _ _ (by rfl) (by show 0 + 1 * t.val = t.val; omega))
theorem V85_at (i : Fin 128) (k : Fin 3072) : V85 m c (ix2 i k) = A6 m c (ix2 i k) :=
  congrArg (A6 m c) (ix2_of _ _ _ (by show 0 + 1 * i.val = i.val; omega) (by show 0 + 1 * k.val = k.val; omega))
theorem V108_at (i : Fin 512) (k : Fin 256) : V108 m c (ix2 i k) = A1 m c (ix2 i k) :=
  congrArg (A1 m c) (ix2_of _ _ _ (by show 0 + 1 * i.val = i.val; omega) (by show 0 + 1 * k.val = k.val; omega))
theorem V110_at (i : Fin 512) (k : Fin 256) : V110 m c (ix2 i k) = A2 m c (ix2 i k) :=
  congrArg (A2 m c) (ix2_of _ _ _ (by show 0 + 1 * i.val = i.val; omega) (by show 0 + 1 * k.val = k.val; omega))
theorem V112_at (i : Fin 512) (k : Fin 256) : V112 m c (ix2 i k) = A3 m c (ix2 i k) :=
  congrArg (A3 m c) (ix2_of _ _ _ (by show 0 + 1 * i.val = i.val; omega) (by show 0 + 1 * k.val = k.val; omega))
theorem V199_at (i : Fin 256) (k : Fin 512) : V199 m c (ix2 i k) = A4 m c (ix2 i k) :=
  congrArg (A4 m c) (ix2_of _ _ _ (by show 0 + 1 * i.val = i.val; omega) (by show 0 + 1 * k.val = k.val; omega))
theorem V444_at (i : Fin 512) (k : Fin 512) : V444 m c (ix2 i k) = A7 m c (ix2 i k) :=
  congrArg (A7 m c) (ix2_of _ _ _ (by show 0 + 1 * i.val = i.val; omega) (by show 0 + 1 * k.val = k.val; omega))
theorem V446_at (i : Fin 512) (k : Fin 512) : V446 m c (ix2 i k) = A8 m c (ix2 i k) :=
  congrArg (A8 m c) (ix2_of _ _ _ (by show 0 + 1 * i.val = i.val; omega) (by show 0 + 1 * k.val = k.val; omega))

end Reads

/-! ## Norms and modulations -/

include ha

theorem V37_at (i : Fin 256) (k : Fin 512) : @Eq EReal (V37 m c (ix2 i k)) (a.x 0 i k) := by
  unfold V37
  pointwise [k0_pay1]
  rw [V36_at, ha.x]

theorem V39_at (i : Fin 256) (k : Fin 512) : @Eq EReal (V39 m c (ix2 i k)) (a.x 1 i k) := by
  unfold V39
  pointwise [k0_pay2]
  rw [V38_at, ha.x]

theorem V59_at (i : Fin 256) (k : Fin 512) : @Eq EReal (V59 m c (ix2 i k)) (norm (a.x 0 i) k) := by
  unfold V59
  pointwise [k0_pay3, k0_pay1]
  simp only [V36_at, ha.x]
  rfl

theorem V79_at (i : Fin 256) (k : Fin 512) : @Eq EReal (V79 m c (ix2 i k)) (norm (a.x 1 i) k) := by
  unfold V79 V61
  pointwise [k0_pay6, k0_pay5, k0_pay4, k0_pay2]
  simp only [V38_at, V39_at m c ha, ha.x]
  rfl

theorem md0_at (s : Fin 6) (k : Fin 512) (n : ℕ) (h : n < 3072) (e : n = 512 * s.val + k.val) :
    @Eq EReal (k0_pay7 (V84 m c) (V85 m c) (ix2 0 ⟨n, h⟩)) (md a s 0 k) := by
  subst e
  pointwise [k0_pay7]
  simp only [V84_at, V85_at, ha.te, ha.wm]
  rfl

theorem md1_at (s : Fin 6) (k : Fin 512) (n : ℕ) (h : n < 3072) (e : n = 512 * s.val + k.val) :
    @Eq EReal (k0_pay14 (V93 m c) (V85 m c) (ix2 0 ⟨n, h⟩)) (md a s 1 k) := by
  subst e
  pointwise [k0_pay14]
  simp only [V93_at, V85_at, ha.te, ha.wm]
  rfl

theorem V87_at (k : Fin 512) : @Eq EReal (V87 m c (ix2 0 k)) (md a 0 0 k) := by
  unfold V87; pointwise [k0_pay8]; exact md0_at m c ha 0 k _ _ (by simp)
theorem V88_at (k : Fin 512) : @Eq EReal (V88 m c (ix2 0 k)) (md a 1 0 k) := by
  unfold V88; pointwise [k0_pay9]; exact md0_at m c ha 1 k _ _ (by simp)
theorem V89_at (k : Fin 512) : @Eq EReal (V89 m c (ix2 0 k)) (md a 2 0 k) := by
  unfold V89; pointwise [k0_pay10]; exact md0_at m c ha 2 k _ _ (by simp)
theorem V90_at (k : Fin 512) : @Eq EReal (V90 m c (ix2 0 k)) (md a 3 0 k) := by
  unfold V90; pointwise [k0_pay11]; exact md0_at m c ha 3 k _ _ (by simp)
theorem V91_at (k : Fin 512) : @Eq EReal (V91 m c (ix2 0 k)) (md a 4 0 k) := by
  unfold V91; pointwise [k0_pay12]; exact md0_at m c ha 4 k _ _ (by simp)
theorem V92_at (k : Fin 512) : @Eq EReal (V92 m c (ix2 0 k)) (md a 5 0 k) := by
  unfold V92; pointwise [k0_pay13]; exact md0_at m c ha 5 k _ _ (by simp)
theorem V96_at (k : Fin 512) : @Eq EReal (V96 m c (ix2 0 k)) (md a 0 1 k) := by
  unfold V96; pointwise [k0_pay15]; exact md1_at m c ha 0 k _ _ (by simp)
theorem V97_at (k : Fin 512) : @Eq EReal (V97 m c (ix2 0 k)) (md a 1 1 k) := by
  unfold V97; pointwise [k0_pay16]; exact md1_at m c ha 1 k _ _ (by simp)
theorem V98_at (k : Fin 512) : @Eq EReal (V98 m c (ix2 0 k)) (md a 2 1 k) := by
  unfold V98; pointwise [k0_pay17]; exact md1_at m c ha 2 k _ _ (by simp)
theorem V99_at (k : Fin 512) : @Eq EReal (V99 m c (ix2 0 k)) (md a 3 1 k) := by
  unfold V99; pointwise [k0_pay18]; exact md1_at m c ha 3 k _ _ (by simp)
theorem V100_at (k : Fin 512) : @Eq EReal (V100 m c (ix2 0 k)) (md a 4 1 k) := by
  unfold V100; pointwise [k0_pay19]; exact md1_at m c ha 4 k _ _ (by simp)
theorem V101_at (k : Fin 512) : @Eq EReal (V101 m c (ix2 0 k)) (md a 5 1 k) := by
  unfold V101; pointwise [k0_pay20]; exact md1_at m c ha 5 k _ _ (by simp)

/-! ## Projections -/

theorem xm0_at (i : Fin 256) (k : Fin 512) :
    @Eq EReal (k0_pay24 (V59 m c) (V87 m c) (V88 m c) (ix2 i k)) (xm a 0 i k) := by
  pointwise [k0_pay24]
  rw [V59_at m c ha, V87_at m c ha, V88_at m c ha]
  rfl

theorem xm1_at (i : Fin 256) (k : Fin 512) :
    @Eq EReal (k0_pay39 (V79 m c) (V96 m c) (V97 m c) (ix2 i k)) (xm a 1 i k) := by
  pointwise [k0_pay39]
  rw [V79_at m c ha, V96_at m c ha, V97_at m c ha]
  rfl

theorem V122_at (i n : Fin 256) : @Eq EReal (V122 m c (ix2 i n)) (proj a a.wq 0 i (colA c n)) := by
  unfold V122
  pointwise [k0_pay25, k0_pay21]
  simp only [xm0_at m c ha, V108_at, ha.wq]
  rfl
theorem V124_at (i n : Fin 256) : @Eq EReal (V124 m c (ix2 i n)) (proj a a.wk 0 i (colA c n)) := by
  unfold V124
  pointwise [k0_pay26, k0_pay22]
  simp only [xm0_at m c ha, V110_at, ha.wk]
  rfl
theorem V126_at (i n : Fin 256) : @Eq EReal (V126 m c (ix2 i n)) (proj a a.wv 0 i (colA c n)) := by
  unfold V126
  pointwise [k0_pay27, k0_pay23]
  simp only [xm0_at m c ha, V112_at, ha.wv]
  rfl
theorem V236_at (i n : Fin 256) : @Eq EReal (V236 m c (ix2 i n)) (proj a a.wq 1 i (colA c n)) := by
  unfold V236 V109
  pointwise [k0_pay40, k0_pay21]
  simp only [xm1_at m c ha, V108_at, ha.wq]
  rfl
theorem V238_at (i n : Fin 256) : @Eq EReal (V238 m c (ix2 i n)) (proj a a.wk 1 i (colA c n)) := by
  unfold V238 V111
  pointwise [k0_pay41, k0_pay22]
  simp only [xm1_at m c ha, V110_at, ha.wk]
  rfl
theorem V240_at (i n : Fin 256) : @Eq EReal (V240 m c (ix2 i n)) (proj a a.wv 1 i (colA c n)) := by
  unfold V240 V113
  pointwise [k0_pay42, k0_pay23]
  simp only [xm1_at m c ha, V112_at, ha.wv]
  rfl

end Cert.KProof

end
-- ==== Proof.KVals2.lean ====
/- The heads of each device and the attention partial products, read at an index. -/
module

public import proofs.«01_k».proof.Proof.KVals1

@[expose] public section

set_option maxRecDepth 16384

noncomputable section

namespace Cert.KProof

open Cert.KernelIdeal Cert.KernelIdeal.Gen Cert.Spec
open Idealize.ShloMosaic Idealize.ShloMosaic.TcCoe
open scoped BigOperators

/-- Sixty-four columns of a block, from column `o`. -/
def cols (q : FVec Ideal S256x256 .bf16) (o : ℕ) (ho : o + 64 ≤ 256) (i : Fin 256) (d : Fin 64) : EReal :=
  q (ix2 i ⟨o + d.val, by omega⟩)

section Payloads

variable (q k v : FVec Ideal S256x256 .bf16)

theorem pay30_at (t : FVec Ideal S256x64 .bf16) (i : Fin 256) (d : Fin 64) :
    @Eq EReal (k0_pay30 k v t (ix2 i d))
      (headL (fun i d => t (ix2 i d)) (cols k 64 (by omega)) (cols v 64 (by omega)) i d) := by
  pointwise [k0_pay30]; rfl

theorem pay31_at (i : Fin 256) (d : Fin 64) :
    @Eq EReal (k0_pay31 q k v (ix2 i d))
      (headL (cols q 128 (by omega)) (cols k 128 (by omega)) (cols v 128 (by omega)) i d) := by
  pointwise [k0_pay31]; rfl

theorem pay33_at (i : Fin 256) :
    @Eq EReal (k0_pay33 q k (ix2 i 0)) (∑ j, wtL (cols q 192 (by omega)) (cols k 192 (by omega)) i j) := by
  pointwise [k0_pay33, k0_pay32]; rfl

theorem pay34_at (i j : Fin 256) :
    @Eq EReal (k0_pay34 q k (ix2 i j)) (wtL (cols q 192 (by omega)) (cols k 192 (by omega)) i j) := by
  pointwise [k0_pay34, k0_pay32]; rfl

/-- Four heads side by side, times the output weights. -/
def partL (h0 h1 h2 h3 : Fin 64 → EReal) (w : Fin 256 → EReal) : EReal :=
  ∑ x : Fin 256, (if h : x.val < 64 then h0 ⟨x.val, h⟩ else if h : x.val - 64 < 64 then h1 ⟨x.val - 64, h⟩
    else if h : x.val - 64 - 64 < 64 then h2 ⟨x.val - 64 - 64, h⟩
    else h3 ⟨x.val - 64 - 64 - 64, by omega⟩) * w x

theorem pay36_at (v143 v160 v177 : FVec Ideal S256x64 .f32) (v189 : FVec Ideal S256x1 .f32)
    (v190 : FVec Ideal S256x256 .bf16) (w : Vec Ideal S256x512 .f32) (i : Fin 256) (l : Fin 512) :
    @Eq EReal (k0_pay36 v v143 v160 v177 v189 v190 w (ix2 i l))
      (partL (fun d => v143 (ix2 i d)) (fun d => v160 (ix2 i d)) (fun d => v177 (ix2 i d))
        (fun d => Ideal.div (∑ j, @HMul.hMul EReal EReal EReal _ (v190 (ix2 i j)) (cols v 192 (by omega) j d)) (v189 (ix2 i 0)))
        (fun x => w (ix2 x l))) := by
  pointwise [k0_pay36, k0_pay35]; rfl

theorem pay45_at (w : FVec Ideal S256x512 .bf16) (v257 : FVec Ideal S256x64 .f32) (v266 : FVec Ideal S256x256 .f32)
    (i : Fin 256) (l : Fin 512) :
    @Eq EReal (k0_pay45 w q k v v257 v266 (ix2 i l))
      (partL (fun d => v257 (ix2 i d))
        (fun d => Ideal.div (∑ j, Ideal.exp (v266 (ix2 i j)) * cols v 64 (by omega) j d)
          (∑ j : Fin 256, Ideal.exp (v266 (ix2 i j))))
        (headL (cols q 128 (by omega)) (cols k 128 (by omega)) (cols v 128 (by omega)) i)
        (headL (cols q 192 (by omega)) (cols k 192 (by omega)) (cols v 192 (by omega)) i)
        (fun x => w (ix2 x l))) := by
  pointwise [k0_pay45]; rfl

end Payloads

variable (m : (ℓ : Loc nD τ sig) → Buf (Elt Ideal) ℓ) (c : Dev nD)

theorem V143_head (i : Fin 256) (d : Fin 64) : @Eq EReal (V143 m c (ix2 i d))
    (headL (cols (V122 m c) 0 (by omega)) (cols (V124 m c) 0 (by omega)) (cols (V126 m c) 0 (by omega)) i d) := by
  unfold V143 V122 V124 V126
  pointwise [k0_pay28]
  simp only [headL, wtL, topL, scoreL, cols, Nat.zero_add]

theorem V257_head (i : Fin 256) (d : Fin 64) : @Eq EReal (V257 m c (ix2 i d))
    (headL (cols (V236 m c) 0 (by omega)) (cols (V238 m c) 0 (by omega)) (cols (V240 m c) 0 (by omega)) i d) := by
  unfold V257 V236 V238 V240
  pointwise [k0_pay43]
  simp only [headL, wtL, topL, scoreL, cols, Nat.zero_add]

theorem V144_cols (i : Fin 256) (d : Fin 64) : @Eq EReal (V144 m c (ix2 i d)) (cols (V122 m c) 64 (by omega) i d) := by
  unfold V144 V122
  pointwise [k0_pay29]
  rfl

theorem V266_wt (i j : Fin 256) : @Eq EReal (Ideal.exp (V266 m c (ix2 i j)))
    (wtL (cols (V236 m c) 64 (by omega)) (cols (V238 m c) 64 (by omega)) i j) := by
  unfold V266 V236 V238
  pointwise [k0_pay44]
  rfl

variable {a : Arrs} (ha : Agree m a)
include ha

theorem q0_cols (j : Fin 4) (o : ℕ) (ho : o + 64 ≤ 256) (e : o = 64 * j.val) :
    cols (V122 m c) o ho = fun i d => proj a a.wq 0 i (hd (hN c j) d) := by
  funext i d
  rw [← colA_eq c j d (o + d.val) (by omega) (by omega)]
  exact V122_at m c ha i _
theorem k0_cols (j : Fin 4) (o : ℕ) (ho : o + 64 ≤ 256) (e : o = 64 * j.val) :
    cols (V124 m c) o ho = fun i d => proj a a.wk 0 i (hd (hN c j) d) := by
  funext i d
  rw [← colA_eq c j d (o + d.val) (by omega) (by omega)]
  exact V124_at m c ha i _
theorem v0_cols (j : Fin 4) (o : ℕ) (ho : o + 64 ≤ 256) (e : o = 64 * j.val) :
    cols (V126 m c) o ho = fun i d => proj a a.wv 0 i (hd (hN c j) d) := by
  funext i d
  rw [← colA_eq c j d (o + d.val) (by omega) (by omega)]
  exact V126_at m c ha i _
theorem q1_cols (j : Fin 4) (o : ℕ) (ho : o + 64 ≤ 256) (e : o = 64 * j.val) :
    cols (V236 m c) o ho = fun i d => proj a a.wq 1 i (hd (hN c j) d) := by
  funext i d
  rw [← colA_eq c j d (o + d.val) (by omega) (by omega)]
  exact V236_at m c ha i _
theorem k1_cols (j : Fin 4) (o : ℕ) (ho : o + 64 ≤ 256) (e : o = 64 * j.val) :
    cols (V238 m c) o ho = fun i d => proj a a.wk 1 i (hd (hN c j) d) := by
  funext i d
  rw [← colA_eq c j d (o + d.val) (by omega) (by omega)]
  exact V238_at m c ha i _
theorem v1_cols (j : Fin 4) (o : ℕ) (ho : o + 64 ≤ 256) (e : o = 64 * j.val) :
    cols (V240 m c) o ho = fun i d => proj a a.wv 1 i (hd (hN c j) d) := by
  funext i d
  rw [← colA_eq c j d (o + d.val) (by omega) (by omega)]
  exact V240_at m c ha i _

theorem head0 (j : Fin 4) (o : ℕ) (ho : o + 64 ≤ 256) (e : o = 64 * j.val) (i : Fin 256) (d : Fin 64) :
    headL (cols (V122 m c) o ho) (cols (V124 m c) o ho) (cols (V126 m c) o ho) i d = attn a 0 i (hd (hN c j) d) := by
  rw [q0_cols m c ha j o ho e, k0_cols m c ha j o ho e, v0_cols m c ha j o ho e, attn_hd]

theorem head1 (j : Fin 4) (o : ℕ) (ho : o + 64 ≤ 256) (e : o = 64 * j.val) (i : Fin 256) (d : Fin 64) :
    headL (cols (V236 m c) o ho) (cols (V238 m c) o ho) (cols (V240 m c) o ho) i d = attn a 1 i (hd (hN c j) d) := by
  rw [q1_cols m c ha j o ho e, k1_cols m c ha j o ho e, v1_cols m c ha j o ho e, attn_hd]

omit ha in
theorem partL_eq (b : Fin 2) (i : Fin 256) (l : Fin 512) (h0 h1 h2 h3 : Fin 64 → EReal) (w : Fin 256 → EReal)
    (e0 : ∀ d, h0 d = attn a b i (hd (hN c 0) d)) (e1 : ∀ d, h1 d = attn a b i (hd (hN c 1) d))
    (e2 : ∀ d, h2 d = attn a b i (hd (hN c 2) d)) (e3 : ∀ d, h3 d = attn a b i (hd (hN c 3) d))
    (ew : ∀ x, w x = a.wo (colA c x) l) :
    partL h0 h1 h2 h3 w = ∑ n : Fin 256, outT a b i l (colA c n) := by
  unfold partL outT
  refine Finset.sum_congr rfl fun x _ => ?_
  rw [ew]
  congr 1
  have hx := x.isLt
  split_ifs with g0 g1 g2
  · rw [e0, ← colA_eq c 0 _ x.val hx (by simp)]
  · rw [e1, ← colA_eq c 1 _ x.val hx (by simp; omega)]
  · rw [e2, ← colA_eq c 2 _ x.val hx (by simp; omega)]
  · rw [e3, ← colA_eq c 3 _ x.val hx (by simp; omega)]

theorem V201_at (i : Fin 256) (l : Fin 512) :
    @Eq EReal (V201 m c (ix2 i l)) (∑ n : Fin 256, outT a 0 i l (colA c n)) := by
  unfold V201
  rw [pay36_at]
  refine partL_eq c 0 i l _ _ _ _ _ ?_ ?_ ?_ ?_ ?_
  · intro d
    exact (V143_head m c i d).trans (head0 m c ha 0 0 _ rfl i d)
  · intro d
    unfold V160
    refine (pay30_at _ _ _ i d).trans ?_
    rw [show (fun i d => V144 m c (ix2 i d)) = cols (V122 m c) 64 (by omega) from
      funext fun i => funext fun d => V144_cols m c i d]
    exact head0 m c ha 1 64 _ rfl i d
  · intro d
    unfold V177
    exact (pay31_at _ _ _ i d).trans (head0 m c ha 2 128 _ rfl i d)
  · intro d
    refine Eq.trans ?_ (head0 m c ha 3 192 (by omega) rfl i d)
    unfold V189 V190
    rw [pay33_at]
    simp only [pay34_at]
    rfl
  · intro x
    exact (V199_at m c x l).trans (ha.wo c x l)

theorem V311_at (i : Fin 256) (l : Fin 512) :
    @Eq EReal (V311 m c (ix2 i l)) (∑ n : Fin 256, outT a 1 i l (colA c n)) := by
  unfold V311
  rw [pay45_at]
  refine partL_eq c 1 i l _ _ _ _ _ ?_ ?_ ?_ ?_ ?_
  · intro d
    exact (V257_head m c i d).trans (head1 m c ha 0 0 _ rfl i d)
  · intro d
    refine Eq.trans ?_ (head1 m c ha 1 64 (by omega) rfl i d)
    simp only [V266_wt]
    rfl
  · intro d
    exact head1 m c ha 2 128 _ rfl i d
  · intro d
    exact head1 m c ha 3 192 _ rfl i d
  · intro x
    exact (V199_at m c x l).trans (ha.wo c x l)

end Cert.KProof

end
-- ==== Proof.KVals3.lean ====
/- The first residual, the feed-forward partial products and the rows of the result, read at an index. -/
module

public import proofs.«01_k».proof.Proof.KVals2

@[expose] public section

set_option maxRecDepth 16384

noncomputable section

namespace Cert.KProof

open Cert.KernelIdeal Cert.KernelIdeal.Gen Cert.Spec
open Idealize.ShloMosaic Idealize.ShloMosaic.TcCoe
open scoped BigOperators

variable (m : (ℓ : Loc nD τ sig) → Buf (Elt Ideal) ℓ) (c : Dev nD)

/-! ## Which rows a device holds -/

/-- The batch of row block `q`. -/
def bt (q : Fin 4) : Fin 2 := ⟨q.val / 2, by omega⟩
/-- Row `i` of row block `q`, within its batch. -/
def row (q : Fin 4) (i : Fin 128) : Fin 256 := ⟨q.val % 2 * 128 + i.val, by omega⟩

theorem sge_pl : Scalar.cmpi .sge (pl c) 2#32 = if 2 ≤ c.val then 1#1 else 0#1 := by
  revert c; decide +kernel

theorem par_pl : Scalar.cmpi .eq (Scalar.remsi (pl c) 2#32) 0#32 = if c.val % 2 = 0 then 1#1 else 0#1 := by
  revert c; decide +kernel

theorem sel_pl {α : Type} (x y : α) : Scalar.select (Scalar.cmpi .sge (pl c) 2#32) x y = if 2 ≤ c.val then x else y := by
  rw [sge_pl]; split <;> rfl

theorem sel_par {α : Type} (x y : α) :
    Scalar.select (Scalar.cmpi .eq (Scalar.remsi (pl c) 2#32) 0#32) x y = if c.val % 2 = 0 then x else y := by
  rw [par_pl]; split <;> rfl

theorem pl_sub1 : Scalar.remsi (Scalar.addi (Scalar.subi (pl c) 1#32) 4#32) 4#32 = pl (sh c 3) := by
  revert c; decide +kernel
theorem pl_sub2 : Scalar.remsi (Scalar.addi (Scalar.subi (pl c) 2#32) 4#32) 4#32 = pl (sh c 2) := by
  revert c; decide +kernel
theorem pl_sub3 : Scalar.remsi (Scalar.addi (Scalar.subi (pl c) 3#32) 4#32) 4#32 = pl (sh c 1) := by
  revert c; decide +kernel

theorem bt_hi (q : Dev nD) (h : 2 ≤ q.val) : bt q = 1 := by
  have : q.val < 4 := q.isLt
  apply Fin.ext; show q.val / 2 = 1; omega
theorem bt_lo (q : Dev nD) (h : ¬ 2 ≤ q.val) : bt q = 0 := by
  apply Fin.ext; show q.val / 2 = 0; omega
theorem row_ev (q : Dev nD) (h : q.val % 2 = 0) (i : Fin 128) (n : ℕ) (hn : n < 256) (e : n = i.val) :
    (⟨n, hn⟩ : Fin 256) = row q i := by
  apply Fin.ext; show n = q.val % 2 * 128 + i.val; omega
theorem row_od (q : Dev nD) (h : ¬ q.val % 2 = 0) (i : Fin 128) (n : ℕ) (hn : n < 256) (e : n = 128 + i.val) :
    (⟨n, hn⟩ : Fin 256) = row q i := by
  apply Fin.ext; show n = q.val % 2 * 128 + i.val; omega

variable {a : Arrs} (ha : Agree m a)
include ha

theorem sel2_at (t : Dev nD) (k : Fin 512) : @Eq EReal
    (Scalar.select (Scalar.cmpi .sge (pl t) 2#32) (V98 m c (ix2 0 k)) (V89 m c (ix2 0 k))) (md a 2 (bt t) k) := by
  rw [sel_pl]
  split
  · rename_i h; rw [bt_hi t h]; exact V98_at m c ha k
  · rename_i h; rw [bt_lo t h]; exact V89_at m c ha k
theorem sel3_at (t : Dev nD) (k : Fin 512) : @Eq EReal
    (Scalar.select (Scalar.cmpi .sge (pl t) 2#32) (V99 m c (ix2 0 k)) (V90 m c (ix2 0 k))) (md a 3 (bt t) k) := by
  rw [sel_pl]
  split
  · rename_i h; rw [bt_hi t h]; exact V99_at m c ha k
  · rename_i h; rw [bt_lo t h]; exact V90_at m c ha k
theorem sel4_at (t : Dev nD) (k : Fin 512) : @Eq EReal
    (Scalar.select (Scalar.cmpi .sge (pl t) 2#32) (V100 m c (ix2 0 k)) (V91 m c (ix2 0 k))) (md a 4 (bt t) k) := by
  rw [sel_pl]
  split
  · rename_i h; rw [bt_hi t h]; exact V100_at m c ha k
  · rename_i h; rw [bt_lo t h]; exact V91_at m c ha k
theorem sel5_at (t : Dev nD) (k : Fin 512) : @Eq EReal
    (Scalar.select (Scalar.cmpi .sge (pl t) 2#32) (V101 m c (ix2 0 k)) (V92 m c (ix2 0 k))) (md a 5 (bt t) k) := by
  rw [sel_pl]
  split
  · rename_i h; rw [bt_hi t h]; exact V101_at m c ha k
  · rename_i h; rw [bt_lo t h]; exact V92_at m c ha k

/-! ## The attention partial products and the first residual -/

/-- What device `c` adds to the attention output at row `i` of block `q`. -/
def partA (a : Arrs) (q : Fin 4) (i : Fin 128) (l : Fin 512) (c : Dev nD) : EReal :=
  ∑ n : Fin 256, outT a (bt q) (row q i) l (colA c n)

theorem P1_at (q : Fin 4) (i : Fin 128) (l : Fin 512) : @Eq EReal (P1 m c q (ix3 0 i l)) (partA a q i l c) := by
  match q with
  | 0 =>
    unfold P1
    pointwise [k0_pay37]
    refine (V201_at m c ha _ l).trans ?_
    rw [row_ev 0 rfl i _ _ (by simp)]; rfl
  | 1 =>
    unfold P1
    pointwise [k0_pay38]
    refine (V201_at m c ha _ l).trans ?_
    rw [row_od 1 (by decide) i _ _ (by simp)]; rfl
  | 2 =>
    unfold P1 V313
    pointwise [k0_pay47, k0_pay46]
    refine (V311_at m c ha _ l).trans ?_
    rw [row_ev 2 rfl i _ _ (by simp)]; rfl
  | 3 =>
    unfold P1
    pointwise [k0_pay48]
    refine (V311_at m c ha _ l).trans ?_
    rw [row_od 3 (by decide) i _ _ (by simp)]; rfl

omit ha in
theorem sum_A (i : Fin 128) (l : Fin 512) :
    partA a c i l c + partA a c i l (sh c 3) + partA a c i l (sh c 2) + partA a c i l (sh c 1)
      = ∑ n : Fin 1024, outT a (bt c) (row c i) l n :=
  sum_from (N := 256) (fun n => outT a (bt c) (row c i) l n) c (partA a c i l) fun _ => rfl

theorem V398_at (i : Fin 128) (l : Fin 512) : @Eq EReal (V398 m c (ix2 i l)) (x1 a (bt c) (row c i) l) := by
  have hs := sum_A (a := a) c i l
  have r0 : @Eq EReal (R1 m c 0 (ix3 0 i l)) (partA a c i l (sh c 3)) := P1_at m (sh c 3) ha c i l
  have r1 : @Eq EReal (R1 m c 1 (ix3 0 i l)) (partA a c i l (sh c 2)) := P1_at m (sh c 2) ha c i l
  have r2 : @Eq EReal (R1 m c 2 (ix3 0 i l)) (partA a c i l (sh c 1)) := P1_at m (sh c 1) ha c i l
  have hsel := sel2_at m c ha c l
  rw [sel_pl] at hsel
  unfold V398 k0_pay49 x1
  simp only [sel_pl, sel_par]
  by_cases h : 2 ≤ c.val <;> by_cases g : c.val % 2 = 0 <;> simp only [h, g, ↓reduceIte] at hsel ⊢ <;>
    pointwise <;> rw [r0, r1, r2, hsel, ← hs]
  · rw [row_ev c g i _ _ rfl, V39_at m c ha, V311_at m c ha]
    simp only [partA, bt_hi c h]
  · rw [row_od c g i _ _ rfl, V39_at m c ha, V311_at m c ha]
    simp only [partA, bt_hi c h]
  · rw [row_ev c g i _ _ rfl, V37_at m c ha, V201_at m c ha]
    simp only [partA, bt_lo c h]
  · rw [row_od c g i _ _ rfl, V37_at m c ha, V201_at m c ha]
    simp only [partA, bt_lo c h]

theorem X1_at (i : Fin 128) (l : Fin 512) : @Eq EReal (X1 m c (ix3 0 i l)) (x1 a (bt c) (row c i) l) := by
  refine Eq.trans ?_ (V398_at m c ha i l)
  unfold X1 V398
  pointwise [k0_pay50]

/-! ## The feed-forward partial products -/

/-- What device `c` adds to the feed-forward output at row `i` of block `q`. -/
def partF (a : Arrs) (q : Fin 4) (i : Fin 128) (l : Fin 512) (c : Dev nD) : EReal :=
  ∑ n : Fin 512, ffT a (bt q) (row q i) l (colF c n)

theorem V445_at (k n : Fin 512) : @Eq EReal (V445 m c (ix2 k n)) (a.f1 k (colF c n)) := by
  unfold V445
  pointwise [k0_pay51]
  rw [V444_at, ha.f1]
theorem V447_at (n l : Fin 512) : @Eq EReal (V447 m c (ix2 n l)) (a.f2 (colF c n) l) := by
  unfold V447
  pointwise [k0_pay52]
  rw [V446_at, ha.f2]

theorem V487_at (i : Fin 128) (l : Fin 512) : @Eq EReal (V487 m c (ix2 i l)) (partF a c i l c) := by
  unfold V487 V479
  pointwise [k0_pay54, k0_pay53, k0_pay51]
  simp only [sel3_at m c ha, sel4_at m c ha, V398_at m c ha, V447_at m c ha, V444_at, ha.f1, zero_sub]
  rfl

theorem P2_1 (i : Fin 128) (l : Fin 512) : @Eq EReal (P2 m c 1 (ix3 0 i l)) (partF a (sh c 1) i l c) := by
  unfold P2 V582 V584 V586 V588
  pointwise [k0_pay66, k0_pay65, k0_pay64, k0_pay63, k0_pay62, k0_pay61]
  simp only [pl_sub3, sel3_at m c ha, sel4_at m c ha, X1_at m (sh c 1) ha, V447_at m c ha, V445_at m c ha, zero_sub]
  rfl

theorem P2_2 (i : Fin 128) (l : Fin 512) : @Eq EReal (P2 m c 2 (ix3 0 i l)) (partF a (sh c 2) i l c) := by
  unfold P2 V662 pl2
  pointwise [k0_pay68, k0_pay67]
  simp only [pl_sub2, sel3_at m c ha, sel4_at m c ha, X1_at m (sh c 2) ha, V447_at m c ha, V445_at m c ha, zero_sub]
  rfl

theorem P2_3 (i : Fin 128) (l : Fin 512) : @Eq EReal (P2 m c 3 (ix3 0 i l)) (partF a (sh c 3) i l c) := by
  unfold P2 V502 V504 V506 V510 V517
  pointwise [k0_pay60, k0_pay59, k0_pay58, k0_pay57, k0_pay56, k0_pay55]
  simp only [pl_sub1, sel3_at m c ha, sel4_at m c ha, X1_at m (sh c 3) ha, V447_at m c ha, V445_at m c ha, zero_sub]
  rfl

end Cert.KProof

end
-- ==== Proof.KVals4.lean ====
/- The result's rows and the whole result of every device, read at an index. -/
module

public import proofs.«01_k».proof.Proof.KVals3
public import proofs.«01_k».proof.Proof.Regions

@[expose] public section

set_option maxRecDepth 16384

noncomputable section

namespace Cert.KProof

open Cert.KernelIdeal Cert.KernelIdeal.Gen Cert.Spec
open Idealize.ShloMosaic Idealize.ShloMosaic.TcCoe
open scoped BigOperators

variable (m : (ℓ : Loc nD τ sig) → Buf (Elt Ideal) ℓ) (c : Dev nD)

theorem sh_back (j : Fin 3) : sh (sh c (3 - j.val)) (j.val + 1) = c := by
  revert c j; decide

theorem halfOf_at (w : Vec Ideal S1x128x512 .bf16) (h : Fin 2) (i : Fin 128) (l : Fin 256) (n : ℕ) (hn : n < 512)
    (e : n = 256 * h.val + l.val) : halfOf w h (ix3 0 i l) = w (ix3 0 i ⟨n, hn⟩) := by
  refine congrArg w (ix3_of _ _ _ _ (by rfl) ?_ ?_)
  · show 0 + 1 * i.val = i.val; omega
  · show 256 * h.val + 1 * l.val = n; omega

theorem sum_F (a : Arrs) (i : Fin 128) (l : Fin 512) :
    partF a c i l c + partF a c i l (sh c 3) + partF a c i l (sh c 2) + partF a c i l (sh c 1)
      = ∑ n : Fin 2048, ffT a (bt c) (row c i) l n :=
  sum_from (N := 512) (fun n => ffT a (bt c) (row c i) l n) c (partF a c i l) fun _ => rfl

variable {a : Arrs} (ha : Agree m a)
include ha

theorem R2_at (j : Fin 3) (h : Fin 2) (i : Fin 128) (l : Fin 256) (n : ℕ) (hn : n < 512) (e : n = 256 * h.val + l.val) :
    @Eq EReal (R2 m c j h (ix3 0 i l)) (partF a c i ⟨n, hn⟩ (sh c (3 - j.val))) := by
  unfold R2
  rw [halfOf_at _ h i l n hn e]
  have hb := sh_back c j
  match j with
  | 0 => exact (P2_1 m (sh c 3) ha i _).trans (congrArg (fun q => partF a q i ⟨n, hn⟩ (sh c 3)) hb)
  | 1 => exact (P2_2 m (sh c 2) ha i _).trans (congrArg (fun q => partF a q i ⟨n, hn⟩ (sh c 2)) hb)
  | 2 => exact (P2_3 m (sh c 1) ha i _).trans (congrArg (fun q => partF a q i ⟨n, hn⟩ (sh c 1)) hb)

theorem V771_at (i : Fin 128) (l : Fin 256) (n : ℕ) (hn : n < 512) (e : n = l.val) :
    @Eq EReal (V771 m c (ix2 i l)) (res a (bt c) (row c i) ⟨n, hn⟩) := by
  subst e
  have r0 := R2_at m c ha 0 0 i l l.val hn (by simp)
  have r1 := R2_at m c ha 1 0 i l l.val hn (by simp)
  have r2 := R2_at m c ha 2 0 i l l.val hn (by simp)
  unfold V771 V769 V765 V764
  pointwise [k0_pay69, k0_pay70, k0_pay71, k0_pay72]
  rw [r0, r1, r2, V398_at m c ha, V487_at m c ha, sel5_at m c ha]
  exact congrArg (fun z => x1 a (bt c) (row c i) ⟨l.val, hn⟩ + md a 5 (bt c) ⟨l.val, hn⟩ * z) (sum_F c a i ⟨l.val, hn⟩)

theorem V856_at (i : Fin 128) (l : Fin 256) (n : ℕ) (hn : n < 512) (e : n = 256 + l.val) :
    @Eq EReal (V856 m c (ix2 i l)) (res a (bt c) (row c i) ⟨n, hn⟩) := by
  subst e
  have r0 := R2_at m c ha 0 1 i l (256 + l.val) hn (by simp)
  have r1 := R2_at m c ha 1 1 i l (256 + l.val) hn (by simp)
  have r2 := R2_at m c ha 2 1 i l (256 + l.val) hn (by simp)
  unfold V856
  pointwise [k0_pay74]
  rw [r0, r1, r2, V398_at m c ha, V487_at m c ha, sel5_at m c ha]
  exact congrArg (fun z => x1 a (bt c) (row c i) ⟨256 + l.val, hn⟩ + md a 5 (bt c) ⟨256 + l.val, hn⟩ * z)
    (sum_F c a i ⟨256 + l.val, hn⟩)

omit ha in
theorem RD0_at (i : Fin 128) (l : Fin 256) : @Eq EReal (RD m c 0 (ix3 0 i l)) (V771 m c (ix2 i l)) := by
  unfold RD V771
  pointwise [k0_pay73]

omit ha in
theorem RD1_at (i : Fin 128) (l : Fin 256) : @Eq EReal (RD m c 1 (ix3 0 i l)) (V856 m c (ix2 i l)) := by
  unfold RD V856
  pointwise [k0_pay75]

theorem RW_at (i : Fin 128) (l : Fin 512) : @Eq EReal (RW m c (ix3 0 i l)) (res a (bt c) (row c i) l) := by
  have hl := l.isLt
  unfold RW joinH
  split
  · rename_i h
    exact (congrArg (RD m c 0) (ix3_of _ 0 i ⟨l.val, h⟩ rfl rfl rfl)).trans
      ((RD0_at m c i ⟨l.val, h⟩).trans (V771_at m c ha i ⟨l.val, h⟩ l.val hl rfl))
  · rename_i h
    have h' : ¬ l.val < 256 := h
    exact (congrArg (RD m c 1) (ix3_of _ 0 i ⟨l.val - 256, by omega⟩ rfl rfl rfl)).trans
      ((RD1_at m c i ⟨l.val - 256, by omega⟩).trans (V856_at m c ha i ⟨l.val - 256, by omega⟩ l.val hl (by simp; omega)))

theorem outRow_at (q : Fin 4) (i : Fin 128) (l : Fin 512) :
    @Eq EReal (outRow m c q (ix3 0 i l)) (res a (bt q) (row q i) l) := by
  unfold outRow
  split
  · rename_i h
    subst h
    pointwise [k0_pay76]
    split
    · exact V771_at m q ha i _ _ _ rfl
    · rename_i h
      exact V856_at m q ha i _ _ _ (by simp; omega)
  · refine Eq.trans ?_ (RW_at m q ha i l)
    pointwise [k0_pay77]

theorem outF_at (b : Fin 2) (i : Fin 256) (l : Fin 512) : @Eq EReal (outF m c (ix3 b i l)) (res a b i l) := by
  have hb := b.isLt
  have hi := i.isLt
  have h := congrFun (outF_row m c ⟨2 * b.val + i.val / 128, by omega⟩) (ix3 0 ⟨i.val % 128, by omega⟩ l)
  have e : (oRect ⟨2 * b.val + i.val / 128, by omega⟩).emb (ix3 0 ⟨i.val % 128, by omega⟩ l) = ix3 b i l := by
    refine ix3_of _ _ _ _ ?_ ?_ ?_
    · show (2 * b.val + i.val / 128) / 2 + 1 * 0 = b.val; omega
    · show (2 * b.val + i.val / 128) % 2 * 128 + 1 * (i.val % 128) = i.val; omega
    · show 0 + 1 * l.val = l.val; omega
  have h2 : outF m c (ix3 b i l) = _ := (congrArg (outF m c) e).symm.trans h
  refine h2.trans ((outRow_at m c ha _ _ l).trans ?_)
  rw [show bt ⟨2 * b.val + i.val / 128, by omega⟩ = b from Fin.ext (by show (2 * b.val + i.val / 128) / 2 = b.val; omega),
    show row ⟨2 * b.val + i.val / 128, by omega⟩ ⟨i.val % 128, by omega⟩ = i from
      Fin.ext (by show (2 * b.val + i.val / 128) % 2 * 128 + i.val % 128 = i.val; omega)]

end Cert.KProof

end
-- ==== Proof.RefVals.lean ====
/- The reference's named terms, read at an index. -/
module

public import proofs.«01_k».proof.Proof.Gen.ReferenceIdeal
public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.RProof

open Cert.ReferenceIdeal Cert.ReferenceIdeal.Gen Cert.ReferenceIdeal.Value Cert.Spec
open Idealize.ShloMosaic Idealize.ShloMosaic.TcCoe Idealize.ShloMosaic.StableHlo
open scoped BigOperators

variable (V : Valuation τ sig (Elt Ideal))

abbrev B0 : FVec Ideal S2x256x512 .f32 := V (Proc.devRef .tc main_arg0)
abbrev B1 : FVec Ideal S512x1024 .f32 := V (Proc.devRef .tc main_arg1)
abbrev B2 : FVec Ideal S512x1024 .f32 := V (Proc.devRef .tc main_arg2)
abbrev B3 : FVec Ideal S512x1024 .f32 := V (Proc.devRef .tc main_arg3)
abbrev B4 : FVec Ideal S1024x512 .f32 := V (Proc.devRef .tc main_arg4)
abbrev B5 : FVec Ideal S2x128 .f32 := V (Proc.devRef .tc main_arg5)
abbrev B6 : FVec Ideal S128x3072 .f32 := V (Proc.devRef .tc main_arg6)
abbrev B7 : FVec Ideal S512x2048 .f32 := V (Proc.devRef .tc main_arg7)
abbrev B8 : FVec Ideal S2048x512 .f32 := V (Proc.devRef .tc main_arg8)

/-- The reference's arrays. -/
def arrs : Arrs where
  x b i k := B0 V (ix3 b i k)
  wq k n := B1 V (ix2 k n)
  wk k n := B2 V (ix2 k n)
  wv k n := B3 V (ix2 k n)
  wo n l := B4 V (ix2 n l)
  te b t := B5 V (ix2 b t)
  wm t n := B6 V (ix2 t n)
  f1 k n := B7 V (ix2 k n)
  f2 n l := B8 V (ix2 n l)

theorem v0_at (b : Fin 2) (s : Fin 6) (k : Fin 512) (n : ℕ) (h : n < 3072) (e : n = 512 * s.val + k.val) :
    @Eq EReal (res_main_v0 V (ix2 b ⟨n, h⟩)) (md (arrs V) s b k) := by
  subst e
  unfold res_main_v0
  clean_types
  pointwise
  rfl

theorem v8_eq : Ideal.ofBits FTy.f32 0x44000000#32 - FloatOps.sitofp (F := Ideal) FTy.f32 0#32 = width := by
  have : FloatOps.sitofp (F := Ideal) FTy.f32 0#32 = (0 : EReal) := by
    show (((0#32 : BitVec 32).toInt : ℝ) : EReal) = 0
    simp
  rw [this, sub_zero]

theorem call0_v8_at (j : S_.Idx) : @Eq EReal (res_main_call0_v8 V j) width := by
  unfold res_main_call0_v8
  clean_types
  pointwise
  exact v8_eq

theorem call1_v8_at (j : S_.Idx) : @Eq EReal (res_main_call1_v8 V j) width := by
  unfold res_main_call1_v8
  clean_types
  pointwise
  exact v8_eq

theorem width_pos : 0 < width := by rw [width_eq]; norm_num

theorem call0_v5_at (b : Fin 2) (i : Fin 256) (k : Fin 512) :
    @Eq EReal (res_main_call0_v5 V (ix3 b i k)) ((arrs V).x b i k - mean ((arrs V).x b i)) := by
  unfold res_main_call0_v5
  clean_types
  pointwise
  rfl

theorem v26_at (b : Fin 2) (i : Fin 256) (k : Fin 512) :
    @Eq EReal (res_main_v26 V (ix3 b i k)) (xm (arrs V) b i k) := by
  unfold res_main_v26
  clean_types
  pointwise
  rw [v0_at V b 0 k _ _ (by simp), v0_at V b 1 k _ _ (by simp)]
  simp only [call0_v8_at, call0_v5_at, if_pos width_pos]
  exact congrArg (· * (1 + md (arrs V) 0 b k) + md (arrs V) 1 b k) (norm_eq ((arrs V).x b i) k)

theorem v38_at (b : Fin 2) (h : Fin 16) (i j : Fin 256) :
    @Eq EReal (res_main_v38 V (ix4 b h i j)) (score (arrs V) b h i j) := by
  unfold res_main_v38
  clean_types
  pointwise
  simp only [v26_at]
  rfl

theorem v34_at (b : Fin 2) (h : Fin 16) (i : Fin 256) :
    @Eq EReal (res_main_v34 V (ix4 b h i 0)) ⊥ := by
  unfold res_main_v34
  clean_types
  pointwise
  exact low_eq

/-- The greatest score of each row, from minus infinity on. -/
def rowMax (x : FVec Ideal S2x16x256x256 .f32) : FVec Ideal S2x16x256 .f32 :=
  Host.reduce FloatOps.maximumf x (constant S_ .f32 0xFF800000#32) reducesTo_S2x16x256x256_S2x16x256_d3 h_S_

theorem rowMax_at (x : FVec Ideal S2x16x256x256 .f32) (b : Fin 2) (h : Fin 16) (i : Fin 256) :
    @Eq EReal (rowMax x (ix3 b h i)) (Finset.univ.fold max low fun j => (x (ix4 b h i j) : EReal)) := by
  unfold rowMax
  pointwise

theorem bcast_at (y : FVec Ideal S2x16x256 .f32) (b : Fin 2) (h : Fin 16) (i : Fin 256) :
    broadcastInDim S2x16x256x1 ![0, 1, 2] bcast_S2x16x256_S2x16x256x1_0_1_2 y (ix4 b h i 0) = y (ix3 b h i) := by
  pointwise

theorem v41_eq : (res_main_v41 V : FVec Ideal S2x16x256x1 .f32) =
    maximumf (res_main_v34 V : FVec Ideal S2x16x256x1 .f32)
      (broadcastInDim S2x16x256x1 ![0, 1, 2] bcast_S2x16x256_S2x16x256x1_0_1_2 (rowMax (res_main_v38 V))) := rfl

theorem max_at (x y : FVec Ideal S2x16x256x1 .f32) (j : S2x16x256x1.Idx) : @Eq EReal (maximumf x y j) (max (x j : EReal) (y j)) := by
  pointwise

theorem v41_of (b : Fin 2) (h : Fin 16) (i : Fin 256) :
    @Eq EReal (res_main_v41 V (ix4 b h i 0)) (rowMax (res_main_v38 V) (ix3 b h i)) := by
  rw [v41_eq, max_at, v34_at, bcast_at, max_eq_right bot_le]

theorem top_of (b : Fin 2) (h : Fin 16) (i : Fin 256) (x : FVec Ideal S2x16x256x256 .f32)
    (hx : ∀ j, x (ix4 b h i j) = score (arrs V) b h i j) : @Eq EReal (rowMax x (ix3 b h i)) (top (arrs V) b h i) := by
  rw [rowMax_at]
  simp only [hx]
  rfl

theorem v41_at (b : Fin 2) (h : Fin 16) (i : Fin 256) :
    @Eq EReal (res_main_v41 V (ix4 b h i 0)) (top (arrs V) b h i) :=
  (v41_of V b h i).trans (top_of V b h i _ (v38_at V b h i))

theorem v43_at (b : Fin 2) (h : Fin 16) (i : Fin 256) :
    @Eq EReal (res_main_v43 V (ix4 b h i 0)) 0 := by
  unfold res_main_v43
  clean_types
  pointwise
  rw [v34_at]
  rw [EReal.bot_sub]
  rfl

theorem v46_at (b : Fin 2) (h : Fin 16) (i j : Fin 256) :
    @Eq EReal (res_main_v46 V (ix4 b h i j)) (wt (arrs V) b h i j) := by
  unfold res_main_v46
  clean_types
  pointwise
  rw [v38_at, v41_at]
  rfl

theorem v65_at (b : Fin 2) (i : Fin 256) (l : Fin 512) :
    @Eq EReal (res_main_v65 V (ix3 b i l)) (x1 (arrs V) b i l) := by
  unfold res_main_v65
  clean_types
  pointwise
  rw [v0_at V b 2 l _ _ (by simp)]
  simp only [v26_at, v46_at, v43_at, mul_zero, zero_add]
  refine congrArg (fun z => (arrs V).x b i l + md (arrs V) 2 b l * z) (Finset.sum_congr rfl fun n _ => ?_)
  refine congrArg (fun z => Ideal.div z _ * _) (Finset.sum_congr rfl fun j _ => ?_)
  exact mul_comm _ _

theorem call1_v5_at (b : Fin 2) (i : Fin 256) (k : Fin 512) :
    @Eq EReal (res_main_call1_v5 V (ix3 b i k)) (x1 (arrs V) b i k - mean (x1 (arrs V) b i)) := by
  unfold res_main_call1_v5
  clean_types
  pointwise
  simp only [v65_at]
  rfl

theorem v86_at (b : Fin 2) (i : Fin 256) (n : Fin 2048) :
    @Eq EReal (res_main_v86 V (ix3 b i n)) (hid (arrs V) b i n) := by
  unfold res_main_v86
  clean_types
  pointwise
  refine Finset.sum_congr rfl fun k _ => congrArg (· * (arrs V).f1 k n) ?_
  rw [v0_at V b 3 k _ _ (by simp), v0_at V b 4 k _ _ (by simp)]
  simp only [call1_v8_at, call1_v5_at, v65_at, if_pos width_pos]
  exact congrArg (· * (1 + md (arrs V) 3 b k) + md (arrs V) 4 b k) (norm_eq (x1 (arrs V) b i) k)

/-- The reference's result, as its run gives it. -/
def result : FVec Ideal S2x256x512 .f32 :=
  addf (res_main_v65 V) (mulf (broadcastInDim S2x256x512 ![0, 1, 2] bcast_S2x1x512_S2x256x512_0_1_2 (broadcastInDim S2x1x512 ![0, 2] bcast_S2x512_S2x1x512_0_2 (extractStridedSlice S2x512 ![0, 2560] (res_main_v0 V) slices_S2x3072_S2x512_0_2560))) (Host.dotGeneral dot_S2x256x2048_S2048x512_S2x256x512_2_0_01_1_n_n none (Host.divf (res_main_v86 V) (addf (broadcastInDim S2x256x2048 ![] bcast_S_S2x256x2048 (constant S_ .f32 0x3F800000#32)) (Host.exp (Host.negf (res_main_v86 V))))) (B8 V)))

theorem result_at (b : Fin 2) (i : Fin 256) (l : Fin 512) : @Eq EReal (result V (ix3 b i l)) (res (arrs V) b i l) := by
  unfold result
  clean_types
  pointwise
  rw [v0_at V b 5 l _ _ (by simp)]
  simp only [v65_at, v86_at]
  rfl

end Cert.RProof

end
-- ==== Proof.Algebraic.lean ====
/- The ideal kernel's result is the ideal reference's, on every device. -/
module

public import proofs.«01_k».proof.Defs
public import proofs.«01_k».proof.Proof.KVals4
public import proofs.«01_k».proof.Proof.RefVals
public import proofs.«01_k».proof.Proof.Run
public import Idealize.ShloMosaic.Lib.LayoutAt
public import Idealize.ShloMosaic.Lib.Pipeline.ValueKit

@[expose] public section

set_option maxRecDepth 16384

noncomputable section

namespace Cert.KProof

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg) (c : Dev nD)

/-- The one window's one block is the whole result array. -/
theorem finalA_eq : finalA m ρ c 0 = outF m c := by
  unfold finalA
  refine (dats m ρ 0 c).arrAt_eq_of_after_last 0 t0_0 (by decide +kernel) _ fun j => ?_
  blk_simp
  rfl

/-- A column of a device's quarter, cut along the columns. -/
theorem block_col {p q Q : ℕ} {α : Type} (c : Fin 4) (v : (⟨2, ![p, Q]⟩ : Shape).Idx → α)
    (h : Layout.Tiles ⟨2, ![p, q]⟩ ⟨2, ![p, Q]⟩ 1 4) (k : Fin p) (n : Fin q) (n' : Fin Q) (e : n'.val = q * c.val + n.val) :
    Layout.block ⟨2, ![p, q]⟩ ⟨2, ![p, Q]⟩ 1 4 c v h (ix2 k n) = v (ix2 k n') := by
  refine congrArg v (ix2_of _ _ _ rfl ?_)
  show c.val * q + n.val = n'.val
  rw [e, Nat.mul_comm]

/-- A row of a device's quarter, cut along the rows. -/
theorem block_row {p q P : ℕ} {α : Type} (c : Fin 4) (v : (⟨2, ![P, q]⟩ : Shape).Idx → α)
    (h : Layout.Tiles ⟨2, ![p, q]⟩ ⟨2, ![P, q]⟩ 0 4) (n : Fin p) (l : Fin q) (n' : Fin P) (e : n'.val = p * c.val + n.val) :
    Layout.block ⟨2, ![p, q]⟩ ⟨2, ![P, q]⟩ 0 4 c v h (ix2 n l) = v (ix2 n' l) := by
  refine congrArg v (ix2_of _ _ _ ?_ rfl)
  show c.val * p + n.val = n'.val
  rw [e, Nat.mul_comm]

end Cert.KProof

namespace Cert.Proof

open Idealize.ShloMosaic Idealize.ShloMosaic.TcCoe Idealize.SL.Sem
open Cert.KProof Cert.RProof Cert.Spec

theorem algebraic : Cert.algebraic_KernelIdeal_ReferenceIdeal := by
  intro m g m' g' _ hag
  have ha : Agree m (arrs (StableHlo.launchContents m' 0)) :=
    { x := fun c b i k => congrFun (hag c).1 _
      wq := fun c k n => (congrFun (hag c).2.1 _).trans (block_col c _ _ k n _ rfl)
      wk := fun c k n => (congrFun (hag c).2.2.1 _).trans (block_col c _ _ k n _ rfl)
      wv := fun c k n => (congrFun (hag c).2.2.2.1 _).trans (block_col c _ _ k n _ rfl)
      wo := fun c n l => (congrFun (hag c).2.2.2.2.1 _).trans (block_row c _ _ n l _ rfl)
      te := fun c b t => congrFun (hag c).2.2.2.2.2.1 _
      wm := fun c t n => congrFun (hag c).2.2.2.2.2.2.1 _
      f1 := fun c k n => (congrFun (hag c).2.2.2.2.2.2.2.1 _).trans (block_col c _ _ k n _ rfl)
      f2 := fun c n l => (congrFun (hag c).2.2.2.2.2.2.2.2 _).trans (block_row c _ _ n l _ rfl) }
  have hout : ∀ c, outF m c = result (StableHlo.launchContents m' 0) := fun c => funext fun j => by
    rw [eq_ix3 j]
    exact (outF_at m c ha _ _ _).trans (result_at _ _ _ _).symm
  refine ⟨result (StableHlo.launchContents m' 0), ?_, ?_⟩
  · exact (θ_run Cert.KernelIdeal.defs _ _).mono
      (fun _ h c => ⟨(h.1 c).1.trans ((finalA_eq m g c).trans (hout c)), (h.1 c).2⟩) (Cert.KProof.run_main (F := Ideal) m g)
  · exact (θ_run Cert.ReferenceIdeal.defs _ _).mono (fun _ h => h 0) (Cert.ReferenceIdeal.Value.run (F := Ideal) m' g')

end Cert.Proof

end
-- ==== Proof.lean ====
/- The claims about the kernel, its ideal and the ideal reference. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run
public import proofs.«01_k».proof.Proof.Algebraic

@[expose] public section

noncomputable section

namespace Cert.Proof

open Idealize.ShloMosaic Idealize.SL.Sem

/-- The run of the ideal kernel, read at its arguments and counters. -/
theorem frame_KernelIdeal : Cert.quiescent_KernelIdeal := fun m ρ _ =>
  (θ_run Cert.KernelIdeal.defs _ _).mono (fun _ h => ⟨fun c => (h.1 c).2, h.2⟩) (Cert.KProof.run_main (F := Ideal) m ρ)

/-- At any float values a run ends with the arguments and counters as they were. -/
theorem kept {F : FTy → Type} [FloatOps F] (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c : Dev Cert.KernelIdeal.nD, Cert.KProof.Kept m c r.2) ∧ r.2.sem = fun _ => 0) :=
  (θ_run Cert.KernelIdeal.defs _ _).mono (fun _ h => ⟨fun c => (h.1 c).2, h.2⟩) (Cert.KProof.run_main m ρ)

/-- The two programs' body tables are the same. -/
theorem bodies_same {F : FTy → Type} [FloatOps F] : Cert.Kernel.defs₀ (F := F) = Cert.KernelIdeal.defs₀ (F := F) := by
  unfold Cert.Kernel.defs₀ Cert.KernelIdeal.defs₀
  congr 1
  funext ⟨l, hl⟩ a
  match l, hl, a with
  | 0, _, (t, s) => rfl
theorem defs_same {F : FTy → Type} [FloatOps F] : Cert.Kernel.defs (F := F) = Cert.KernelIdeal.defs (F := F) := congrArg (Pipeline.defs _) bodies_same

/-- The kernel's program is the ideal kernel's, read at words. -/
theorem frame_Kernel : Cert.quiescent_Kernel := fun m ρ _ => by
  have h := kept (F := Bits) m ρ
  rw [← defs_same] at h
  exact h

/-- The reference's run, which touches no semaphore. -/
theorem frame_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
